-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_v31) = v1 c
          ∧ r.2.mem ((c.tc : Thread Cert.Reference2Ideal.nD Cert.Reference2Ideal.τ).loc Cert.Reference2Ideal.main_v32) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_v41) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal) (hPre_in_range := hPre_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_in_range.lean ====
abbrev S2x16x1024 : Shape := ⟨3, ![2, 16, 1024]⟩
abbrev S8192x1024 : Shape := ⟨2, ![8192, 1024]⟩
abbrev S4x16x1024x1408 : Shape := ⟨4, ![4, 16, 1024, 1408]⟩
abbrev S4x16x1408x1024 : Shape := ⟨4, ![4, 16, 1408, 1024]⟩
abbrev S_ : Shape := ⟨0, ![]⟩

class Facts : Prop where
  bcast_S_S2x16x1024 : S_.BroadcastsInDim S2x16x1024 (![] : Fin 0 → Fin S2x16x1024.rank)
  reducesTo_S2x16x1024_S_d0_1_2 : S2x16x1024.ReducesTo [0, 1, 2] S_
  h_S_ : 0 < S_.numel

variable [Facts]

def fn {F : FTy → Type} [FloatOps F] (main_arg0 : IVec S2x16x1024 32) (main_arg1 : FVec F S2x16x1024 .f32) (main_arg2 : FVec F S8192x1024 .f32) (main_arg3 : FVec F S8192x1024 .f32) (main_arg4 : FVec F S4x16x1024x1408 .f32) (main_arg5 : FVec F S4x16x1024x1408 .f32) (main_arg6 : FVec F S4x16x1408x1024 .f32) : IVec S_ 1 :=
  let main_c : IVec S_ 32 := constantI S_ 32 0#32
  let main_v0 : IVec S2x16x1024 32 := broadcastInDim S2x16x1024 ![] bcast_S_S2x16x1024 main_c
  let main_v1 : IVec S2x16x1024 1 := cmpi .sge main_arg0 main_v0
  let main_c_0 : IVec S_ 32 := constantI S_ 32 8192#32
  let main_v2 : IVec S2x16x1024 32 := broadcastInDim S2x16x1024 ![] bcast_S_S2x16x1024 main_c_0
  let main_v3 : IVec S2x16x1024 1 := cmpi .slt main_arg0 main_v2
  let main_v4 : IVec S2x16x1024 1 := andi main_v1 main_v3
  let main_c_1 : IVec S_ 1 := constantI S_ 1 1#1
  let main_v5 : IVec S_ 1 := (fun x v => Host.reduce IntOp.andi x v reducesTo_S2x16x1024_S_d0_1_2 h_S_) main_v4 main_c_1
  main_v5
-- ==== Kernel.lean ====
abbrev S2x16x1024 : Shape := ⟨3, ![2, 16, 1024]⟩
abbrev S8192x1024 : Shape := ⟨2, ![8192, 1024]⟩
abbrev S4x16x1024x1408 : Shape := ⟨4, ![4, 16, 1024, 1408]⟩
abbrev S4x16x1408x1024 : Shape := ⟨4, ![4, 16, 1408, 1024]⟩
abbrev S2x16x1024x1 : Shape := ⟨4, ![2, 16, 1024, 1]⟩
abbrev S2x16x1024x128 : Shape := ⟨4, ![2, 16, 1024, 128]⟩
abbrev S32768 : Shape := ⟨1, ![32768]⟩
abbrev S2x16x1024x1024 : Shape := ⟨4, ![2, 16, 1024, 1024]⟩
abbrev S1x1x1024x1408 : Shape := ⟨4, ![1, 1, 1024, 1408]⟩
abbrev S1x1x1408x1024 : Shape := ⟨4, ![1, 1, 1408, 1024]⟩
abbrev S1x1x1024x128 : Shape := ⟨4, ![1, 1, 1024, 128]⟩
abbrev S1x1x1024x1024 : Shape := ⟨4, ![1, 1, 1024, 1024]⟩
abbrev S2x128x8x1024 : Shape := ⟨4, ![2, 128, 8, 1024]⟩
abbrev S2 : Shape := ⟨1, ![2]⟩
abbrev S1 : Shape := ⟨1, ![1]⟩
abbrev S_ : Shape := ⟨0, ![]⟩
abbrev S1x1x1x1024 : Shape := ⟨4, ![1, 1, 1, 1024]⟩
abbrev S1x1024 : Shape := ⟨2, ![1, 1024]⟩
abbrev S1x1x8x1024 : Shape := ⟨4, ![1, 1, 8, 1024]⟩
abbrev S8x1024 : Shape := ⟨2, ![8, 1024]⟩
abbrev S1x64x8x1024 : Shape := ⟨4, ![1, 64, 8, 1024]⟩
abbrev S64x8x1024 : Shape := ⟨3, ![64, 8, 1024]⟩
abbrev S512x1024 : Shape := ⟨2, ![512, 1024]⟩
abbrev S1024x1408 : Shape := ⟨2, ![1024, 1408]⟩
abbrev S512x1408 : Shape := ⟨2, ![512, 1408]⟩
abbrev S1408x1024 : Shape := ⟨2, ![1408, 1024]⟩
abbrev S1x1x512x128 : Shape := ⟨4, ![1, 1, 512, 128]⟩
abbrev S512x128 : Shape := ⟨2, ![512, 128]⟩

abbrev nBuf : Space → Nat
  | .hbm => 13
  | .vmem => 11
  | .smem => 1
  | _ => 0

abbrev bufTy : (tb : Table) → Fin (tcTables nBuf tb) → BufTy
  | .hbm, ⟨0, _⟩ => ⟨S2x16x1024, .i32⟩
  | .hbm, ⟨1, _⟩ => ⟨S2x16x1024, .f32⟩
  | .hbm, ⟨2, _⟩ => ⟨S8192x1024, .f32⟩
  | .hbm, ⟨3, _⟩ => ⟨S8192x1024, .f32⟩
  | .hbm, ⟨4, _⟩ => ⟨S4x16x1024x1408, .f32⟩
  | .hbm, ⟨5, _⟩ => ⟨S4x16x1024x1408, .f32⟩
  | .hbm, ⟨6, _⟩ => ⟨S4x16x1408x1024, .f32⟩
  | .hbm, ⟨7, _⟩ => ⟨S4x16x1024x1408, .bf16⟩
  | .hbm, ⟨8, _⟩ => ⟨S4x16x1024x1408, .bf16⟩
  | .hbm, ⟨9, _⟩ => ⟨S4x16x1408x1024, .bf16⟩
  | .hbm, ⟨10, _⟩ => ⟨S2x16x1024x1, .f32⟩
  | .hbm, ⟨11, _⟩ => ⟨S2x16x1024x128, .f32⟩
  | .hbm, ⟨12, _⟩ => ⟨S2x16x1024x1024, .bf16⟩
  | .local _ .vmem, ⟨0, _⟩ => ⟨S1x1x1024x1408, .bf16⟩
  | .local _ .vmem, ⟨1, _⟩ => ⟨S1x1x1024x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1x1x1408x1024, .bf16⟩
  | .local _ .vmem, ⟨5, _⟩ => ⟨S1x1x1408x1024, .bf16⟩
  | .local _ .vmem, ⟨6, _⟩ => ⟨S1x1x1024x128, .f32⟩
  | .local _ .vmem, ⟨7, _⟩ => ⟨S1x1x1024x128, .f32⟩
  | .local _ .vmem, ⟨8, _⟩ => ⟨S1x1x1024x1024, .bf16⟩
  | .local _ .vmem, ⟨9, _⟩ => ⟨S1x1x1024x1024, .bf16⟩
  | .local _ .vmem, ⟨10, _⟩ => ⟨S2x128x8x1024, .f32⟩
  | .local _ .smem, ⟨0, _⟩ => ⟨S32768, .i32⟩
  | _, _ => ⟨S2x16x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v6 : Ref sig .tc := ⟨.hbm, 12, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32_4 : BitVec 32 := 0#32
  let v12 : BitVec 1 := Scalar.cmpi .eq v1 c0_i32_4
  let v13 : BitVec 32 := Scalar.extui v12
  let c0_i32_5 : BitVec 32 := 0#32
  let v14 : BitVec 1 := Scalar.cmpi .ne v13 c0_i32_5
  v14

def k0_cond2 (i : grid0.Coords) : BitVec 1 :=
  let arg1 : BitVec 32 := BitVec.ofNat 32 (i 1).val
  let c0_i32_14 : BitVec 32 := 0#32
  let v24 : BitVec 1 := Scalar.cmpi .eq arg1 c0_i32_14
  let v25 : BitVec 32 := Scalar.extui v24
  let c0_i32_15 : BitVec 32 := 0#32
  let v26 : BitVec 1 := Scalar.cmpi .ne v25 c0_i32_15
  v26

@[reducible] def k0_t1_loop : Scf.Loop 32 :=
  let c0_i32_18 : BitVec 32 := 0#32
  let c128_i32_19 : BitVec 32 := 128#32
  let v30 : BitVec 32 := Scalar.addi c0_i32_18 c128_i32_19
  let c1_i32_20 : BitVec 32 := 1#32
  ⟨c0_i32_18, v30, c1_i32_20⟩
def k0_off1 (i : grid0.Coords) (k0_t1 : Fin k0_t1_loop.trips) : Fin 1 → Nat :=
  let arg1 : BitVec 32 := BitVec.ofNat 32 (i 1).val
  let c16_i32 : BitVec 32 := 16#32
  let v21 : BitVec 32 := Scalar.muli arg1 c16_i32
  let arg0 : BitVec 32 := BitVec.ofNat 32 (i 0).val
  let v22 : BitVec 32 := Scalar.addi v21 arg0
  let c1024_i32 : BitVec 32 := 1024#32
  let v23 : BitVec 32 := Scalar.muli v22 c1024_i32
  let c0_i32_18 : BitVec 32 := 0#32
  let c1_i32_20 : BitVec 32 := 1#32
  let arg12 : BitVec 32 := Scf.iv c0_i32_18 c1_i32_20 k0_t1
  let c8_i32 : BitVec 32 := 8#32
  let v31 : BitVec 32 := Scalar.muli arg12 c8_i32
  let v32 : BitVec 32 := Scalar.addi v23 v31
  let c0_i32_22 : BitVec 32 := 0#32
  let v33 : BitVec 32 := Scalar.addi v32 c0_i32_22
  let v34 : Index := Scalar.indexCast v33
  ![v34.toNat]
def k0_off2 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  ![v11.toNat]
def k0_off3 (i : grid0.Coords) (k0_t1 : Fin k0_t1_loop.trips) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_18 : BitVec 32 := 0#32
  let c1_i32_20 : BitVec 32 := 1#32
  let arg12 : BitVec 32 := Scf.iv c0_i32_18 c1_i32_20 k0_t1
  let c0_i32_23 : BitVec 32 := 0#32
  let c0_i32_24 : BitVec 32 := 0#32
  ![v11.toNat, arg12.toNat, 0, 0]
def k0_off4 (v35 : BitVec 32) : Fin 2 → Nat :=
  let c0_i32_25 : BitVec 32 := 0#32
  ![v35.toNat, 0]

def k0_chk1 (i : grid0.Coords) (v35 : BitVec 32) : Prop :=
  (∀ (k0_h1 : k0_cond1 i = 1#1), ∀ (k0_h2 : k0_cond2 i = 1#1), ∀ a, (k0_off4 v35) a + S1x1024.size a ≤ S8192x1024.size a)
theorem k0_off4_inb : ∀ (i : grid0.Coords) (v35 : BitVec 32) (k0_hw1 : k0_chk1 i v35), ∀ (k0_h1 : k0_cond1 i = 1#1), ∀ (k0_h2 : k0_cond2 i = 1#1), ∀ a, (k0_off4 v35) a + S1x1024.size a ≤ S8192x1024.size a := fun i v35 k0_hw1 k0_h1 k0_h2 => k0_hw1 k0_h1 k0_h2

def k0_off5 (i : grid0.Coords) (k0_t1 : Fin k0_t1_loop.trips) : Fin 1 → Nat :=
  let arg1 : BitVec 32 := BitVec.ofNat 32 (i 1).val
  let c16_i32 : BitVec 32 := 16#32
  let v21 : BitVec 32 := Scalar.muli arg1 c16_i32
  let arg0 : BitVec 32 := BitVec.ofNat 32 (i 0).val
  let v22 : BitVec 32 := Scalar.addi v21 arg0
  let c1024_i32 : BitVec 32 := 1024#32
  let v23 : BitVec 32 := Scalar.muli v22 c1024_i32
  let c0_i32_18 : BitVec 32 := 0#32
  let c1_i32_20 : BitVec 32 := 1#32
  let arg12 : BitVec 32 := Scf.iv c0_i32_18 c1_i32_20 k0_t1
  let c8_i32 : BitVec 32 := 8#32
  let v31 : BitVec 32 := Scalar.muli arg12 c8_i32
  let v41 : BitVec 32 := Scalar.addi v23 v31
  let c1_i32_26 : BitVec 32 := 1#32
  let v42 : BitVec 32 := Scalar.addi v41 c1_i32_26
  let v43 : Index := Scalar.indexCast v42
  ![v43.toNat]
def k0_off6 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  ![v11.toNat]
def k0_off7 (i : grid0.Coords) (k0_t1 : Fin k0_t1_loop.trips) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_18 : BitVec 32 := 0#32
  let c1_i32_20 : BitVec 32 := 1#32
  let arg12 : BitVec 32 := Scf.iv c0_i32_18 c1_i32_20 k0_t1
  let c1_i32_27 : BitVec 32 := 1#32
  let c0_i32_28 : BitVec 32 := 0#32
  ![v11.toNat, arg12.toNat, 1, 0]
def k0_off8 (v44 : BitVec 32) : Fin 2 → Nat :=
  let c0_i32_29 : BitVec 32 := 0#32
  ![v44.toNat, 0]

def k0_chk2 (i : grid0.Coords) (v44 : BitVec 32) : Prop :=
  (∀ (k0_h1 : k0_cond1 i = 1#1), ∀ (k0_h2 : k0_cond2 i = 1#1), ∀ a, (k0_off8 v44) a + S1x1024.size a ≤ S8192x1024.size a)
theorem k0_off8_inb : ∀ (i : grid0.Coords) (v44 : BitVec 32) (k0_hw2 : k0_chk2 i v44), ∀ (k0_h1 : k0_cond1 i = 1#1), ∀ (k0_h2 : k0_cond2 i = 1#1), ∀ a, (k0_off8 v44) a + S1x1024.size a ≤ S8192x1024.size a := fun i v44 k0_hw2 k0_h1 k0_h2 => k0_hw2 k0_h1 k0_h2

def k0_off9 (i : grid0.Coords) (k0_t1 : Fin k0_t1_loop.trips) : Fin 1 → Nat :=
  let arg1 : BitVec 32 := BitVec.ofNat 32 (i 1).val
  let c16_i32 : BitVec 32 := 16#32
  let v21 : BitVec 32 := Scalar.muli arg1 c16_i32
  let arg0 : BitVec 32 := BitVec.ofNat 32 (i 0).val
  let v22 : BitVec 32 := Scalar.addi v21 arg0
  let c1024_i32 : BitVec 32 := 1024#32
  let v23 : BitVec 32 := Scalar.muli v22 c1024_i32
  let c0_i32_18 : BitVec 32 := 0#32
  let c1_i32_20 : BitVec 32 := 1#32
  let arg12 : BitVec 32 := Scf.iv c0_i32_18 c1_i32_20 k0_t1
  let c8_i32 : BitVec 32 := 8#32
  let v31 : BitVec 32 := Scalar.muli arg12 c8_i32
  let v50 : BitVec 32 := Scalar.addi v23 v31
  let c2_i32_30 : BitVec 32 := 2#32
  let v51 : BitVec 32 := Scalar.addi v50 c2_i32_30
  let v52 : Index := Scalar.indexCast v51
  ![v52.toNat]
def k0_off10 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  ![v11.toNat]
def k0_off11 (i : grid0.Coords) (k0_t1 : Fin k0_t1_loop.trips) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_18 : BitVec 32 := 0#32
  let c1_i32_20 : BitVec 32 := 1#32
  let arg12 : BitVec 32 := Scf.iv c0_i32_18 c1_i32_20 k0_t1
  let c2_i32_31 : BitVec 32 := 2#32
  let c0_i32_32 : BitVec 32 := 0#32
  ![v11.toNat, arg12.toNat, 2, 0]
def k0_off12 (v53 : BitVec 32) : Fin 2 → Nat :=
  let c0_i32_33 : BitVec 32 := 0#32
  ![v53.toNat, 0]

def k0_chk3 (i : grid0.Coords) (v53 : BitVec 32) : Prop :=
  (∀ (k0_h1 : k0_cond1 i = 1#1), ∀ (k0_h2 : k0_cond2 i = 1#1), ∀ a, (k0_off12 v53) a + S1x1024.size a ≤ S8192x1024.size a)
theorem k0_off12_inb : ∀ (i : grid0.Coords) (v53 : BitVec 32) (k0_hw3 : k0_chk3 i v53), ∀ (k0_h1 : k0_cond1 i = 1#1), ∀ (k0_h2 : k0_cond2 i = 1#1), ∀ a, (k0_off12 v53) a + S1x1024.size a ≤ S8192x1024.size a := fun i v53 k0_hw3 k0_h1 k0_h2 => k0_hw3 k0_h1 k0_h2

def k0_off13 (i : grid0.Coords) (k0_t1 : Fin k0_t1_loop.trips) : Fin 1 → Nat :=
  let arg1 : BitVec 32 := BitVec.ofNat 32 (i 1).val
  let c16_i32 : BitVec 32 := 16#32
  let v21 : BitVec 32 := Scalar.muli arg1 c16_i32
  let arg0 : BitVec 32 := BitVec.ofNat 32 (i 0).val
  let v22 : BitVec 32 := Scalar.addi v21 arg0
  let c1024_i32 : BitVec 32 := 1024#32
  let v23 : BitVec 32 := Scalar.muli v22 c1024_i32
  let c0_i32_18 : BitVec 32 := 0#32
  let c1_i32_20 : BitVec 32 := 1#32
  let arg12 : BitVec 32 := Scf.iv c0_i32_18 c1_i32_20 k0_t1
  let c8_i32 : BitVec 32 := 8#32
  let v31 : BitVec 32 := Scalar.muli arg12 c8_i32
  let v59 : BitVec 32 := Scalar.addi v23 v31
  let c3_i32 : BitVec 32 := 3#32
  let v60 : BitVec 32 := Scalar.addi v59 c3_i32
  let v61 : Index := Scalar.indexCast v60
  ![v61.toNat]
def k0_off14 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  ![v11.toNat]
def k0_off15 (i : grid0.Coords) (k0_t1 : Fin k0_t1_loop.trips) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_18 : BitVec 32 := 0#32
  let c1_i32_20 : BitVec 32 := 1#32
  let arg12 : BitVec 32 := Scf.iv c0_i32_18 c1_i32_20 k0_t1
  let c3_i32_34 : BitVec 32 := 3#32
  let c0_i32_35 : BitVec 32 := 0#32
  ![v11.toNat, arg12.toNat, 3, 0]
def k0_off16 (v62 : BitVec 32) : Fin 2 → Nat :=
  let c0_i32_36 : BitVec 32 := 0#32
  ![v62.toNat, 0]

def k0_chk4 (i : grid0.Coords) (v62 : BitVec 32) : Prop :=
  (∀ (k0_h1 : k0_cond1 i = 1#1), ∀ (k0_h2 : k0_cond2 i = 1#1), ∀ a, (k0_off16 v62) a + S1x1024.size a ≤ S8192x1024.size a)
theorem k0_off16_inb : ∀ (i : grid0.Coords) (v62 : BitVec 32) (k0_hw4 : k0_chk4 i v62), ∀ (k0_h1 : k0_cond1 i = 1#1), ∀ (k0_h2 : k0_cond2 i = 1#1), ∀ a, (k0_off16 v62) a + S1x1024.size a ≤ S8192x1024.size a := fun i v62 k0_hw4 k0_h1 k0_h2 => k0_hw4 k0_h1 k0_h2

def k0_off17 (i : grid0.Coords) (k0_t1 : Fin k0_t1_loop.trips) : Fin 1 → Nat :=
  let arg1 : BitVec 32 := BitVec.ofNat 32 (i 1).val
  let c16_i32 : BitVec 32 := 16#32
  let v21 : BitVec 32 := Scalar.muli arg1 c16_i32
  let arg0 : BitVec 32 := BitVec.ofNat 32 (i 0).val
  let v22 : BitVec 32 := Scalar.addi v21 arg0
  let c1024_i32 : BitVec 32 := 1024#32
  let v23 : BitVec 32 := Scalar.muli v22 c1024_i32
  let c0_i32_18 : BitVec 32 := 0#32
  let c1_i32_20 : BitVec 32 := 1#32
  let arg12 : BitVec 32 := Scf.iv c0_i32_18 c1_i32_20 k0_t1
  let c8_i32 : BitVec 32 := 8#32
  let v31 : BitVec 32 := Scalar.muli arg12 c8_i32
  let v68 : BitVec 32 := Scalar.addi v23 v31
  let c4_i32 : BitVec 32 := 4#32
  let v69 : BitVec 32 := Scalar.addi v68 c4_i32
  let v70 : Index := Scalar.indexCast v69
  ![v70.toNat]
def k0_off18 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  ![v11.toNat]
def k0_off19 (i : grid0.Coords) (k0_t1 : Fin k0_t1_loop.trips) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_18 : BitVec 32 := 0#32
  let c1_i32_20 : BitVec 32 := 1#32
  let arg12 : BitVec 32 := Scf.iv c0_i32_18 c1_i32_20 k0_t1
  let c4_i32_37 : BitVec 32 := 4#32
  let c0_i32_38 : BitVec 32 := 0#32
  ![v11.toNat, arg12.toNat, 4, 0]
def k0_off20 (v71 : BitVec 32) : Fin 2 → Nat :=
  let c0_i32_39 : BitVec 32 := 0#32
  ![v71.toNat, 0]

def k0_chk5 (i : grid0.Coords) (v71 : BitVec 32) : Prop :=
  (∀ (k0_h1 : k0_cond1 i = 1#1), ∀ (k0_h2 : k0_cond2 i = 1#1), ∀ a, (k0_off20 v71) a + S1x1024.size a ≤ S8192x1024.size a)
theorem k0_off20_inb : ∀ (i : grid0.Coords) (v71 : BitVec 32) (k0_hw5 : k0_chk5 i v71), ∀ (k0_h1 : k0_cond1 i = 1#1), ∀ (k0_h2 : k0_cond2 i = 1#1), ∀ a, (k0_off20 v71) a + S1x1024.size a ≤ S8192x1024.size a := fun i v71 k0_hw5 k0_h1 k0_h2 => k0_hw5 k0_h1 k0_h2

def k0_off21 (i : grid0.Coords) (k0_t1 : Fin k0_t1_loop.trips) : Fin 1 → Nat :=
  let arg1 : BitVec 32 := BitVec.ofNat 32 (i 1).val
  let c16_i32 : BitVec 32 := 16#32
  let v21 : BitVec 32 := Scalar.muli arg1 c16_i32
  let arg0 : BitVec 32 := BitVec.ofNat 32 (i 0).val
  let v22 : BitVec 32 := Scalar.addi v21 arg0
  let c1024_i32 : BitVec 32 := 1024#32
  let v23 : BitVec 32 := Scalar.muli v22 c1024_i32
  let c0_i32_18 : BitVec 32 := 0#32
  let c1_i32_20 : BitVec 32 := 1#32
  let arg12 : BitVec 32 := Scf.iv c0_i32_18 c1_i32_20 k0_t1
  let c8_i32 : BitVec 32 := 8#32
  let v31 : BitVec 32 := Scalar.muli arg12 c8_i32
  let v77 : BitVec 32 := Scalar.addi v23 v31
  let c5_i32 : BitVec 32 := 5#32
  let v78 : BitVec 32 := Scalar.addi v77 c5_i32
  let v79 : Index := Scalar.indexCast v78
  ![v79.toNat]
def k0_off22 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  ![v11.toNat]
def k0_off23 (i : grid0.Coords) (k0_t1 : Fin k0_t1_loop.trips) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_18 : BitVec 32 := 0#32
  let c1_i32_20 : BitVec 32 := 1#32
  let arg12 : BitVec 32 := Scf.iv c0_i32_18 c1_i32_20 k0_t1
  let c5_i32_40 : BitVec 32 := 5#32
  let c0_i32_41 : BitVec 32 := 0#32
  ![v11.toNat, arg12.toNat, 5, 0]
def k0_off24 (v80 : BitVec 32) : Fin 2 → Nat :=
  let c0_i32_42 : BitVec 32 := 0#32
  ![v80.toNat, 0]

def k0_chk6 (i : grid0.Coords) (v80 : BitVec 32) : Prop :=
  (∀ (k0_h1 : k0_cond1 i = 1#1), ∀ (k0_h2 : k0_cond2 i = 1#1), ∀ a, (k0_off24 v80) a + S1x1024.size a ≤ S8192x1024.size a)
theorem k0_off24_inb : ∀ (i : grid0.Coords) (v80 : BitVec 32) (k0_hw6 : k0_chk6 i v80), ∀ (k0_h1 : k0_cond1 i = 1#1), ∀ (k0_h2 : k0_cond2 i = 1#1), ∀ a, (k0_off24 v80) a + S1x1024.size a ≤ S8192x1024.size a := fun i v80 k0_hw6 k0_h1 k0_h2 => k0_hw6 k0_h1 k0_h2

def k0_off25 (i : grid0.Coords) (k0_t1 : Fin k0_t1_loop.trips) : Fin 1 → Nat :=
  let arg1 : BitVec 32 := BitVec.ofNat 32 (i 1).val
  let c16_i32 : BitVec 32 := 16#32
  let v21 : BitVec 32 := Scalar.muli arg1 c16_i32
  let arg0 : BitVec 32 := BitVec.ofNat 32 (i 0).val
  let v22 : BitVec 32 := Scalar.addi v21 arg0
  let c1024_i32 : BitVec 32 := 1024#32
  let v23 : BitVec 32 := Scalar.muli v22 c1024_i32
  let c0_i32_18 : BitVec 32 := 0#32
  let c1_i32_20 : BitVec 32 := 1#32
  let arg12 : BitVec 32 := Scf.iv c0_i32_18 c1_i32_20 k0_t1
  let c8_i32 : BitVec 32 := 8#32
  let v31 : BitVec 32 := Scalar.muli arg12 c8_i32
  let v86 : BitVec 32 := Scalar.addi v23 v31
  let c6_i32 : BitVec 32 := 6#32
  let v87 : BitVec 32 := Scalar.addi v86 c6_i32
  let v88 : Index := Scalar.indexCast v87
  ![v88.toNat]
def k0_off26 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  ![v11.toNat]
def k0_off27 (i : grid0.Coords) (k0_t1 : Fin k0_t1_loop.trips) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_18 : BitVec 32 := 0#32
  let c1_i32_20 : BitVec 32 := 1#32
  let arg12 : BitVec 32 := Scf.iv c0_i32_18 c1_i32_20 k0_t1
  let c6_i32_43 : BitVec 32 := 6#32
  let c0_i32_44 : BitVec 32 := 0#32
  ![v11.toNat, arg12.toNat, 6, 0]
def k0_off28 (v89 : BitVec 32) : Fin 2 → Nat :=
  let c0_i32_45 : BitVec 32 := 0#32
  ![v89.toNat, 0]

def k0_chk7 (i : grid0.Coords) (v89 : BitVec 32) : Prop :=
  (∀ (k0_h1 : k0_cond1 i = 1#1), ∀ (k0_h2 : k0_cond2 i = 1#1), ∀ a, (k0_off28 v89) a + S1x1024.size a ≤ S8192x1024.size a)
theorem k0_off28_inb : ∀ (i : grid0.Coords) (v89 : BitVec 32) (k0_hw7 : k0_chk7 i v89), ∀ (k0_h1 : k0_cond1 i = 1#1), ∀ (k0_h2 : k0_cond2 i = 1#1), ∀ a, (k0_off28 v89) a + S1x1024.size a ≤ S8192x1024.size a := fun i v89 k0_hw7 k0_h1 k0_h2 => k0_hw7 k0_h1 k0_h2

def k0_off29 (i : grid0.Coords) (k0_t1 : Fin k0_t1_loop.trips) : Fin 1 → Nat :=
  let arg1 : BitVec 32 := BitVec.ofNat 32 (i 1).val
  let c16_i32 : BitVec 32 := 16#32
  let v21 : BitVec 32 := Scalar.muli arg1 c16_i32
  let arg0 : BitVec 32 := BitVec.ofNat 32 (i 0).val
  let v22 : BitVec 32 := Scalar.addi v21 arg0
  let c1024_i32 : BitVec 32 := 1024#32
  let v23 : BitVec 32 := Scalar.muli v22 c1024_i32
  let c0_i32_18 : BitVec 32 := 0#32
  let c1_i32_20 : BitVec 32 := 1#32
  let arg12 : BitVec 32 := Scf.iv c0_i32_18 c1_i32_20 k0_t1
  let c8_i32 : BitVec 32 := 8#32
  let v31 : BitVec 32 := Scalar.muli arg12 c8_i32
  let v95 : BitVec 32 := Scalar.addi v23 v31
  let c7_i32 : BitVec 32 := 7#32
  let v96 : BitVec 32 := Scalar.addi v95 c7_i32
  let v97 : Index := Scalar.indexCast v96
  ![v97.toNat]
def k0_off30 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  ![v11.toNat]
def k0_off31 (i : grid0.Coords) (k0_t1 : Fin k0_t1_loop.trips) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_18 : BitVec 32 := 0#32
  let c1_i32_20 : BitVec 32 := 1#32
  let arg12 : BitVec 32 := Scf.iv c0_i32_18 c1_i32_20 k0_t1
  let c7_i32_46 : BitVec 32 := 7#32
  let c0_i32_47 : BitVec 32 := 0#32
  ![v11.toNat, arg12.toNat, 7, 0]
def k0_off32 (v98 : BitVec 32) : Fin 2 → Nat :=
  let c0_i32_48 : BitVec 32 := 0#32
  ![v98.toNat, 0]

def k0_chk8 (i : grid0.Coords) (v98 : BitVec 32) : Prop :=
  (∀ (k0_h1 : k0_cond1 i = 1#1), ∀ (k0_h2 : k0_cond2 i = 1#1), ∀ a, (k0_off32 v98) a + S1x1024.size a ≤ S8192x1024.size a)
theorem k0_off32_inb : ∀ (i : grid0.Coords) (v98 : BitVec 32) (k0_hw8 : k0_chk8 i v98), ∀ (k0_h1 : k0_cond1 i = 1#1), ∀ (k0_h2 : k0_cond2 i = 1#1), ∀ a, (k0_off32 v98) a + S1x1024.size a ≤ S8192x1024.size a := fun i v98 k0_hw8 k0_h1 k0_h2 => k0_hw8 k0_h1 k0_h2

def k0_cond3 (i : grid0.Coords) : BitVec 1 :=
  let arg1 : BitVec 32 := BitVec.ofNat 32 (i 1).val
  let c1_i32_16 : BitVec 32 := 1#32
  let v27 : BitVec 1 := Scalar.cmpi .eq arg1 c1_i32_16
  let v28 : BitVec 32 := Scalar.extui v27
  let c0_i32_17 : BitVec 32 := 0#32
  let v29 : BitVec 1 := Scalar.cmpi .ne v28 c0_i32_17
  v29

@[reducible] def k0_t2_loop : Scf.Loop 32 :=
  let c0_i32_18 : BitVec 32 := 0#32
  let c128_i32_19 : BitVec 32 := 128#32
  let v30 : BitVec 32 := Scalar.addi c0_i32_18 c128_i32_19
  let c1_i32_20 : BitVec 32 := 1#32
  ⟨c0_i32_18, v30, c1_i32_20⟩
def k0_off33 (i : grid0.Coords) (k0_t2 : Fin k0_t2_loop.trips) : Fin 1 → Nat :=
  let arg1 : BitVec 32 := BitVec.ofNat 32 (i 1).val
  let c16_i32 : BitVec 32 := 16#32
  let v21 : BitVec 32 := Scalar.muli arg1 c16_i32
  let arg0 : BitVec 32 := BitVec.ofNat 32 (i 0).val
  let v22 : BitVec 32 := Scalar.addi v21 arg0
  let c1024_i32 : BitVec 32 := 1024#32
  let v23 : BitVec 32 := Scalar.muli v22 c1024_i32
  let c0_i32_18 : BitVec 32 := 0#32
  let c1_i32_20 : BitVec 32 := 1#32
  let arg12 : BitVec 32 := Scf.iv c0_i32_18 c1_i32_20 k0_t2
  let c8_i32 : BitVec 32 := 8#32
  let v31 : BitVec 32 := Scalar.muli arg12 c8_i32
  let v32 : BitVec 32 := Scalar.addi v23 v31
  let c0_i32_22 : BitVec 32 := 0#32
  let v33 : BitVec 32 := Scalar.addi v32 c0_i32_22
  let v34 : Index := Scalar.indexCast v33
  ![v34.toNat]
def k0_off34 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  ![v11.toNat]
def k0_off35 (i : grid0.Coords) (k0_t2 : Fin k0_t2_loop.trips) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_18 : BitVec 32 := 0#32
  let c1_i32_20 : BitVec 32 := 1#32
  let arg12 : BitVec 32 := Scf.iv c0_i32_18 c1_i32_20 k0_t2
  let c0_i32_23 : BitVec 32 := 0#32
  let c0_i32_24 : BitVec 32 := 0#32
  ![v11.toNat, arg12.toNat, 0, 0]
def k0_off36 (v35 : BitVec 32) : Fin 2 → Nat :=
  let c0_i32_25 : BitVec 32 := 0#32
  ![v35.toNat, 0]

def k0_chk9 (i : grid0.Coords) (v35 : BitVec 32) : Prop :=
  (∀ (k0_h1 : k0_cond1 i = 1#1), ∀ (k0_h3 : k0_cond3 i = 1#1), ∀ a, (k0_off36 v35) a + S1x1024.size a ≤ S8192x1024.size a)
theorem k0_off36_inb : ∀ (i : grid0.Coords) (v35 : BitVec 32) (k0_hw9 : k0_chk9 i v35), ∀ (k0_h1 : k0_cond1 i = 1#1), ∀ (k0_h3 : k0_cond3 i = 1#1), ∀ a, (k0_off36 v35) a + S1x1024.size a ≤ S8192x1024.size a := fun i v35 k0_hw9 k0_h1 k0_h3 => k0_hw9 k0_h1 k0_h3

def k0_off37 (i : grid0.Coords) (k0_t2 : Fin k0_t2_loop.trips) : Fin 1 → Nat :=
  let arg1 : BitVec 32 := BitVec.ofNat 32 (i 1).val
  let c16_i32 : BitVec 32 := 16#32
  let v21 : BitVec 32 := Scalar.muli arg1 c16_i32
  let arg0 : BitVec 32 := BitVec.ofNat 32 (i 0).val
  let v22 : BitVec 32 := Scalar.addi v21 arg0
  let c1024_i32 : BitVec 32 := 1024#32
  let v23 : BitVec 32 := Scalar.muli v22 c1024_i32
  let c0_i32_18 : BitVec 32 := 0#32
  let c1_i32_20 : BitVec 32 := 1#32
  let arg12 : BitVec 32 := Scf.iv c0_i32_18 c1_i32_20 k0_t2
  let c8_i32 : BitVec 32 := 8#32
  let v31 : BitVec 32 := Scalar.muli arg12 c8_i32
  let v41 : BitVec 32 := Scalar.addi v23 v31
  let c1_i32_26 : BitVec 32 := 1#32
  let v42 : BitVec 32 := Scalar.addi v41 c1_i32_26
  let v43 : Index := Scalar.indexCast v42
  ![v43.toNat]
def k0_off38 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  ![v11.toNat]
def k0_off39 (i : grid0.Coords) (k0_t2 : Fin k0_t2_loop.trips) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_18 : BitVec 32 := 0#32
  let c1_i32_20 : BitVec 32 := 1#32
  let arg12 : BitVec 32 := Scf.iv c0_i32_18 c1_i32_20 k0_t2
  let c1_i32_27 : BitVec 32 := 1#32
  let c0_i32_28 : BitVec 32 := 0#32
  ![v11.toNat, arg12.toNat, 1, 0]
def k0_off40 (v44 : BitVec 32) : Fin 2 → Nat :=
  let c0_i32_29 : BitVec 32 := 0#32
  ![v44.toNat, 0]

def k0_chk10 (i : grid0.Coords) (v44 : BitVec 32) : Prop :=
  (∀ (k0_h1 : k0_cond1 i = 1#1), ∀ (k0_h3 : k0_cond3 i = 1#1), ∀ a, (k0_off40 v44) a + S1x1024.size a ≤ S8192x1024.size a)
theorem k0_off40_inb : ∀ (i : grid0.Coords) (v44 : BitVec 32) (k0_hw10 : k0_chk10 i v44), ∀ (k0_h1 : k0_cond1 i = 1#1), ∀ (k0_h3 : k0_cond3 i = 1#1), ∀ a, (k0_off40 v44) a + S1x1024.size a ≤ S8192x1024.size a := fun i v44 k0_hw10 k0_h1 k0_h3 => k0_hw10 k0_h1 k0_h3

def k0_off41 (i : grid0.Coords) (k0_t2 : Fin k0_t2_loop.trips) : Fin 1 → Nat :=
  let arg1 : BitVec 32 := BitVec.ofNat 32 (i 1).val
  let c16_i32 : BitVec 32 := 16#32
  let v21 : BitVec 32 := Scalar.muli arg1 c16_i32
  let arg0 : BitVec 32 := BitVec.ofNat 32 (i 0).val
  let v22 : BitVec 32 := Scalar.addi v21 arg0
  let c1024_i32 : BitVec 32 := 1024#32
  let v23 : BitVec 32 := Scalar.muli v22 c1024_i32
  let c0_i32_18 : BitVec 32 := 0#32
  let c1_i32_20 : BitVec 32 := 1#32
  let arg12 : BitVec 32 := Scf.iv c0_i32_18 c1_i32_20 k0_t2
  let c8_i32 : BitVec 32 := 8#32
  let v31 : BitVec 32 := Scalar.muli arg12 c8_i32
  let v50 : BitVec 32 := Scalar.addi v23 v31
  let c2_i32_30 : BitVec 32 := 2#32
  let v51 : BitVec 32 := Scalar.addi v50 c2_i32_30
  let v52 : Index := Scalar.indexCast v51
  ![v52.toNat]
def k0_off42 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  ![v11.toNat]
def k0_off43 (i : grid0.Coords) (k0_t2 : Fin k0_t2_loop.trips) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_18 : BitVec 32 := 0#32
  let c1_i32_20 : BitVec 32 := 1#32
  let arg12 : BitVec 32 := Scf.iv c0_i32_18 c1_i32_20 k0_t2
  let c2_i32_31 : BitVec 32 := 2#32
  let c0_i32_32 : BitVec 32 := 0#32
  ![v11.toNat, arg12.toNat, 2, 0]
def k0_off44 (v53 : BitVec 32) : Fin 2 → Nat :=
  let c0_i32_33 : BitVec 32 := 0#32
  ![v53.toNat, 0]

def k0_chk11 (i : grid0.Coords) (v53 : BitVec 32) : Prop :=
  (∀ (k0_h1 : k0_cond1 i = 1#1), ∀ (k0_h3 : k0_cond3 i = 1#1), ∀ a, (k0_off44 v53) a + S1x1024.size a ≤ S8192x1024.size a)
theorem k0_off44_inb : ∀ (i : grid0.Coords) (v53 : BitVec 32) (k0_hw11 : k0_chk11 i v53), ∀ (k0_h1 : k0_cond1 i = 1#1), ∀ (k0_h3 : k0_cond3 i = 1#1), ∀ a, (k0_off44 v53) a + S1x1024.size a ≤ S8192x1024.size a := fun i v53 k0_hw11 k0_h1 k0_h3 => k0_hw11 k0_h1 k0_h3

def k0_off45 (i : grid0.Coords) (k0_t2 : Fin k0_t2_loop.trips) : Fin 1 → Nat :=
  let arg1 : BitVec 32 := BitVec.ofNat 32 (i 1).val
  let c16_i32 : BitVec 32 := 16#32
  let v21 : BitVec 32 := Scalar.muli arg1 c16_i32
  let arg0 : BitVec 32 := BitVec.ofNat 32 (i 0).val
  let v22 : BitVec 32 := Scalar.addi v21 arg0
  let c1024_i32 : BitVec 32 := 1024#32
  let v23 : BitVec 32 := Scalar.muli v22 c1024_i32
  let c0_i32_18 : BitVec 32 := 0#32
  let c1_i32_20 : BitVec 32 := 1#32
  let arg12 : BitVec 32 := Scf.iv c0_i32_18 c1_i32_20 k0_t2
  let c8_i32 : BitVec 32 := 8#32
  let v31 : BitVec 32 := Scalar.muli arg12 c8_i32
  let v59 : BitVec 32 := Scalar.addi v23 v31
  let c3_i32 : BitVec 32 := 3#32
  let v60 : BitVec 32 := Scalar.addi v59 c3_i32
  let v61 : Index := Scalar.indexCast v60
  ![v61.toNat]
def k0_off46 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  ![v11.toNat]
def k0_off47 (i : grid0.Coords) (k0_t2 : Fin k0_t2_loop.trips) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_18 : BitVec 32 := 0#32
  let c1_i32_20 : BitVec 32 := 1#32
  let arg12 : BitVec 32 := Scf.iv c0_i32_18 c1_i32_20 k0_t2
  let c3_i32_34 : BitVec 32 := 3#32
  let c0_i32_35 : BitVec 32 := 0#32
  ![v11.toNat, arg12.toNat, 3, 0]
def k0_off48 (v62 : BitVec 32) : Fin 2 → Nat :=
  let c0_i32_36 : BitVec 32 := 0#32
  ![v62.toNat, 0]

def k0_chk12 (i : grid0.Coords) (v62 : BitVec 32) : Prop :=
  (∀ (k0_h1 : k0_cond1 i = 1#1), ∀ (k0_h3 : k0_cond3 i = 1#1), ∀ a, (k0_off48 v62) a + S1x1024.size a ≤ S8192x1024.size a)
theorem k0_off48_inb : ∀ (i : grid0.Coords) (v62 : BitVec 32) (k0_hw12 : k0_chk12 i v62), ∀ (k0_h1 : k0_cond1 i = 1#1), ∀ (k0_h3 : k0_cond3 i = 1#1), ∀ a, (k0_off48 v62) a + S1x1024.size a ≤ S8192x1024.size a := fun i v62 k0_hw12 k0_h1 k0_h3 => k0_hw12 k0_h1 k0_h3

def k0_off49 (i : grid0.Coords) (k0_t2 : Fin k0_t2_loop.trips) : Fin 1 → Nat :=
  let arg1 : BitVec 32 := BitVec.ofNat 32 (i 1).val
  let c16_i32 : BitVec 32 := 16#32
  let v21 : BitVec 32 := Scalar.muli arg1 c16_i32
  let arg0 : BitVec 32 := BitVec.ofNat 32 (i 0).val
  let v22 : BitVec 32 := Scalar.addi v21 arg0
  let c1024_i32 : BitVec 32 := 1024#32
  let v23 : BitVec 32 := Scalar.muli v22 c1024_i32
  let c0_i32_18 : BitVec 32 := 0#32
  let c1_i32_20 : BitVec 32 := 1#32
  let arg12 : BitVec 32 := Scf.iv c0_i32_18 c1_i32_20 k0_t2
  let c8_i32 : BitVec 32 := 8#32
  let v31 : BitVec 32 := Scalar.muli arg12 c8_i32
  let v68 : BitVec 32 := Scalar.addi v23 v31
  let c4_i32 : BitVec 32 := 4#32
  let v69 : BitVec 32 := Scalar.addi v68 c4_i32
  let v70 : Index := Scalar.indexCast v69
  ![v70.toNat]
def k0_off50 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  ![v11.toNat]
def k0_off51 (i : grid0.Coords) (k0_t2 : Fin k0_t2_loop.trips) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_18 : BitVec 32 := 0#32
  let c1_i32_20 : BitVec 32 := 1#32
  let arg12 : BitVec 32 := Scf.iv c0_i32_18 c1_i32_20 k0_t2
  let c4_i32_37 : BitVec 32 := 4#32
  let c0_i32_38 : BitVec 32 := 0#32
  ![v11.toNat, arg12.toNat, 4, 0]
def k0_off52 (v71 : BitVec 32) : Fin 2 → Nat :=
  let c0_i32_39 : BitVec 32 := 0#32
  ![v71.toNat, 0]

def k0_chk13 (i : grid0.Coords) (v71 : BitVec 32) : Prop :=
  (∀ (k0_h1 : k0_cond1 i = 1#1), ∀ (k0_h3 : k0_cond3 i = 1#1), ∀ a, (k0_off52 v71) a + S1x1024.size a ≤ S8192x1024.size a)
theorem k0_off52_inb : ∀ (i : grid0.Coords) (v71 : BitVec 32) (k0_hw13 : k0_chk13 i v71), ∀ (k0_h1 : k0_cond1 i = 1#1), ∀ (k0_h3 : k0_cond3 i = 1#1), ∀ a, (k0_off52 v71) a + S1x1024.size a ≤ S8192x1024.size a := fun i v71 k0_hw13 k0_h1 k0_h3 => k0_hw13 k0_h1 k0_h3

def k0_off53 (i : grid0.Coords) (k0_t2 : Fin k0_t2_loop.trips) : Fin 1 → Nat :=
  let arg1 : BitVec 32 := BitVec.ofNat 32 (i 1).val
  let c16_i32 : BitVec 32 := 16#32
  let v21 : BitVec 32 := Scalar.muli arg1 c16_i32
  let arg0 : BitVec 32 := BitVec.ofNat 32 (i 0).val
  let v22 : BitVec 32 := Scalar.addi v21 arg0
  let c1024_i32 : BitVec 32 := 1024#32
  let v23 : BitVec 32 := Scalar.muli v22 c1024_i32
  let c0_i32_18 : BitVec 32 := 0#32
  let c1_i32_20 : BitVec 32 := 1#32
  let arg12 : BitVec 32 := Scf.iv c0_i32_18 c1_i32_20 k0_t2
  let c8_i32 : BitVec 32 := 8#32
  let v31 : BitVec 32 := Scalar.muli arg12 c8_i32
  let v77 : BitVec 32 := Scalar.addi v23 v31
  let c5_i32 : BitVec 32 := 5#32
  let v78 : BitVec 32 := Scalar.addi v77 c5_i32
  let v79 : Index := Scalar.indexCast v78
  ![v79.toNat]
def k0_off54 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  ![v11.toNat]
def k0_off55 (i : grid0.Coords) (k0_t2 : Fin k0_t2_loop.trips) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_18 : BitVec 32 := 0#32
  let c1_i32_20 : BitVec 32 := 1#32
  let arg12 : BitVec 32 := Scf.iv c0_i32_18 c1_i32_20 k0_t2
  let c5_i32_40 : BitVec 32 := 5#32
  let c0_i32_41 : BitVec 32 := 0#32
  ![v11.toNat, arg12.toNat, 5, 0]
def k0_off56 (v80 : BitVec 32) : Fin 2 → Nat :=
  let c0_i32_42 : BitVec 32 := 0#32
  ![v80.toNat, 0]

def k0_chk14 (i : grid0.Coords) (v80 : BitVec 32) : Prop :=
  (∀ (k0_h1 : k0_cond1 i = 1#1), ∀ (k0_h3 : k0_cond3 i = 1#1), ∀ a, (k0_off56 v80) a + S1x1024.size a ≤ S8192x1024.size a)
theorem k0_off56_inb : ∀ (i : grid0.Coords) (v80 : BitVec 32) (k0_hw14 : k0_chk14 i v80), ∀ (k0_h1 : k0_cond1 i = 1#1), ∀ (k0_h3 : k0_cond3 i = 1#1), ∀ a, (k0_off56 v80) a + S1x1024.size a ≤ S8192x1024.size a := fun i v80 k0_hw14 k0_h1 k0_h3 => k0_hw14 k0_h1 k0_h3

def k0_off57 (i : grid0.Coords) (k0_t2 : Fin k0_t2_loop.trips) : Fin 1 → Nat :=
  let arg1 : BitVec 32 := BitVec.ofNat 32 (i 1).val
  let c16_i32 : BitVec 32 := 16#32
  let v21 : BitVec 32 := Scalar.muli arg1 c16_i32
  let arg0 : BitVec 32 := BitVec.ofNat 32 (i 0).val
  let v22 : BitVec 32 := Scalar.addi v21 arg0
  let c1024_i32 : BitVec 32 := 1024#32
  let v23 : BitVec 32 := Scalar.muli v22 c1024_i32
  let c0_i32_18 : BitVec 32 := 0#32
  let c1_i32_20 : BitVec 32 := 1#32
  let arg12 : BitVec 32 := Scf.iv c0_i32_18 c1_i32_20 k0_t2
  let c8_i32 : BitVec 32 := 8#32
  let v31 : BitVec 32 := Scalar.muli arg12 c8_i32
  let v86 : BitVec 32 := Scalar.addi v23 v31
  let c6_i32 : BitVec 32 := 6#32
  let v87 : BitVec 32 := Scalar.addi v86 c6_i32
  let v88 : Index := Scalar.indexCast v87
  ![v88.toNat]
def k0_off58 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  ![v11.toNat]
def k0_off59 (i : grid0.Coords) (k0_t2 : Fin k0_t2_loop.trips) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_18 : BitVec 32 := 0#32
  let c1_i32_20 : BitVec 32 := 1#32
  let arg12 : BitVec 32 := Scf.iv c0_i32_18 c1_i32_20 k0_t2
  let c6_i32_43 : BitVec 32 := 6#32
  let c0_i32_44 : BitVec 32 := 0#32
  ![v11.toNat, arg12.toNat, 6, 0]
def k0_off60 (v89 : BitVec 32) : Fin 2 → Nat :=
  let c0_i32_45 : BitVec 32 := 0#32
  ![v89.toNat, 0]

def k0_chk15 (i : grid0.Coords) (v89 : BitVec 32) : Prop :=
  (∀ (k0_h1 : k0_cond1 i = 1#1), ∀ (k0_h3 : k0_cond3 i = 1#1), ∀ a, (k0_off60 v89) a + S1x1024.size a ≤ S8192x1024.size a)
theorem k0_off60_inb : ∀ (i : grid0.Coords) (v89 : BitVec 32) (k0_hw15 : k0_chk15 i v89), ∀ (k0_h1 : k0_cond1 i = 1#1), ∀ (k0_h3 : k0_cond3 i = 1#1), ∀ a, (k0_off60 v89) a + S1x1024.size a ≤ S8192x1024.size a := fun i v89 k0_hw15 k0_h1 k0_h3 => k0_hw15 k0_h1 k0_h3

def k0_off61 (i : grid0.Coords) (k0_t2 : Fin k0_t2_loop.trips) : Fin 1 → Nat :=
  let arg1 : BitVec 32 := BitVec.ofNat 32 (i 1).val
  let c16_i32 : BitVec 32 := 16#32
  let v21 : BitVec 32 := Scalar.muli arg1 c16_i32
  let arg0 : BitVec 32 := BitVec.ofNat 32 (i 0).val
  let v22 : BitVec 32 := Scalar.addi v21 arg0
  let c1024_i32 : BitVec 32 := 1024#32
  let v23 : BitVec 32 := Scalar.muli v22 c1024_i32
  let c0_i32_18 : BitVec 32 := 0#32
  let c1_i32_20 : BitVec 32 := 1#32
  let arg12 : BitVec 32 := Scf.iv c0_i32_18 c1_i32_20 k0_t2
  let c8_i32 : BitVec 32 := 8#32
  let v31 : BitVec 32 := Scalar.muli arg12 c8_i32
  let v95 : BitVec 32 := Scalar.addi v23 v31
  let c7_i32 : BitVec 32 := 7#32
  let v96 : BitVec 32 := Scalar.addi v95 c7_i32
  let v97 : Index := Scalar.indexCast v96
  ![v97.toNat]
def k0_off62 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  ![v11.toNat]
def k0_off63 (i : grid0.Coords) (k0_t2 : Fin k0_t2_loop.trips) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_18 : BitVec 32 := 0#32
  let c1_i32_20 : BitVec 32 := 1#32
  let arg12 : BitVec 32 := Scf.iv c0_i32_18 c1_i32_20 k0_t2
  let c7_i32_46 : BitVec 32 := 7#32
  let c0_i32_47 : BitVec 32 := 0#32
  ![v11.toNat, arg12.toNat, 7, 0]
def k0_off64 (v98 : BitVec 32) : Fin 2 → Nat :=
  let c0_i32_48 : BitVec 32 := 0#32
  ![v98.toNat, 0]

def k0_chk16 (i : grid0.Coords) (v98 : BitVec 32) : Prop :=
  (∀ (k0_h1 : k0_cond1 i = 1#1), ∀ (k0_h3 : k0_cond3 i = 1#1), ∀ a, (k0_off64 v98) a + S1x1024.size a ≤ S8192x1024.size a)
theorem k0_off64_inb : ∀ (i : grid0.Coords) (v98 : BitVec 32) (k0_hw16 : k0_chk16 i v98), ∀ (k0_h1 : k0_cond1 i = 1#1), ∀ (k0_h3 : k0_cond3 i = 1#1), ∀ a, (k0_off64 v98) a + S1x1024.size a ≤ S8192x1024.size a := fun i v98 k0_hw16 k0_h1 k0_h3 => k0_hw16 k0_h1 k0_h3

def k0_cond4 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_6 : BitVec 32 := 1#32
  let v15 : BitVec 32 := Scalar.addi v1 c1_i32_6
  let c32_i32 : BitVec 32 := 32#32
  let v16 : BitVec 1 := Scalar.cmpi .slt v15 c32_i32
  let v17 : BitVec 32 := Scalar.extui v16
  let c0_i32_7 : BitVec 32 := 0#32
  let v18 : BitVec 1 := Scalar.cmpi .ne v17 c0_i32_7
  v18

def k0_cond5 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_14 : BitVec 32 := 1#32
  let v21 : BitVec 32 := Scalar.addi v1 c1_i32_14
  let c2_i32_22 : BitVec 32 := 2#32
  let c0_i32_23 : BitVec 32 := 0#32
  let v39 : BitVec 1 := Scalar.cmpi .eq c2_i32_22 c0_i32_23
  let c1_i32_24 : BitVec 32 := 1#32
  let v40 : BitVec 32 := Scalar.select v39 c1_i32_24 c2_i32_22
  let v41 : BitVec 32 := Scalar.remsi v21 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c0_i32_29 : BitVec 32 := 0#32
  let v53 : BitVec 1 := Scalar.cmpi .eq v48 c0_i32_29
  let v54 : BitVec 32 := Scalar.extui v53
  let c0_i32_30 : BitVec 32 := 0#32
  let v55 : BitVec 1 := Scalar.cmpi .ne v54 c0_i32_30
  v55

@[reducible] def k0_t3_loop : Scf.Loop 32 :=
  let c0_i32_33 : BitVec 32 := 0#32
  let c128_i32_34 : BitVec 32 := 128#32
  let v59 : BitVec 32 := Scalar.addi c0_i32_33 c128_i32_34
  let c1_i32_35 : BitVec 32 := 1#32
  ⟨c0_i32_33, v59, c1_i32_35⟩
def k0_off65 (i : grid0.Coords) (k0_t3 : Fin k0_t3_loop.trips) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_14 : BitVec 32 := 1#32
  let v21 : BitVec 32 := Scalar.addi v1 c1_i32_14
  let c2_i32_22 : BitVec 32 := 2#32
  let c0_i32_23 : BitVec 32 := 0#32
  let v39 : BitVec 1 := Scalar.cmpi .eq c2_i32_22 c0_i32_23
  let c1_i32_24 : BitVec 32 := 1#32
  let v40 : BitVec 32 := Scalar.select v39 c1_i32_24 c2_i32_22
  let v41 : BitVec 32 := Scalar.remsi v21 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c16_i32 : BitVec 32 := 16#32
  let v50 : BitVec 32 := Scalar.muli v48 c16_i32
  let c0_i32_16 : BitVec 32 := 0#32
  let v23 : BitVec 1 := Scalar.cmpi .sgt v21 c0_i32_16
  let v24 : BitVec 32 := Scalar.extui v23
  let c0_i32_17 : BitVec 32 := 0#32
  let v25 : BitVec 1 := Scalar.cmpi .slt v21 c0_i32_17
  let v26 : BitVec 32 := Scalar.extui v25
  let v27 : BitVec 32 := Scalar.subi v24 v26
  let c2_i32_15 : BitVec 32 := 2#32
  let c0_i32_18 : BitVec 32 := 0#32
  let v28 : BitVec 1 := Scalar.cmpi .sgt c2_i32_15 c0_i32_18
  let v29 : BitVec 32 := Scalar.extui v28
  let c0_i32_19 : BitVec 32 := 0#32
  let v30 : BitVec 1 := Scalar.cmpi .slt c2_i32_15 c0_i32_19
  let v31 : BitVec 32 := Scalar.extui v30
  let v32 : BitVec 32 := Scalar.subi v29 v31
  let v33 : BitVec 1 := Scalar.cmpi .ne v27 v32
  let v34 : BitVec 32 := Scalar.remsi v21 c2_i32_15
  let c0_i32_20 : BitVec 32 := 0#32
  let v35 : BitVec 1 := Scalar.cmpi .ne v34 c0_i32_20
  let v36 : BitVec 1 := Scalar.andi v33 v35
  let v22 : BitVec 32 := Scalar.divsi v21 c2_i32_15
  let c1_i32_21 : BitVec 32 := 1#32
  let v37 : BitVec 32 := Scalar.subi v22 c1_i32_21
  let v38 : BitVec 32 := Scalar.select v36 v37 v22
  let v51 : BitVec 32 := Scalar.addi v50 v38
  let c1024_i32 : BitVec 32 := 1024#32
  let v52 : BitVec 32 := Scalar.muli v51 c1024_i32
  let c0_i32_33 : BitVec 32 := 0#32
  let c1_i32_35 : BitVec 32 := 1#32
  let arg12 : BitVec 32 := Scf.iv c0_i32_33 c1_i32_35 k0_t3
  let c8_i32 : BitVec 32 := 8#32
  let v60 : BitVec 32 := Scalar.muli arg12 c8_i32
  let v61 : BitVec 32 := Scalar.addi v52 v60
  let c0_i32_37 : BitVec 32 := 0#32
  let v62 : BitVec 32 := Scalar.addi v61 c0_i32_37
  let v63 : Index := Scalar.indexCast v62
  ![v63.toNat]
def k0_off66 (i : grid0.Coords) : Fin 1 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  ![v49.toNat]
def k0_off67 (i : grid0.Coords) (k0_t3 : Fin k0_t3_loop.trips) : Fin 4 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  let c0_i32_33 : BitVec 32 := 0#32
  let c1_i32_35 : BitVec 32 := 1#32
  let arg12 : BitVec 32 := Scf.iv c0_i32_33 c1_i32_35 k0_t3
  let c0_i32_38 : BitVec 32 := 0#32
  let c0_i32_39 : BitVec 32 := 0#32
  ![v49.toNat, arg12.toNat, 0, 0]
def k0_off68 (v64 : BitVec 32) : Fin 2 → Nat :=
  let c0_i32_40 : BitVec 32 := 0#32
  ![v64.toNat, 0]

def k0_chk17 (i : grid0.Coords) (v64 : BitVec 32) : Prop :=
  (∀ (k0_h4 : k0_cond4 i = 1#1), ∀ (k0_h5 : k0_cond5 i = 1#1), ∀ a, (k0_off68 v64) a + S1x1024.size a ≤ S8192x1024.size a)
theorem k0_off68_inb : ∀ (i : grid0.Coords) (v64 : BitVec 32) (k0_hw17 : k0_chk17 i v64), ∀ (k0_h4 : k0_cond4 i = 1#1), ∀ (k0_h5 : k0_cond5 i = 1#1), ∀ a, (k0_off68 v64) a + S1x1024.size a ≤ S8192x1024.size a := fun i v64 k0_hw17 k0_h4 k0_h5 => k0_hw17 k0_h4 k0_h5

def k0_off69 (i : grid0.Coords) (k0_t3 : Fin k0_t3_loop.trips) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_14 : BitVec 32 := 1#32
  let v21 : BitVec 32 := Scalar.addi v1 c1_i32_14
  let c2_i32_22 : BitVec 32 := 2#32
  let c0_i32_23 : BitVec 32 := 0#32
  let v39 : BitVec 1 := Scalar.cmpi .eq c2_i32_22 c0_i32_23
  let c1_i32_24 : BitVec 32 := 1#32
  let v40 : BitVec 32 := Scalar.select v39 c1_i32_24 c2_i32_22
  let v41 : BitVec 32 := Scalar.remsi v21 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c16_i32 : BitVec 32 := 16#32
  let v50 : BitVec 32 := Scalar.muli v48 c16_i32
  let c0_i32_16 : BitVec 32 := 0#32
  let v23 : BitVec 1 := Scalar.cmpi .sgt v21 c0_i32_16
  let v24 : BitVec 32 := Scalar.extui v23
  let c0_i32_17 : BitVec 32 := 0#32
  let v25 : BitVec 1 := Scalar.cmpi .slt v21 c0_i32_17
  let v26 : BitVec 32 := Scalar.extui v25
  let v27 : BitVec 32 := Scalar.subi v24 v26
  let c2_i32_15 : BitVec 32 := 2#32
  let c0_i32_18 : BitVec 32 := 0#32
  let v28 : BitVec 1 := Scalar.cmpi .sgt c2_i32_15 c0_i32_18
  let v29 : BitVec 32 := Scalar.extui v28
  let c0_i32_19 : BitVec 32 := 0#32
  let v30 : BitVec 1 := Scalar.cmpi .slt c2_i32_15 c0_i32_19
  let v31 : BitVec 32 := Scalar.extui v30
  let v32 : BitVec 32 := Scalar.subi v29 v31
  let v33 : BitVec 1 := Scalar.cmpi .ne v27 v32
  let v34 : BitVec 32 := Scalar.remsi v21 c2_i32_15
  let c0_i32_20 : BitVec 32 := 0#32
  let v35 : BitVec 1 := Scalar.cmpi .ne v34 c0_i32_20
  let v36 : BitVec 1 := Scalar.andi v33 v35
  let v22 : BitVec 32 := Scalar.divsi v21 c2_i32_15
  let c1_i32_21 : BitVec 32 := 1#32
  let v37 : BitVec 32 := Scalar.subi v22 c1_i32_21
  let v38 : BitVec 32 := Scalar.select v36 v37 v22
  let v51 : BitVec 32 := Scalar.addi v50 v38
  let c1024_i32 : BitVec 32 := 1024#32
  let v52 : BitVec 32 := Scalar.muli v51 c1024_i32
  let c0_i32_33 : BitVec 32 := 0#32
  let c1_i32_35 : BitVec 32 := 1#32
  let arg12 : BitVec 32 := Scf.iv c0_i32_33 c1_i32_35 k0_t3
  let c8_i32 : BitVec 32 := 8#32
  let v60 : BitVec 32 := Scalar.muli arg12 c8_i32
  let v70 : BitVec 32 := Scalar.addi v52 v60
  let c1_i32_41 : BitVec 32 := 1#32
  let v71 : BitVec 32 := Scalar.addi v70 c1_i32_41
  let v72 : Index := Scalar.indexCast v71
  ![v72.toNat]
def k0_off70 (i : grid0.Coords) : Fin 1 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  ![v49.toNat]
def k0_off71 (i : grid0.Coords) (k0_t3 : Fin k0_t3_loop.trips) : Fin 4 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  let c0_i32_33 : BitVec 32 := 0#32
  let c1_i32_35 : BitVec 32 := 1#32
  let arg12 : BitVec 32 := Scf.iv c0_i32_33 c1_i32_35 k0_t3
  let c1_i32_42 : BitVec 32 := 1#32
  let c0_i32_43 : BitVec 32 := 0#32
  ![v49.toNat, arg12.toNat, 1, 0]
def k0_off72 (v73 : BitVec 32) : Fin 2 → Nat :=
  let c0_i32_44 : BitVec 32 := 0#32
  ![v73.toNat, 0]

def k0_chk18 (i : grid0.Coords) (v73 : BitVec 32) : Prop :=
  (∀ (k0_h4 : k0_cond4 i = 1#1), ∀ (k0_h5 : k0_cond5 i = 1#1), ∀ a, (k0_off72 v73) a + S1x1024.size a ≤ S8192x1024.size a)
theorem k0_off72_inb : ∀ (i : grid0.Coords) (v73 : BitVec 32) (k0_hw18 : k0_chk18 i v73), ∀ (k0_h4 : k0_cond4 i = 1#1), ∀ (k0_h5 : k0_cond5 i = 1#1), ∀ a, (k0_off72 v73) a + S1x1024.size a ≤ S8192x1024.size a := fun i v73 k0_hw18 k0_h4 k0_h5 => k0_hw18 k0_h4 k0_h5

def k0_off73 (i : grid0.Coords) (k0_t3 : Fin k0_t3_loop.trips) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_14 : BitVec 32 := 1#32
  let v21 : BitVec 32 := Scalar.addi v1 c1_i32_14
  let c2_i32_22 : BitVec 32 := 2#32
  let c0_i32_23 : BitVec 32 := 0#32
  let v39 : BitVec 1 := Scalar.cmpi .eq c2_i32_22 c0_i32_23
  let c1_i32_24 : BitVec 32 := 1#32
  let v40 : BitVec 32 := Scalar.select v39 c1_i32_24 c2_i32_22
  let v41 : BitVec 32 := Scalar.remsi v21 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c16_i32 : BitVec 32 := 16#32
  let v50 : BitVec 32 := Scalar.muli v48 c16_i32
  let c0_i32_16 : BitVec 32 := 0#32
  let v23 : BitVec 1 := Scalar.cmpi .sgt v21 c0_i32_16
  let v24 : BitVec 32 := Scalar.extui v23
  let c0_i32_17 : BitVec 32 := 0#32
  let v25 : BitVec 1 := Scalar.cmpi .slt v21 c0_i32_17
  let v26 : BitVec 32 := Scalar.extui v25
  let v27 : BitVec 32 := Scalar.subi v24 v26
  let c2_i32_15 : BitVec 32 := 2#32
  let c0_i32_18 : BitVec 32 := 0#32
  let v28 : BitVec 1 := Scalar.cmpi .sgt c2_i32_15 c0_i32_18
  let v29 : BitVec 32 := Scalar.extui v28
  let c0_i32_19 : BitVec 32 := 0#32
  let v30 : BitVec 1 := Scalar.cmpi .slt c2_i32_15 c0_i32_19
  let v31 : BitVec 32 := Scalar.extui v30
  let v32 : BitVec 32 := Scalar.subi v29 v31
  let v33 : BitVec 1 := Scalar.cmpi .ne v27 v32
  let v34 : BitVec 32 := Scalar.remsi v21 c2_i32_15
  let c0_i32_20 : BitVec 32 := 0#32
  let v35 : BitVec 1 := Scalar.cmpi .ne v34 c0_i32_20
  let v36 : BitVec 1 := Scalar.andi v33 v35
  let v22 : BitVec 32 := Scalar.divsi v21 c2_i32_15
  let c1_i32_21 : BitVec 32 := 1#32
  let v37 : BitVec 32 := Scalar.subi v22 c1_i32_21
  let v38 : BitVec 32 := Scalar.select v36 v37 v22
  let v51 : BitVec 32 := Scalar.addi v50 v38
  let c1024_i32 : BitVec 32 := 1024#32
  let v52 : BitVec 32 := Scalar.muli v51 c1024_i32
  let c0_i32_33 : BitVec 32 := 0#32
  let c1_i32_35 : BitVec 32 := 1#32
  let arg12 : BitVec 32 := Scf.iv c0_i32_33 c1_i32_35 k0_t3
  let c8_i32 : BitVec 32 := 8#32
  let v60 : BitVec 32 := Scalar.muli arg12 c8_i32
  let v79 : BitVec 32 := Scalar.addi v52 v60
  let c2_i32_45 : BitVec 32 := 2#32
  let v80 : BitVec 32 := Scalar.addi v79 c2_i32_45
  let v81 : Index := Scalar.indexCast v80
  ![v81.toNat]
def k0_off74 (i : grid0.Coords) : Fin 1 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  ![v49.toNat]
def k0_off75 (i : grid0.Coords) (k0_t3 : Fin k0_t3_loop.trips) : Fin 4 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  let c0_i32_33 : BitVec 32 := 0#32
  let c1_i32_35 : BitVec 32 := 1#32
  let arg12 : BitVec 32 := Scf.iv c0_i32_33 c1_i32_35 k0_t3
  let c2_i32_46 : BitVec 32 := 2#32
  let c0_i32_47 : BitVec 32 := 0#32
  ![v49.toNat, arg12.toNat, 2, 0]
def k0_off76 (v82 : BitVec 32) : Fin 2 → Nat :=
  let c0_i32_48 : BitVec 32 := 0#32
  ![v82.toNat, 0]

def k0_chk19 (i : grid0.Coords) (v82 : BitVec 32) : Prop :=
  (∀ (k0_h4 : k0_cond4 i = 1#1), ∀ (k0_h5 : k0_cond5 i = 1#1), ∀ a, (k0_off76 v82) a + S1x1024.size a ≤ S8192x1024.size a)
theorem k0_off76_inb : ∀ (i : grid0.Coords) (v82 : BitVec 32) (k0_hw19 : k0_chk19 i v82), ∀ (k0_h4 : k0_cond4 i = 1#1), ∀ (k0_h5 : k0_cond5 i = 1#1), ∀ a, (k0_off76 v82) a + S1x1024.size a ≤ S8192x1024.size a := fun i v82 k0_hw19 k0_h4 k0_h5 => k0_hw19 k0_h4 k0_h5

def k0_off77 (i : grid0.Coords) (k0_t3 : Fin k0_t3_loop.trips) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_14 : BitVec 32 := 1#32
  let v21 : BitVec 32 := Scalar.addi v1 c1_i32_14
  let c2_i32_22 : BitVec 32 := 2#32
  let c0_i32_23 : BitVec 32 := 0#32
  let v39 : BitVec 1 := Scalar.cmpi .eq c2_i32_22 c0_i32_23
  let c1_i32_24 : BitVec 32 := 1#32
  let v40 : BitVec 32 := Scalar.select v39 c1_i32_24 c2_i32_22
  let v41 : BitVec 32 := Scalar.remsi v21 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c16_i32 : BitVec 32 := 16#32
  let v50 : BitVec 32 := Scalar.muli v48 c16_i32
  let c0_i32_16 : BitVec 32 := 0#32
  let v23 : BitVec 1 := Scalar.cmpi .sgt v21 c0_i32_16
  let v24 : BitVec 32 := Scalar.extui v23
  let c0_i32_17 : BitVec 32 := 0#32
  let v25 : BitVec 1 := Scalar.cmpi .slt v21 c0_i32_17
  let v26 : BitVec 32 := Scalar.extui v25
  let v27 : BitVec 32 := Scalar.subi v24 v26
  let c2_i32_15 : BitVec 32 := 2#32
  let c0_i32_18 : BitVec 32 := 0#32
  let v28 : BitVec 1 := Scalar.cmpi .sgt c2_i32_15 c0_i32_18
  let v29 : BitVec 32 := Scalar.extui v28
  let c0_i32_19 : BitVec 32 := 0#32
  let v30 : BitVec 1 := Scalar.cmpi .slt c2_i32_15 c0_i32_19
  let v31 : BitVec 32 := Scalar.extui v30
  let v32 : BitVec 32 := Scalar.subi v29 v31
  let v33 : BitVec 1 := Scalar.cmpi .ne v27 v32
  let v34 : BitVec 32 := Scalar.remsi v21 c2_i32_15
  let c0_i32_20 : BitVec 32 := 0#32
  let v35 : BitVec 1 := Scalar.cmpi .ne v34 c0_i32_20
  let v36 : BitVec 1 := Scalar.andi v33 v35
  let v22 : BitVec 32 := Scalar.divsi v21 c2_i32_15
  let c1_i32_21 : BitVec 32 := 1#32
  let v37 : BitVec 32 := Scalar.subi v22 c1_i32_21
  let v38 : BitVec 32 := Scalar.select v36 v37 v22
  let v51 : BitVec 32 := Scalar.addi v50 v38
  let c1024_i32 : BitVec 32 := 1024#32
  let v52 : BitVec 32 := Scalar.muli v51 c1024_i32
  let c0_i32_33 : BitVec 32 := 0#32
  let c1_i32_35 : BitVec 32 := 1#32
  let arg12 : BitVec 32 := Scf.iv c0_i32_33 c1_i32_35 k0_t3
  let c8_i32 : BitVec 32 := 8#32
  let v60 : BitVec 32 := Scalar.muli arg12 c8_i32
  let v88 : BitVec 32 := Scalar.addi v52 v60
  let c3_i32 : BitVec 32 := 3#32
  let v89 : BitVec 32 := Scalar.addi v88 c3_i32
  let v90 : Index := Scalar.indexCast v89
  ![v90.toNat]
def k0_off78 (i : grid0.Coords) : Fin 1 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  ![v49.toNat]
def k0_off79 (i : grid0.Coords) (k0_t3 : Fin k0_t3_loop.trips) : Fin 4 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  let c0_i32_33 : BitVec 32 := 0#32
  let c1_i32_35 : BitVec 32 := 1#32
  let arg12 : BitVec 32 := Scf.iv c0_i32_33 c1_i32_35 k0_t3
  let c3_i32_49 : BitVec 32 := 3#32
  let c0_i32_50 : BitVec 32 := 0#32
  ![v49.toNat, arg12.toNat, 3, 0]
def k0_off80 (v91 : BitVec 32) : Fin 2 → Nat :=
  let c0_i32_51 : BitVec 32 := 0#32
  ![v91.toNat, 0]

def k0_chk20 (i : grid0.Coords) (v91 : BitVec 32) : Prop :=
  (∀ (k0_h4 : k0_cond4 i = 1#1), ∀ (k0_h5 : k0_cond5 i = 1#1), ∀ a, (k0_off80 v91) a + S1x1024.size a ≤ S8192x1024.size a)
theorem k0_off80_inb : ∀ (i : grid0.Coords) (v91 : BitVec 32) (k0_hw20 : k0_chk20 i v91), ∀ (k0_h4 : k0_cond4 i = 1#1), ∀ (k0_h5 : k0_cond5 i = 1#1), ∀ a, (k0_off80 v91) a + S1x1024.size a ≤ S8192x1024.size a := fun i v91 k0_hw20 k0_h4 k0_h5 => k0_hw20 k0_h4 k0_h5

def k0_off81 (i : grid0.Coords) (k0_t3 : Fin k0_t3_loop.trips) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_14 : BitVec 32 := 1#32
  let v21 : BitVec 32 := Scalar.addi v1 c1_i32_14
  let c2_i32_22 : BitVec 32 := 2#32
  let c0_i32_23 : BitVec 32 := 0#32
  let v39 : BitVec 1 := Scalar.cmpi .eq c2_i32_22 c0_i32_23
  let c1_i32_24 : BitVec 32 := 1#32
  let v40 : BitVec 32 := Scalar.select v39 c1_i32_24 c2_i32_22
  let v41 : BitVec 32 := Scalar.remsi v21 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c16_i32 : BitVec 32 := 16#32
  let v50 : BitVec 32 := Scalar.muli v48 c16_i32
  let c0_i32_16 : BitVec 32 := 0#32
  let v23 : BitVec 1 := Scalar.cmpi .sgt v21 c0_i32_16
  let v24 : BitVec 32 := Scalar.extui v23
  let c0_i32_17 : BitVec 32 := 0#32
  let v25 : BitVec 1 := Scalar.cmpi .slt v21 c0_i32_17
  let v26 : BitVec 32 := Scalar.extui v25
  let v27 : BitVec 32 := Scalar.subi v24 v26
  let c2_i32_15 : BitVec 32 := 2#32
  let c0_i32_18 : BitVec 32 := 0#32
  let v28 : BitVec 1 := Scalar.cmpi .sgt c2_i32_15 c0_i32_18
  let v29 : BitVec 32 := Scalar.extui v28
  let c0_i32_19 : BitVec 32 := 0#32
  let v30 : BitVec 1 := Scalar.cmpi .slt c2_i32_15 c0_i32_19
  let v31 : BitVec 32 := Scalar.extui v30
  let v32 : BitVec 32 := Scalar.subi v29 v31
  let v33 : BitVec 1 := Scalar.cmpi .ne v27 v32
  let v34 : BitVec 32 := Scalar.remsi v21 c2_i32_15
  let c0_i32_20 : BitVec 32 := 0#32
  let v35 : BitVec 1 := Scalar.cmpi .ne v34 c0_i32_20
  let v36 : BitVec 1 := Scalar.andi v33 v35
  let v22 : BitVec 32 := Scalar.divsi v21 c2_i32_15
  let c1_i32_21 : BitVec 32 := 1#32
  let v37 : BitVec 32 := Scalar.subi v22 c1_i32_21
  let v38 : BitVec 32 := Scalar.select v36 v37 v22
  let v51 : BitVec 32 := Scalar.addi v50 v38
  let c1024_i32 : BitVec 32 := 1024#32
  let v52 : BitVec 32 := Scalar.muli v51 c1024_i32
  let c0_i32_33 : BitVec 32 := 0#32
  let c1_i32_35 : BitVec 32 := 1#32
  let arg12 : BitVec 32 := Scf.iv c0_i32_33 c1_i32_35 k0_t3
  let c8_i32 : BitVec 32 := 8#32
  let v60 : BitVec 32 := Scalar.muli arg12 c8_i32
  let v97 : BitVec 32 := Scalar.addi v52 v60
  let c4_i32 : BitVec 32 := 4#32
  let v98 : BitVec 32 := Scalar.addi v97 c4_i32
  let v99 : Index := Scalar.indexCast v98
  ![v99.toNat]
def k0_off82 (i : grid0.Coords) : Fin 1 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  ![v49.toNat]
def k0_off83 (i : grid0.Coords) (k0_t3 : Fin k0_t3_loop.trips) : Fin 4 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  let c0_i32_33 : BitVec 32 := 0#32
  let c1_i32_35 : BitVec 32 := 1#32
  let arg12 : BitVec 32 := Scf.iv c0_i32_33 c1_i32_35 k0_t3
  let c4_i32_52 : BitVec 32 := 4#32
  let c0_i32_53 : BitVec 32 := 0#32
  ![v49.toNat, arg12.toNat, 4, 0]
def k0_off84 (v100 : BitVec 32) : Fin 2 → Nat :=
  let c0_i32_54 : BitVec 32 := 0#32
  ![v100.toNat, 0]

def k0_chk21 (i : grid0.Coords) (v100 : BitVec 32) : Prop :=
  (∀ (k0_h4 : k0_cond4 i = 1#1), ∀ (k0_h5 : k0_cond5 i = 1#1), ∀ a, (k0_off84 v100) a + S1x1024.size a ≤ S8192x1024.size a)
theorem k0_off84_inb : ∀ (i : grid0.Coords) (v100 : BitVec 32) (k0_hw21 : k0_chk21 i v100), ∀ (k0_h4 : k0_cond4 i = 1#1), ∀ (k0_h5 : k0_cond5 i = 1#1), ∀ a, (k0_off84 v100) a + S1x1024.size a ≤ S8192x1024.size a := fun i v100 k0_hw21 k0_h4 k0_h5 => k0_hw21 k0_h4 k0_h5

def k0_off85 (i : grid0.Coords) (k0_t3 : Fin k0_t3_loop.trips) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_14 : BitVec 32 := 1#32
  let v21 : BitVec 32 := Scalar.addi v1 c1_i32_14
  let c2_i32_22 : BitVec 32 := 2#32
  let c0_i32_23 : BitVec 32 := 0#32
  let v39 : BitVec 1 := Scalar.cmpi .eq c2_i32_22 c0_i32_23
  let c1_i32_24 : BitVec 32 := 1#32
  let v40 : BitVec 32 := Scalar.select v39 c1_i32_24 c2_i32_22
  let v41 : BitVec 32 := Scalar.remsi v21 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c16_i32 : BitVec 32 := 16#32
  let v50 : BitVec 32 := Scalar.muli v48 c16_i32
  let c0_i32_16 : BitVec 32 := 0#32
  let v23 : BitVec 1 := Scalar.cmpi .sgt v21 c0_i32_16
  let v24 : BitVec 32 := Scalar.extui v23
  let c0_i32_17 : BitVec 32 := 0#32
  let v25 : BitVec 1 := Scalar.cmpi .slt v21 c0_i32_17
  let v26 : BitVec 32 := Scalar.extui v25
  let v27 : BitVec 32 := Scalar.subi v24 v26
  let c2_i32_15 : BitVec 32 := 2#32
  let c0_i32_18 : BitVec 32 := 0#32
  let v28 : BitVec 1 := Scalar.cmpi .sgt c2_i32_15 c0_i32_18
  let v29 : BitVec 32 := Scalar.extui v28
  let c0_i32_19 : BitVec 32 := 0#32
  let v30 : BitVec 1 := Scalar.cmpi .slt c2_i32_15 c0_i32_19
  let v31 : BitVec 32 := Scalar.extui v30
  let v32 : BitVec 32 := Scalar.subi v29 v31
  let v33 : BitVec 1 := Scalar.cmpi .ne v27 v32
  let v34 : BitVec 32 := Scalar.remsi v21 c2_i32_15
  let c0_i32_20 : BitVec 32 := 0#32
  let v35 : BitVec 1 := Scalar.cmpi .ne v34 c0_i32_20
  let v36 : BitVec 1 := Scalar.andi v33 v35
  let v22 : BitVec 32 := Scalar.divsi v21 c2_i32_15
  let c1_i32_21 : BitVec 32 := 1#32
  let v37 : BitVec 32 := Scalar.subi v22 c1_i32_21
  let v38 : BitVec 32 := Scalar.select v36 v37 v22
  let v51 : BitVec 32 := Scalar.addi v50 v38
  let c1024_i32 : BitVec 32 := 1024#32
  let v52 : BitVec 32 := Scalar.muli v51 c1024_i32
  let c0_i32_33 : BitVec 32 := 0#32
  let c1_i32_35 : BitVec 32 := 1#32
  let arg12 : BitVec 32 := Scf.iv c0_i32_33 c1_i32_35 k0_t3
  let c8_i32 : BitVec 32 := 8#32
  let v60 : BitVec 32 := Scalar.muli arg12 c8_i32
  let v106 : BitVec 32 := Scalar.addi v52 v60
  let c5_i32 : BitVec 32 := 5#32
  let v107 : BitVec 32 := Scalar.addi v106 c5_i32
  let v108 : Index := Scalar.indexCast v107
  ![v108.toNat]
def k0_off86 (i : grid0.Coords) : Fin 1 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  ![v49.toNat]
def k0_off87 (i : grid0.Coords) (k0_t3 : Fin k0_t3_loop.trips) : Fin 4 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  let c0_i32_33 : BitVec 32 := 0#32
  let c1_i32_35 : BitVec 32 := 1#32
  let arg12 : BitVec 32 := Scf.iv c0_i32_33 c1_i32_35 k0_t3
  let c5_i32_55 : BitVec 32 := 5#32
  let c0_i32_56 : BitVec 32 := 0#32
  ![v49.toNat, arg12.toNat, 5, 0]
def k0_off88 (v109 : BitVec 32) : Fin 2 → Nat :=
  let c0_i32_57 : BitVec 32 := 0#32
  ![v109.toNat, 0]

def k0_chk22 (i : grid0.Coords) (v109 : BitVec 32) : Prop :=
  (∀ (k0_h4 : k0_cond4 i = 1#1), ∀ (k0_h5 : k0_cond5 i = 1#1), ∀ a, (k0_off88 v109) a + S1x1024.size a ≤ S8192x1024.size a)
theorem k0_off88_inb : ∀ (i : grid0.Coords) (v109 : BitVec 32) (k0_hw22 : k0_chk22 i v109), ∀ (k0_h4 : k0_cond4 i = 1#1), ∀ (k0_h5 : k0_cond5 i = 1#1), ∀ a, (k0_off88 v109) a + S1x1024.size a ≤ S8192x1024.size a := fun i v109 k0_hw22 k0_h4 k0_h5 => k0_hw22 k0_h4 k0_h5

def k0_off89 (i : grid0.Coords) (k0_t3 : Fin k0_t3_loop.trips) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_14 : BitVec 32 := 1#32
  let v21 : BitVec 32 := Scalar.addi v1 c1_i32_14
  let c2_i32_22 : BitVec 32 := 2#32
  let c0_i32_23 : BitVec 32 := 0#32
  let v39 : BitVec 1 := Scalar.cmpi .eq c2_i32_22 c0_i32_23
  let c1_i32_24 : BitVec 32 := 1#32
  let v40 : BitVec 32 := Scalar.select v39 c1_i32_24 c2_i32_22
  let v41 : BitVec 32 := Scalar.remsi v21 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c16_i32 : BitVec 32 := 16#32
  let v50 : BitVec 32 := Scalar.muli v48 c16_i32
  let c0_i32_16 : BitVec 32 := 0#32
  let v23 : BitVec 1 := Scalar.cmpi .sgt v21 c0_i32_16
  let v24 : BitVec 32 := Scalar.extui v23
  let c0_i32_17 : BitVec 32 := 0#32
  let v25 : BitVec 1 := Scalar.cmpi .slt v21 c0_i32_17
  let v26 : BitVec 32 := Scalar.extui v25
  let v27 : BitVec 32 := Scalar.subi v24 v26
  let c2_i32_15 : BitVec 32 := 2#32
  let c0_i32_18 : BitVec 32 := 0#32
  let v28 : BitVec 1 := Scalar.cmpi .sgt c2_i32_15 c0_i32_18
  let v29 : BitVec 32 := Scalar.extui v28
  let c0_i32_19 : BitVec 32 := 0#32
  let v30 : BitVec 1 := Scalar.cmpi .slt c2_i32_15 c0_i32_19
  let v31 : BitVec 32 := Scalar.extui v30
  let v32 : BitVec 32 := Scalar.subi v29 v31
  let v33 : BitVec 1 := Scalar.cmpi .ne v27 v32
  let v34 : BitVec 32 := Scalar.remsi v21 c2_i32_15
  let c0_i32_20 : BitVec 32 := 0#32
  let v35 : BitVec 1 := Scalar.cmpi .ne v34 c0_i32_20
  let v36 : BitVec 1 := Scalar.andi v33 v35
  let v22 : BitVec 32 := Scalar.divsi v21 c2_i32_15
  let c1_i32_21 : BitVec 32 := 1#32
  let v37 : BitVec 32 := Scalar.subi v22 c1_i32_21
  let v38 : BitVec 32 := Scalar.select v36 v37 v22
  let v51 : BitVec 32 := Scalar.addi v50 v38
  let c1024_i32 : BitVec 32 := 1024#32
  let v52 : BitVec 32 := Scalar.muli v51 c1024_i32
  let c0_i32_33 : BitVec 32 := 0#32
  let c1_i32_35 : BitVec 32 := 1#32
  let arg12 : BitVec 32 := Scf.iv c0_i32_33 c1_i32_35 k0_t3
  let c8_i32 : BitVec 32 := 8#32
  let v60 : BitVec 32 := Scalar.muli arg12 c8_i32
  let v115 : BitVec 32 := Scalar.addi v52 v60
  let c6_i32 : BitVec 32 := 6#32
  let v116 : BitVec 32 := Scalar.addi v115 c6_i32
  let v117 : Index := Scalar.indexCast v116
  ![v117.toNat]
def k0_off90 (i : grid0.Coords) : Fin 1 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  ![v49.toNat]
def k0_off91 (i : grid0.Coords) (k0_t3 : Fin k0_t3_loop.trips) : Fin 4 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  let c0_i32_33 : BitVec 32 := 0#32
  let c1_i32_35 : BitVec 32 := 1#32
  let arg12 : BitVec 32 := Scf.iv c0_i32_33 c1_i32_35 k0_t3
  let c6_i32_58 : BitVec 32 := 6#32
  let c0_i32_59 : BitVec 32 := 0#32
  ![v49.toNat, arg12.toNat, 6, 0]
def k0_off92 (v118 : BitVec 32) : Fin 2 → Nat :=
  let c0_i32_60 : BitVec 32 := 0#32
  ![v118.toNat, 0]

def k0_chk23 (i : grid0.Coords) (v118 : BitVec 32) : Prop :=
  (∀ (k0_h4 : k0_cond4 i = 1#1), ∀ (k0_h5 : k0_cond5 i = 1#1), ∀ a, (k0_off92 v118) a + S1x1024.size a ≤ S8192x1024.size a)
theorem k0_off92_inb : ∀ (i : grid0.Coords) (v118 : BitVec 32) (k0_hw23 : k0_chk23 i v118), ∀ (k0_h4 : k0_cond4 i = 1#1), ∀ (k0_h5 : k0_cond5 i = 1#1), ∀ a, (k0_off92 v118) a + S1x1024.size a ≤ S8192x1024.size a := fun i v118 k0_hw23 k0_h4 k0_h5 => k0_hw23 k0_h4 k0_h5

def k0_off93 (i : grid0.Coords) (k0_t3 : Fin k0_t3_loop.trips) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_14 : BitVec 32 := 1#32
  let v21 : BitVec 32 := Scalar.addi v1 c1_i32_14
  let c2_i32_22 : BitVec 32 := 2#32
  let c0_i32_23 : BitVec 32 := 0#32
  let v39 : BitVec 1 := Scalar.cmpi .eq c2_i32_22 c0_i32_23
  let c1_i32_24 : BitVec 32 := 1#32
  let v40 : BitVec 32 := Scalar.select v39 c1_i32_24 c2_i32_22
  let v41 : BitVec 32 := Scalar.remsi v21 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c16_i32 : BitVec 32 := 16#32
  let v50 : BitVec 32 := Scalar.muli v48 c16_i32
  let c0_i32_16 : BitVec 32 := 0#32
  let v23 : BitVec 1 := Scalar.cmpi .sgt v21 c0_i32_16
  let v24 : BitVec 32 := Scalar.extui v23
  let c0_i32_17 : BitVec 32 := 0#32
  let v25 : BitVec 1 := Scalar.cmpi .slt v21 c0_i32_17
  let v26 : BitVec 32 := Scalar.extui v25
  let v27 : BitVec 32 := Scalar.subi v24 v26
  let c2_i32_15 : BitVec 32 := 2#32
  let c0_i32_18 : BitVec 32 := 0#32
  let v28 : BitVec 1 := Scalar.cmpi .sgt c2_i32_15 c0_i32_18
  let v29 : BitVec 32 := Scalar.extui v28
  let c0_i32_19 : BitVec 32 := 0#32
  let v30 : BitVec 1 := Scalar.cmpi .slt c2_i32_15 c0_i32_19
  let v31 : BitVec 32 := Scalar.extui v30
  let v32 : BitVec 32 := Scalar.subi v29 v31
  let v33 : BitVec 1 := Scalar.cmpi .ne v27 v32
  let v34 : BitVec 32 := Scalar.remsi v21 c2_i32_15
  let c0_i32_20 : BitVec 32 := 0#32
  let v35 : BitVec 1 := Scalar.cmpi .ne v34 c0_i32_20
  let v36 : BitVec 1 := Scalar.andi v33 v35
  let v22 : BitVec 32 := Scalar.divsi v21 c2_i32_15
  let c1_i32_21 : BitVec 32 := 1#32
  let v37 : BitVec 32 := Scalar.subi v22 c1_i32_21
  let v38 : BitVec 32 := Scalar.select v36 v37 v22
  let v51 : BitVec 32 := Scalar.addi v50 v38
  let c1024_i32 : BitVec 32 := 1024#32
  let v52 : BitVec 32 := Scalar.muli v51 c1024_i32
  let c0_i32_33 : BitVec 32 := 0#32
  let c1_i32_35 : BitVec 32 := 1#32
  let arg12 : BitVec 32 := Scf.iv c0_i32_33 c1_i32_35 k0_t3
  let c8_i32 : BitVec 32 := 8#32
  let v60 : BitVec 32 := Scalar.muli arg12 c8_i32
  let v124 : BitVec 32 := Scalar.addi v52 v60
  let c7_i32 : BitVec 32 := 7#32
  let v125 : BitVec 32 := Scalar.addi v124 c7_i32
  let v126 : Index := Scalar.indexCast v125
  ![v126.toNat]
def k0_off94 (i : grid0.Coords) : Fin 1 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  ![v49.toNat]
def k0_off95 (i : grid0.Coords) (k0_t3 : Fin k0_t3_loop.trips) : Fin 4 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  let c0_i32_33 : BitVec 32 := 0#32
  let c1_i32_35 : BitVec 32 := 1#32
  let arg12 : BitVec 32 := Scf.iv c0_i32_33 c1_i32_35 k0_t3
  let c7_i32_61 : BitVec 32 := 7#32
  let c0_i32_62 : BitVec 32 := 0#32
  ![v49.toNat, arg12.toNat, 7, 0]
def k0_off96 (v127 : BitVec 32) : Fin 2 → Nat :=
  let c0_i32_63 : BitVec 32 := 0#32
  ![v127.toNat, 0]

def k0_chk24 (i : grid0.Coords) (v127 : BitVec 32) : Prop :=
  (∀ (k0_h4 : k0_cond4 i = 1#1), ∀ (k0_h5 : k0_cond5 i = 1#1), ∀ a, (k0_off96 v127) a + S1x1024.size a ≤ S8192x1024.size a)
theorem k0_off96_inb : ∀ (i : grid0.Coords) (v127 : BitVec 32) (k0_hw24 : k0_chk24 i v127), ∀ (k0_h4 : k0_cond4 i = 1#1), ∀ (k0_h5 : k0_cond5 i = 1#1), ∀ a, (k0_off96 v127) a + S1x1024.size a ≤ S8192x1024.size a := fun i v127 k0_hw24 k0_h4 k0_h5 => k0_hw24 k0_h4 k0_h5

def k0_cond6 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_14 : BitVec 32 := 1#32
  let v21 : BitVec 32 := Scalar.addi v1 c1_i32_14
  let c2_i32_22 : BitVec 32 := 2#32
  let c0_i32_23 : BitVec 32 := 0#32
  let v39 : BitVec 1 := Scalar.cmpi .eq c2_i32_22 c0_i32_23
  let c1_i32_24 : BitVec 32 := 1#32
  let v40 : BitVec 32 := Scalar.select v39 c1_i32_24 c2_i32_22
  let v41 : BitVec 32 := Scalar.remsi v21 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c1_i32_31 : BitVec 32 := 1#32
  let v56 : BitVec 1 := Scalar.cmpi .eq v48 c1_i32_31
  let v57 : BitVec 32 := Scalar.extui v56
  let c0_i32_32 : BitVec 32 := 0#32
  let v58 : BitVec 1 := Scalar.cmpi .ne v57 c0_i32_32
  v58

@[reducible] def k0_t4_loop : Scf.Loop 32 :=
  let c0_i32_33 : BitVec 32 := 0#32
  let c128_i32_34 : BitVec 32 := 128#32
  let v59 : BitVec 32 := Scalar.addi c0_i32_33 c128_i32_34
  let c1_i32_35 : BitVec 32 := 1#32
  ⟨c0_i32_33, v59, c1_i32_35⟩
def k0_off97 (i : grid0.Coords) (k0_t4 : Fin k0_t4_loop.trips) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_14 : BitVec 32 := 1#32
  let v21 : BitVec 32 := Scalar.addi v1 c1_i32_14
  let c2_i32_22 : BitVec 32 := 2#32
  let c0_i32_23 : BitVec 32 := 0#32
  let v39 : BitVec 1 := Scalar.cmpi .eq c2_i32_22 c0_i32_23
  let c1_i32_24 : BitVec 32 := 1#32
  let v40 : BitVec 32 := Scalar.select v39 c1_i32_24 c2_i32_22
  let v41 : BitVec 32 := Scalar.remsi v21 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c16_i32 : BitVec 32 := 16#32
  let v50 : BitVec 32 := Scalar.muli v48 c16_i32
  let c0_i32_16 : BitVec 32 := 0#32
  let v23 : BitVec 1 := Scalar.cmpi .sgt v21 c0_i32_16
  let v24 : BitVec 32 := Scalar.extui v23
  let c0_i32_17 : BitVec 32 := 0#32
  let v25 : BitVec 1 := Scalar.cmpi .slt v21 c0_i32_17
  let v26 : BitVec 32 := Scalar.extui v25
  let v27 : BitVec 32 := Scalar.subi v24 v26
  let c2_i32_15 : BitVec 32 := 2#32
  let c0_i32_18 : BitVec 32 := 0#32
  let v28 : BitVec 1 := Scalar.cmpi .sgt c2_i32_15 c0_i32_18
  let v29 : BitVec 32 := Scalar.extui v28
  let c0_i32_19 : BitVec 32 := 0#32
  let v30 : BitVec 1 := Scalar.cmpi .slt c2_i32_15 c0_i32_19
  let v31 : BitVec 32 := Scalar.extui v30
  let v32 : BitVec 32 := Scalar.subi v29 v31
  let v33 : BitVec 1 := Scalar.cmpi .ne v27 v32
  let v34 : BitVec 32 := Scalar.remsi v21 c2_i32_15
  let c0_i32_20 : BitVec 32 := 0#32
  let v35 : BitVec 1 := Scalar.cmpi .ne v34 c0_i32_20
  let v36 : BitVec 1 := Scalar.andi v33 v35
  let v22 : BitVec 32 := Scalar.divsi v21 c2_i32_15
  let c1_i32_21 : BitVec 32 := 1#32
  let v37 : BitVec 32 := Scalar.subi v22 c1_i32_21
  let v38 : BitVec 32 := Scalar.select v36 v37 v22
  let v51 : BitVec 32 := Scalar.addi v50 v38
  let c1024_i32 : BitVec 32 := 1024#32
  let v52 : BitVec 32 := Scalar.muli v51 c1024_i32
  let c0_i32_33 : BitVec 32 := 0#32
  let c1_i32_35 : BitVec 32 := 1#32
  let arg12 : BitVec 32 := Scf.iv c0_i32_33 c1_i32_35 k0_t4
  let c8_i32 : BitVec 32 := 8#32
  let v60 : BitVec 32 := Scalar.muli arg12 c8_i32
  let v61 : BitVec 32 := Scalar.addi v52 v60
  let c0_i32_37 : BitVec 32 := 0#32
  let v62 : BitVec 32 := Scalar.addi v61 c0_i32_37
  let v63 : Index := Scalar.indexCast v62
  ![v63.toNat]
def k0_off98 (i : grid0.Coords) : Fin 1 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  ![v49.toNat]
def k0_off99 (i : grid0.Coords) (k0_t4 : Fin k0_t4_loop.trips) : Fin 4 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  let c0_i32_33 : BitVec 32 := 0#32
  let c1_i32_35 : BitVec 32 := 1#32
  let arg12 : BitVec 32 := Scf.iv c0_i32_33 c1_i32_35 k0_t4
  let c0_i32_38 : BitVec 32 := 0#32
  let c0_i32_39 : BitVec 32 := 0#32
  ![v49.toNat, arg12.toNat, 0, 0]
def k0_off100 (v64 : BitVec 32) : Fin 2 → Nat :=
  let c0_i32_40 : BitVec 32 := 0#32
  ![v64.toNat, 0]

def k0_chk25 (i : grid0.Coords) (v64 : BitVec 32) : Prop :=
  (∀ (k0_h4 : k0_cond4 i = 1#1), ∀ (k0_h6 : k0_cond6 i = 1#1), ∀ a, (k0_off100 v64) a + S1x1024.size a ≤ S8192x1024.size a)
theorem k0_off100_inb : ∀ (i : grid0.Coords) (v64 : BitVec 32) (k0_hw25 : k0_chk25 i v64), ∀ (k0_h4 : k0_cond4 i = 1#1), ∀ (k0_h6 : k0_cond6 i = 1#1), ∀ a, (k0_off100 v64) a + S1x1024.size a ≤ S8192x1024.size a := fun i v64 k0_hw25 k0_h4 k0_h6 => k0_hw25 k0_h4 k0_h6

def k0_off101 (i : grid0.Coords) (k0_t4 : Fin k0_t4_loop.trips) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_14 : BitVec 32 := 1#32
  let v21 : BitVec 32 := Scalar.addi v1 c1_i32_14
  let c2_i32_22 : BitVec 32 := 2#32
  let c0_i32_23 : BitVec 32 := 0#32
  let v39 : BitVec 1 := Scalar.cmpi .eq c2_i32_22 c0_i32_23
  let c1_i32_24 : BitVec 32 := 1#32
  let v40 : BitVec 32 := Scalar.select v39 c1_i32_24 c2_i32_22
  let v41 : BitVec 32 := Scalar.remsi v21 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c16_i32 : BitVec 32 := 16#32
  let v50 : BitVec 32 := Scalar.muli v48 c16_i32
  let c0_i32_16 : BitVec 32 := 0#32
  let v23 : BitVec 1 := Scalar.cmpi .sgt v21 c0_i32_16
  let v24 : BitVec 32 := Scalar.extui v23
  let c0_i32_17 : BitVec 32 := 0#32
  let v25 : BitVec 1 := Scalar.cmpi .slt v21 c0_i32_17
  let v26 : BitVec 32 := Scalar.extui v25
  let v27 : BitVec 32 := Scalar.subi v24 v26
  let c2_i32_15 : BitVec 32 := 2#32
  let c0_i32_18 : BitVec 32 := 0#32
  let v28 : BitVec 1 := Scalar.cmpi .sgt c2_i32_15 c0_i32_18
  let v29 : BitVec 32 := Scalar.extui v28
  let c0_i32_19 : BitVec 32 := 0#32
  let v30 : BitVec 1 := Scalar.cmpi .slt c2_i32_15 c0_i32_19
  let v31 : BitVec 32 := Scalar.extui v30
  let v32 : BitVec 32 := Scalar.subi v29 v31
  let v33 : BitVec 1 := Scalar.cmpi .ne v27 v32
  let v34 : BitVec 32 := Scalar.remsi v21 c2_i32_15
  let c0_i32_20 : BitVec 32 := 0#32
  let v35 : BitVec 1 := Scalar.cmpi .ne v34 c0_i32_20
  let v36 : BitVec 1 := Scalar.andi v33 v35
  let v22 : BitVec 32 := Scalar.divsi v21 c2_i32_15
  let c1_i32_21 : BitVec 32 := 1#32
  let v37 : BitVec 32 := Scalar.subi v22 c1_i32_21
  let v38 : BitVec 32 := Scalar.select v36 v37 v22
  let v51 : BitVec 32 := Scalar.addi v50 v38
  let c1024_i32 : BitVec 32 := 1024#32
  let v52 : BitVec 32 := Scalar.muli v51 c1024_i32
  let c0_i32_33 : BitVec 32 := 0#32
  let c1_i32_35 : BitVec 32 := 1#32
  let arg12 : BitVec 32 := Scf.iv c0_i32_33 c1_i32_35 k0_t4
  let c8_i32 : BitVec 32 := 8#32
  let v60 : BitVec 32 := Scalar.muli arg12 c8_i32
  let v70 : BitVec 32 := Scalar.addi v52 v60
  let c1_i32_41 : BitVec 32 := 1#32
  let v71 : BitVec 32 := Scalar.addi v70 c1_i32_41
  let v72 : Index := Scalar.indexCast v71
  ![v72.toNat]
def k0_off102 (i : grid0.Coords) : Fin 1 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  ![v49.toNat]
def k0_off103 (i : grid0.Coords) (k0_t4 : Fin k0_t4_loop.trips) : Fin 4 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  let c0_i32_33 : BitVec 32 := 0#32
  let c1_i32_35 : BitVec 32 := 1#32
  let arg12 : BitVec 32 := Scf.iv c0_i32_33 c1_i32_35 k0_t4
  let c1_i32_42 : BitVec 32 := 1#32
  let c0_i32_43 : BitVec 32 := 0#32
  ![v49.toNat, arg12.toNat, 1, 0]
def k0_off104 (v73 : BitVec 32) : Fin 2 → Nat :=
  let c0_i32_44 : BitVec 32 := 0#32
  ![v73.toNat, 0]

def k0_chk26 (i : grid0.Coords) (v73 : BitVec 32) : Prop :=
  (∀ (k0_h4 : k0_cond4 i = 1#1), ∀ (k0_h6 : k0_cond6 i = 1#1), ∀ a, (k0_off104 v73) a + S1x1024.size a ≤ S8192x1024.size a)
theorem k0_off104_inb : ∀ (i : grid0.Coords) (v73 : BitVec 32) (k0_hw26 : k0_chk26 i v73), ∀ (k0_h4 : k0_cond4 i = 1#1), ∀ (k0_h6 : k0_cond6 i = 1#1), ∀ a, (k0_off104 v73) a + S1x1024.size a ≤ S8192x1024.size a := fun i v73 k0_hw26 k0_h4 k0_h6 => k0_hw26 k0_h4 k0_h6

def k0_off105 (i : grid0.Coords) (k0_t4 : Fin k0_t4_loop.trips) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_14 : BitVec 32 := 1#32
  let v21 : BitVec 32 := Scalar.addi v1 c1_i32_14
  let c2_i32_22 : BitVec 32 := 2#32
  let c0_i32_23 : BitVec 32 := 0#32
  let v39 : BitVec 1 := Scalar.cmpi .eq c2_i32_22 c0_i32_23
  let c1_i32_24 : BitVec 32 := 1#32
  let v40 : BitVec 32 := Scalar.select v39 c1_i32_24 c2_i32_22
  let v41 : BitVec 32 := Scalar.remsi v21 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c16_i32 : BitVec 32 := 16#32
  let v50 : BitVec 32 := Scalar.muli v48 c16_i32
  let c0_i32_16 : BitVec 32 := 0#32
  let v23 : BitVec 1 := Scalar.cmpi .sgt v21 c0_i32_16
  let v24 : BitVec 32 := Scalar.extui v23
  let c0_i32_17 : BitVec 32 := 0#32
  let v25 : BitVec 1 := Scalar.cmpi .slt v21 c0_i32_17
  let v26 : BitVec 32 := Scalar.extui v25
  let v27 : BitVec 32 := Scalar.subi v24 v26
  let c2_i32_15 : BitVec 32 := 2#32
  let c0_i32_18 : BitVec 32 := 0#32
  let v28 : BitVec 1 := Scalar.cmpi .sgt c2_i32_15 c0_i32_18
  let v29 : BitVec 32 := Scalar.extui v28
  let c0_i32_19 : BitVec 32 := 0#32
  let v30 : BitVec 1 := Scalar.cmpi .slt c2_i32_15 c0_i32_19
  let v31 : BitVec 32 := Scalar.extui v30
  let v32 : BitVec 32 := Scalar.subi v29 v31
  let v33 : BitVec 1 := Scalar.cmpi .ne v27 v32
  let v34 : BitVec 32 := Scalar.remsi v21 c2_i32_15
  let c0_i32_20 : BitVec 32 := 0#32
  let v35 : BitVec 1 := Scalar.cmpi .ne v34 c0_i32_20
  let v36 : BitVec 1 := Scalar.andi v33 v35
  let v22 : BitVec 32 := Scalar.divsi v21 c2_i32_15
  let c1_i32_21 : BitVec 32 := 1#32
  let v37 : BitVec 32 := Scalar.subi v22 c1_i32_21
  let v38 : BitVec 32 := Scalar.select v36 v37 v22
  let v51 : BitVec 32 := Scalar.addi v50 v38
  let c1024_i32 : BitVec 32 := 1024#32
  let v52 : BitVec 32 := Scalar.muli v51 c1024_i32
  let c0_i32_33 : BitVec 32 := 0#32
  let c1_i32_35 : BitVec 32 := 1#32
  let arg12 : BitVec 32 := Scf.iv c0_i32_33 c1_i32_35 k0_t4
  let c8_i32 : BitVec 32 := 8#32
  let v60 : BitVec 32 := Scalar.muli arg12 c8_i32
  let v79 : BitVec 32 := Scalar.addi v52 v60
  let c2_i32_45 : BitVec 32 := 2#32
  let v80 : BitVec 32 := Scalar.addi v79 c2_i32_45
  let v81 : Index := Scalar.indexCast v80
  ![v81.toNat]
def k0_off106 (i : grid0.Coords) : Fin 1 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  ![v49.toNat]
def k0_off107 (i : grid0.Coords) (k0_t4 : Fin k0_t4_loop.trips) : Fin 4 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  let c0_i32_33 : BitVec 32 := 0#32
  let c1_i32_35 : BitVec 32 := 1#32
  let arg12 : BitVec 32 := Scf.iv c0_i32_33 c1_i32_35 k0_t4
  let c2_i32_46 : BitVec 32 := 2#32
  let c0_i32_47 : BitVec 32 := 0#32
  ![v49.toNat, arg12.toNat, 2, 0]
def k0_off108 (v82 : BitVec 32) : Fin 2 → Nat :=
  let c0_i32_48 : BitVec 32 := 0#32
  ![v82.toNat, 0]

def k0_chk27 (i : grid0.Coords) (v82 : BitVec 32) : Prop :=
  (∀ (k0_h4 : k0_cond4 i = 1#1), ∀ (k0_h6 : k0_cond6 i = 1#1), ∀ a, (k0_off108 v82) a + S1x1024.size a ≤ S8192x1024.size a)
theorem k0_off108_inb : ∀ (i : grid0.Coords) (v82 : BitVec 32) (k0_hw27 : k0_chk27 i v82), ∀ (k0_h4 : k0_cond4 i = 1#1), ∀ (k0_h6 : k0_cond6 i = 1#1), ∀ a, (k0_off108 v82) a + S1x1024.size a ≤ S8192x1024.size a := fun i v82 k0_hw27 k0_h4 k0_h6 => k0_hw27 k0_h4 k0_h6

def k0_off109 (i : grid0.Coords) (k0_t4 : Fin k0_t4_loop.trips) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_14 : BitVec 32 := 1#32
  let v21 : BitVec 32 := Scalar.addi v1 c1_i32_14
  let c2_i32_22 : BitVec 32 := 2#32
  let c0_i32_23 : BitVec 32 := 0#32
  let v39 : BitVec 1 := Scalar.cmpi .eq c2_i32_22 c0_i32_23
  let c1_i32_24 : BitVec 32 := 1#32
  let v40 : BitVec 32 := Scalar.select v39 c1_i32_24 c2_i32_22
  let v41 : BitVec 32 := Scalar.remsi v21 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c16_i32 : BitVec 32 := 16#32
  let v50 : BitVec 32 := Scalar.muli v48 c16_i32
  let c0_i32_16 : BitVec 32 := 0#32
  let v23 : BitVec 1 := Scalar.cmpi .sgt v21 c0_i32_16
  let v24 : BitVec 32 := Scalar.extui v23
  let c0_i32_17 : BitVec 32 := 0#32
  let v25 : BitVec 1 := Scalar.cmpi .slt v21 c0_i32_17
  let v26 : BitVec 32 := Scalar.extui v25
  let v27 : BitVec 32 := Scalar.subi v24 v26
  let c2_i32_15 : BitVec 32 := 2#32
  let c0_i32_18 : BitVec 32 := 0#32
  let v28 : BitVec 1 := Scalar.cmpi .sgt c2_i32_15 c0_i32_18
  let v29 : BitVec 32 := Scalar.extui v28
  let c0_i32_19 : BitVec 32 := 0#32
  let v30 : BitVec 1 := Scalar.cmpi .slt c2_i32_15 c0_i32_19
  let v31 : BitVec 32 := Scalar.extui v30
  let v32 : BitVec 32 := Scalar.subi v29 v31
  let v33 : BitVec 1 := Scalar.cmpi .ne v27 v32
  let v34 : BitVec 32 := Scalar.remsi v21 c2_i32_15
  let c0_i32_20 : BitVec 32 := 0#32
  let v35 : BitVec 1 := Scalar.cmpi .ne v34 c0_i32_20
  let v36 : BitVec 1 := Scalar.andi v33 v35
  let v22 : BitVec 32 := Scalar.divsi v21 c2_i32_15
  let c1_i32_21 : BitVec 32 := 1#32
  let v37 : BitVec 32 := Scalar.subi v22 c1_i32_21
  let v38 : BitVec 32 := Scalar.select v36 v37 v22
  let v51 : BitVec 32 := Scalar.addi v50 v38
  let c1024_i32 : BitVec 32 := 1024#32
  let v52 : BitVec 32 := Scalar.muli v51 c1024_i32
  let c0_i32_33 : BitVec 32 := 0#32
  let c1_i32_35 : BitVec 32 := 1#32
  let arg12 : BitVec 32 := Scf.iv c0_i32_33 c1_i32_35 k0_t4
  let c8_i32 : BitVec 32 := 8#32
  let v60 : BitVec 32 := Scalar.muli arg12 c8_i32
  let v88 : BitVec 32 := Scalar.addi v52 v60
  let c3_i32 : BitVec 32 := 3#32
  let v89 : BitVec 32 := Scalar.addi v88 c3_i32
  let v90 : Index := Scalar.indexCast v89
  ![v90.toNat]
def k0_off110 (i : grid0.Coords) : Fin 1 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  ![v49.toNat]
def k0_off111 (i : grid0.Coords) (k0_t4 : Fin k0_t4_loop.trips) : Fin 4 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  let c0_i32_33 : BitVec 32 := 0#32
  let c1_i32_35 : BitVec 32 := 1#32
  let arg12 : BitVec 32 := Scf.iv c0_i32_33 c1_i32_35 k0_t4
  let c3_i32_49 : BitVec 32 := 3#32
  let c0_i32_50 : BitVec 32 := 0#32
  ![v49.toNat, arg12.toNat, 3, 0]
def k0_off112 (v91 : BitVec 32) : Fin 2 → Nat :=
  let c0_i32_51 : BitVec 32 := 0#32
  ![v91.toNat, 0]

def k0_chk28 (i : grid0.Coords) (v91 : BitVec 32) : Prop :=
  (∀ (k0_h4 : k0_cond4 i = 1#1), ∀ (k0_h6 : k0_cond6 i = 1#1), ∀ a, (k0_off112 v91) a + S1x1024.size a ≤ S8192x1024.size a)
theorem k0_off112_inb : ∀ (i : grid0.Coords) (v91 : BitVec 32) (k0_hw28 : k0_chk28 i v91), ∀ (k0_h4 : k0_cond4 i = 1#1), ∀ (k0_h6 : k0_cond6 i = 1#1), ∀ a, (k0_off112 v91) a + S1x1024.size a ≤ S8192x1024.size a := fun i v91 k0_hw28 k0_h4 k0_h6 => k0_hw28 k0_h4 k0_h6

def k0_off113 (i : grid0.Coords) (k0_t4 : Fin k0_t4_loop.trips) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_14 : BitVec 32 := 1#32
  let v21 : BitVec 32 := Scalar.addi v1 c1_i32_14
  let c2_i32_22 : BitVec 32 := 2#32
  let c0_i32_23 : BitVec 32 := 0#32
  let v39 : BitVec 1 := Scalar.cmpi .eq c2_i32_22 c0_i32_23
  let c1_i32_24 : BitVec 32 := 1#32
  let v40 : BitVec 32 := Scalar.select v39 c1_i32_24 c2_i32_22
  let v41 : BitVec 32 := Scalar.remsi v21 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c16_i32 : BitVec 32 := 16#32
  let v50 : BitVec 32 := Scalar.muli v48 c16_i32
  let c0_i32_16 : BitVec 32 := 0#32
  let v23 : BitVec 1 := Scalar.cmpi .sgt v21 c0_i32_16
  let v24 : BitVec 32 := Scalar.extui v23
  let c0_i32_17 : BitVec 32 := 0#32
  let v25 : BitVec 1 := Scalar.cmpi .slt v21 c0_i32_17
  let v26 : BitVec 32 := Scalar.extui v25
  let v27 : BitVec 32 := Scalar.subi v24 v26
  let c2_i32_15 : BitVec 32 := 2#32
  let c0_i32_18 : BitVec 32 := 0#32
  let v28 : BitVec 1 := Scalar.cmpi .sgt c2_i32_15 c0_i32_18
  let v29 : BitVec 32 := Scalar.extui v28
  let c0_i32_19 : BitVec 32 := 0#32
  let v30 : BitVec 1 := Scalar.cmpi .slt c2_i32_15 c0_i32_19
  let v31 : BitVec 32 := Scalar.extui v30
  let v32 : BitVec 32 := Scalar.subi v29 v31
  let v33 : BitVec 1 := Scalar.cmpi .ne v27 v32
  let v34 : BitVec 32 := Scalar.remsi v21 c2_i32_15
  let c0_i32_20 : BitVec 32 := 0#32
  let v35 : BitVec 1 := Scalar.cmpi .ne v34 c0_i32_20
  let v36 : BitVec 1 := Scalar.andi v33 v35
  let v22 : BitVec 32 := Scalar.divsi v21 c2_i32_15
  let c1_i32_21 : BitVec 32 := 1#32
  let v37 : BitVec 32 := Scalar.subi v22 c1_i32_21
  let v38 : BitVec 32 := Scalar.select v36 v37 v22
  let v51 : BitVec 32 := Scalar.addi v50 v38
  let c1024_i32 : BitVec 32 := 1024#32
  let v52 : BitVec 32 := Scalar.muli v51 c1024_i32
  let c0_i32_33 : BitVec 32 := 0#32
  let c1_i32_35 : BitVec 32 := 1#32
  let arg12 : BitVec 32 := Scf.iv c0_i32_33 c1_i32_35 k0_t4
  let c8_i32 : BitVec 32 := 8#32
  let v60 : BitVec 32 := Scalar.muli arg12 c8_i32
  let v97 : BitVec 32 := Scalar.addi v52 v60
  let c4_i32 : BitVec 32 := 4#32
  let v98 : BitVec 32 := Scalar.addi v97 c4_i32
  let v99 : Index := Scalar.indexCast v98
  ![v99.toNat]
def k0_off114 (i : grid0.Coords) : Fin 1 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  ![v49.toNat]
def k0_off115 (i : grid0.Coords) (k0_t4 : Fin k0_t4_loop.trips) : Fin 4 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  let c0_i32_33 : BitVec 32 := 0#32
  let c1_i32_35 : BitVec 32 := 1#32
  let arg12 : BitVec 32 := Scf.iv c0_i32_33 c1_i32_35 k0_t4
  let c4_i32_52 : BitVec 32 := 4#32
  let c0_i32_53 : BitVec 32 := 0#32
  ![v49.toNat, arg12.toNat, 4, 0]
def k0_off116 (v100 : BitVec 32) : Fin 2 → Nat :=
  let c0_i32_54 : BitVec 32 := 0#32
  ![v100.toNat, 0]

def k0_chk29 (i : grid0.Coords) (v100 : BitVec 32) : Prop :=
  (∀ (k0_h4 : k0_cond4 i = 1#1), ∀ (k0_h6 : k0_cond6 i = 1#1), ∀ a, (k0_off116 v100) a + S1x1024.size a ≤ S8192x1024.size a)
theorem k0_off116_inb : ∀ (i : grid0.Coords) (v100 : BitVec 32) (k0_hw29 : k0_chk29 i v100), ∀ (k0_h4 : k0_cond4 i = 1#1), ∀ (k0_h6 : k0_cond6 i = 1#1), ∀ a, (k0_off116 v100) a + S1x1024.size a ≤ S8192x1024.size a := fun i v100 k0_hw29 k0_h4 k0_h6 => k0_hw29 k0_h4 k0_h6

def k0_off117 (i : grid0.Coords) (k0_t4 : Fin k0_t4_loop.trips) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_14 : BitVec 32 := 1#32
  let v21 : BitVec 32 := Scalar.addi v1 c1_i32_14
  let c2_i32_22 : BitVec 32 := 2#32
  let c0_i32_23 : BitVec 32 := 0#32
  let v39 : BitVec 1 := Scalar.cmpi .eq c2_i32_22 c0_i32_23
  let c1_i32_24 : BitVec 32 := 1#32
  let v40 : BitVec 32 := Scalar.select v39 c1_i32_24 c2_i32_22
  let v41 : BitVec 32 := Scalar.remsi v21 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c16_i32 : BitVec 32 := 16#32
  let v50 : BitVec 32 := Scalar.muli v48 c16_i32
  let c0_i32_16 : BitVec 32 := 0#32
  let v23 : BitVec 1 := Scalar.cmpi .sgt v21 c0_i32_16
  let v24 : BitVec 32 := Scalar.extui v23
  let c0_i32_17 : BitVec 32 := 0#32
  let v25 : BitVec 1 := Scalar.cmpi .slt v21 c0_i32_17
  let v26 : BitVec 32 := Scalar.extui v25
  let v27 : BitVec 32 := Scalar.subi v24 v26
  let c2_i32_15 : BitVec 32 := 2#32
  let c0_i32_18 : BitVec 32 := 0#32
  let v28 : BitVec 1 := Scalar.cmpi .sgt c2_i32_15 c0_i32_18
  let v29 : BitVec 32 := Scalar.extui v28
  let c0_i32_19 : BitVec 32 := 0#32
  let v30 : BitVec 1 := Scalar.cmpi .slt c2_i32_15 c0_i32_19
  let v31 : BitVec 32 := Scalar.extui v30
  let v32 : BitVec 32 := Scalar.subi v29 v31
  let v33 : BitVec 1 := Scalar.cmpi .ne v27 v32
  let v34 : BitVec 32 := Scalar.remsi v21 c2_i32_15
  let c0_i32_20 : BitVec 32 := 0#32
  let v35 : BitVec 1 := Scalar.cmpi .ne v34 c0_i32_20
  let v36 : BitVec 1 := Scalar.andi v33 v35
  let v22 : BitVec 32 := Scalar.divsi v21 c2_i32_15
  let c1_i32_21 : BitVec 32 := 1#32
  let v37 : BitVec 32 := Scalar.subi v22 c1_i32_21
  let v38 : BitVec 32 := Scalar.select v36 v37 v22
  let v51 : BitVec 32 := Scalar.addi v50 v38
  let c1024_i32 : BitVec 32 := 1024#32
  let v52 : BitVec 32 := Scalar.muli v51 c1024_i32
  let c0_i32_33 : BitVec 32 := 0#32
  let c1_i32_35 : BitVec 32 := 1#32
  let arg12 : BitVec 32 := Scf.iv c0_i32_33 c1_i32_35 k0_t4
  let c8_i32 : BitVec 32 := 8#32
  let v60 : BitVec 32 := Scalar.muli arg12 c8_i32
  let v106 : BitVec 32 := Scalar.addi v52 v60
  let c5_i32 : BitVec 32 := 5#32
  let v107 : BitVec 32 := Scalar.addi v106 c5_i32
  let v108 : Index := Scalar.indexCast v107
  ![v108.toNat]
def k0_off118 (i : grid0.Coords) : Fin 1 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  ![v49.toNat]
def k0_off119 (i : grid0.Coords) (k0_t4 : Fin k0_t4_loop.trips) : Fin 4 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  let c0_i32_33 : BitVec 32 := 0#32
  let c1_i32_35 : BitVec 32 := 1#32
  let arg12 : BitVec 32 := Scf.iv c0_i32_33 c1_i32_35 k0_t4
  let c5_i32_55 : BitVec 32 := 5#32
  let c0_i32_56 : BitVec 32 := 0#32
  ![v49.toNat, arg12.toNat, 5, 0]
def k0_off120 (v109 : BitVec 32) : Fin 2 → Nat :=
  let c0_i32_57 : BitVec 32 := 0#32
  ![v109.toNat, 0]

def k0_chk30 (i : grid0.Coords) (v109 : BitVec 32) : Prop :=
  (∀ (k0_h4 : k0_cond4 i = 1#1), ∀ (k0_h6 : k0_cond6 i = 1#1), ∀ a, (k0_off120 v109) a + S1x1024.size a ≤ S8192x1024.size a)
theorem k0_off120_inb : ∀ (i : grid0.Coords) (v109 : BitVec 32) (k0_hw30 : k0_chk30 i v109), ∀ (k0_h4 : k0_cond4 i = 1#1), ∀ (k0_h6 : k0_cond6 i = 1#1), ∀ a, (k0_off120 v109) a + S1x1024.size a ≤ S8192x1024.size a := fun i v109 k0_hw30 k0_h4 k0_h6 => k0_hw30 k0_h4 k0_h6

def k0_off121 (i : grid0.Coords) (k0_t4 : Fin k0_t4_loop.trips) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_14 : BitVec 32 := 1#32
  let v21 : BitVec 32 := Scalar.addi v1 c1_i32_14
  let c2_i32_22 : BitVec 32 := 2#32
  let c0_i32_23 : BitVec 32 := 0#32
  let v39 : BitVec 1 := Scalar.cmpi .eq c2_i32_22 c0_i32_23
  let c1_i32_24 : BitVec 32 := 1#32
  let v40 : BitVec 32 := Scalar.select v39 c1_i32_24 c2_i32_22
  let v41 : BitVec 32 := Scalar.remsi v21 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c16_i32 : BitVec 32 := 16#32
  let v50 : BitVec 32 := Scalar.muli v48 c16_i32
  let c0_i32_16 : BitVec 32 := 0#32
  let v23 : BitVec 1 := Scalar.cmpi .sgt v21 c0_i32_16
  let v24 : BitVec 32 := Scalar.extui v23
  let c0_i32_17 : BitVec 32 := 0#32
  let v25 : BitVec 1 := Scalar.cmpi .slt v21 c0_i32_17
  let v26 : BitVec 32 := Scalar.extui v25
  let v27 : BitVec 32 := Scalar.subi v24 v26
  let c2_i32_15 : BitVec 32 := 2#32
  let c0_i32_18 : BitVec 32 := 0#32
  let v28 : BitVec 1 := Scalar.cmpi .sgt c2_i32_15 c0_i32_18
  let v29 : BitVec 32 := Scalar.extui v28
  let c0_i32_19 : BitVec 32 := 0#32
  let v30 : BitVec 1 := Scalar.cmpi .slt c2_i32_15 c0_i32_19
  let v31 : BitVec 32 := Scalar.extui v30
  let v32 : BitVec 32 := Scalar.subi v29 v31
  let v33 : BitVec 1 := Scalar.cmpi .ne v27 v32
  let v34 : BitVec 32 := Scalar.remsi v21 c2_i32_15
  let c0_i32_20 : BitVec 32 := 0#32
  let v35 : BitVec 1 := Scalar.cmpi .ne v34 c0_i32_20
  let v36 : BitVec 1 := Scalar.andi v33 v35
  let v22 : BitVec 32 := Scalar.divsi v21 c2_i32_15
  let c1_i32_21 : BitVec 32 := 1#32
  let v37 : BitVec 32 := Scalar.subi v22 c1_i32_21
  let v38 : BitVec 32 := Scalar.select v36 v37 v22
  let v51 : BitVec 32 := Scalar.addi v50 v38
  let c1024_i32 : BitVec 32 := 1024#32
  let v52 : BitVec 32 := Scalar.muli v51 c1024_i32
  let c0_i32_33 : BitVec 32 := 0#32
  let c1_i32_35 : BitVec 32 := 1#32
  let arg12 : BitVec 32 := Scf.iv c0_i32_33 c1_i32_35 k0_t4
  let c8_i32 : BitVec 32 := 8#32
  let v60 : BitVec 32 := Scalar.muli arg12 c8_i32
  let v115 : BitVec 32 := Scalar.addi v52 v60
  let c6_i32 : BitVec 32 := 6#32
  let v116 : BitVec 32 := Scalar.addi v115 c6_i32
  let v117 : Index := Scalar.indexCast v116
  ![v117.toNat]
def k0_off122 (i : grid0.Coords) : Fin 1 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  ![v49.toNat]
def k0_off123 (i : grid0.Coords) (k0_t4 : Fin k0_t4_loop.trips) : Fin 4 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  let c0_i32_33 : BitVec 32 := 0#32
  let c1_i32_35 : BitVec 32 := 1#32
  let arg12 : BitVec 32 := Scf.iv c0_i32_33 c1_i32_35 k0_t4
  let c6_i32_58 : BitVec 32 := 6#32
  let c0_i32_59 : BitVec 32 := 0#32
  ![v49.toNat, arg12.toNat, 6, 0]
def k0_off124 (v118 : BitVec 32) : Fin 2 → Nat :=
  let c0_i32_60 : BitVec 32 := 0#32
  ![v118.toNat, 0]

def k0_chk31 (i : grid0.Coords) (v118 : BitVec 32) : Prop :=
  (∀ (k0_h4 : k0_cond4 i = 1#1), ∀ (k0_h6 : k0_cond6 i = 1#1), ∀ a, (k0_off124 v118) a + S1x1024.size a ≤ S8192x1024.size a)
theorem k0_off124_inb : ∀ (i : grid0.Coords) (v118 : BitVec 32) (k0_hw31 : k0_chk31 i v118), ∀ (k0_h4 : k0_cond4 i = 1#1), ∀ (k0_h6 : k0_cond6 i = 1#1), ∀ a, (k0_off124 v118) a + S1x1024.size a ≤ S8192x1024.size a := fun i v118 k0_hw31 k0_h4 k0_h6 => k0_hw31 k0_h4 k0_h6

def k0_off125 (i : grid0.Coords) (k0_t4 : Fin k0_t4_loop.trips) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_14 : BitVec 32 := 1#32
  let v21 : BitVec 32 := Scalar.addi v1 c1_i32_14
  let c2_i32_22 : BitVec 32 := 2#32
  let c0_i32_23 : BitVec 32 := 0#32
  let v39 : BitVec 1 := Scalar.cmpi .eq c2_i32_22 c0_i32_23
  let c1_i32_24 : BitVec 32 := 1#32
  let v40 : BitVec 32 := Scalar.select v39 c1_i32_24 c2_i32_22
  let v41 : BitVec 32 := Scalar.remsi v21 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c16_i32 : BitVec 32 := 16#32
  let v50 : BitVec 32 := Scalar.muli v48 c16_i32
  let c0_i32_16 : BitVec 32 := 0#32
  let v23 : BitVec 1 := Scalar.cmpi .sgt v21 c0_i32_16
  let v24 : BitVec 32 := Scalar.extui v23
  let c0_i32_17 : BitVec 32 := 0#32
  let v25 : BitVec 1 := Scalar.cmpi .slt v21 c0_i32_17
  let v26 : BitVec 32 := Scalar.extui v25
  let v27 : BitVec 32 := Scalar.subi v24 v26
  let c2_i32_15 : BitVec 32 := 2#32
  let c0_i32_18 : BitVec 32 := 0#32
  let v28 : BitVec 1 := Scalar.cmpi .sgt c2_i32_15 c0_i32_18
  let v29 : BitVec 32 := Scalar.extui v28
  let c0_i32_19 : BitVec 32 := 0#32
  let v30 : BitVec 1 := Scalar.cmpi .slt c2_i32_15 c0_i32_19
  let v31 : BitVec 32 := Scalar.extui v30
  let v32 : BitVec 32 := Scalar.subi v29 v31
  let v33 : BitVec 1 := Scalar.cmpi .ne v27 v32
  let v34 : BitVec 32 := Scalar.remsi v21 c2_i32_15
  let c0_i32_20 : BitVec 32 := 0#32
  let v35 : BitVec 1 := Scalar.cmpi .ne v34 c0_i32_20
  let v36 : BitVec 1 := Scalar.andi v33 v35
  let v22 : BitVec 32 := Scalar.divsi v21 c2_i32_15
  let c1_i32_21 : BitVec 32 := 1#32
  let v37 : BitVec 32 := Scalar.subi v22 c1_i32_21
  let v38 : BitVec 32 := Scalar.select v36 v37 v22
  let v51 : BitVec 32 := Scalar.addi v50 v38
  let c1024_i32 : BitVec 32 := 1024#32
  let v52 : BitVec 32 := Scalar.muli v51 c1024_i32
  let c0_i32_33 : BitVec 32 := 0#32
  let c1_i32_35 : BitVec 32 := 1#32
  let arg12 : BitVec 32 := Scf.iv c0_i32_33 c1_i32_35 k0_t4
  let c8_i32 : BitVec 32 := 8#32
  let v60 : BitVec 32 := Scalar.muli arg12 c8_i32
  let v124 : BitVec 32 := Scalar.addi v52 v60
  let c7_i32 : BitVec 32 := 7#32
  let v125 : BitVec 32 := Scalar.addi v124 c7_i32
  let v126 : Index := Scalar.indexCast v125
  ![v126.toNat]
def k0_off126 (i : grid0.Coords) : Fin 1 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  ![v49.toNat]
def k0_off127 (i : grid0.Coords) (k0_t4 : Fin k0_t4_loop.trips) : Fin 4 → Nat :=
  let c1_i32_28 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v49 : BitVec 32 := Scalar.subi c1_i32_28 v11
  let c0_i32_33 : BitVec 32 := 0#32
  let c1_i32_35 : BitVec 32 := 1#32
  let arg12 : BitVec 32 := Scf.iv c0_i32_33 c1_i32_35 k0_t4
  let c7_i32_61 : BitVec 32 := 7#32
  let c0_i32_62 : BitVec 32 := 0#32
  ![v49.toNat, arg12.toNat, 7, 0]
def k0_off128 (v127 : BitVec 32) : Fin 2 → Nat :=
  let c0_i32_63 : BitVec 32 := 0#32
  ![v127.toNat, 0]

def k0_chk32 (i : grid0.Coords) (v127 : BitVec 32) : Prop :=
  (∀ (k0_h4 : k0_cond4 i = 1#1), ∀ (k0_h6 : k0_cond6 i = 1#1), ∀ a, (k0_off128 v127) a + S1x1024.size a ≤ S8192x1024.size a)
theorem k0_off128_inb : ∀ (i : grid0.Coords) (v127 : BitVec 32) (k0_hw32 : k0_chk32 i v127), ∀ (k0_h4 : k0_cond4 i = 1#1), ∀ (k0_h6 : k0_cond6 i = 1#1), ∀ a, (k0_off128 v127) a + S1x1024.size a ≤ S8192x1024.size a := fun i v127 k0_hw32 k0_h4 k0_h6 => k0_hw32 k0_h4 k0_h6

@[reducible] def k0_t5_loop : Scf.Loop 32 :=
  let c0_i32_8 : BitVec 32 := 0#32
  let c128_i32 : BitVec 32 := 128#32
  let v19 : BitVec 32 := Scalar.addi c0_i32_8 c128_i32
  let c1_i32_9 : BitVec 32 := 1#32
  ⟨c0_i32_8, v19, c1_i32_9⟩
def k0_off129 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  ![v11.toNat]
def k0_off130 (i : grid0.Coords) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_14 : BitVec 32 := 0#32
  let c0_i32_15 : BitVec 32 := 0#32
  let c0_i32_16 : BitVec 32 := 0#32
  ![v11.toNat, 0, 0, 0]
@[reducible] def k0_t6_loop : Scf.Loop 32 :=
  let c0_i32_10 : BitVec 32 := 0#32
  let c2_i32_11 : BitVec 32 := 2#32
  let v20 : BitVec 32 := Scalar.addi c0_i32_10 c2_i32_11
  let c1_i32_12 : BitVec 32 := 1#32
  ⟨c0_i32_10, v20, c1_i32_12⟩
def k0_mult1 (k0_t6 : Fin k0_t6_loop.trips) : BitVec 32 :=
  let c0_i32_10 : BitVec 32 := 0#32
  let c1_i32_12 : BitVec 32 := 1#32
  let arg12 : BitVec 32 := Scf.iv c0_i32_10 c1_i32_12 k0_t6
  let c512_i32 : BitVec 32 := 512#32
  let v21 : BitVec 32 := Scalar.muli arg12 c512_i32
  v21
def k0_mult2 (k0_t6 : Fin k0_t6_loop.trips) : BitVec 32 :=
  let c0_i32_10 : BitVec 32 := 0#32
  let c1_i32_12 : BitVec 32 := 1#32
  let arg12 : BitVec 32 := Scf.iv c0_i32_10 c1_i32_12 k0_t6
  let c64_i32 : BitVec 32 := 64#32
  let v23 : BitVec 32 := Scalar.muli arg12 c64_i32
  v23
def k0_off131 (i : grid0.Coords) (k0_t6 : Fin k0_t6_loop.trips) : Fin 4 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let v25 : Index := Scalar.indexCast v11
  let c0_i32_10 : BitVec 32 := 0#32
  let c1_i32_12 : BitVec 32 := 1#32
  let arg12 : BitVec 32 := Scf.iv c0_i32_10 c1_i32_12 k0_t6
  let c64_i32 : BitVec 32 := 64#32
  let v23 : BitVec 32 := Scalar.muli arg12 c64_i32
  let v24 : BitVec 32 := v23
  let v26 : Index := Scalar.indexCast v24
  let c0 : Index := 0#32
  let c0_14 : Index := 0#32
  ![v25.toNat, v26.toNat, 0, 0]
def k0_off132 (k0_t6 : Fin k0_t6_loop.trips) : Fin 4 → Nat :=
  let c0_32 : Index := 0#32
  let c0_33 : Index := 0#32
  let c0_i32_10 : BitVec 32 := 0#32
  let c1_i32_12 : BitVec 32 := 1#32
  let arg12 : BitVec 32 := Scf.iv c0_i32_10 c1_i32_12 k0_t6
  let c512_i32 : BitVec 32 := 512#32
  let v21 : BitVec 32 := Scalar.muli arg12 c512_i32
  let v22 : BitVec 32 := v21
  let v50 : Index := Scalar.indexCast v22
  let c0_34 : Index := 0#32
  ![0, 0, v50.toNat, 0]
def k0_off133 (k0_t6 : Fin k0_t6_loop.trips) : Fin 4 → Nat :=
  let c0_35 : Index := 0#32
  let c0_36 : Index := 0#32
  let c0_i32_10 : BitVec 32 := 0#32
  let c1_i32_12 : BitVec 32 := 1#32
  let arg12 : BitVec 32 := Scf.iv c0_i32_10 c1_i32_12 k0_t6
  let c512_i32 : BitVec 32 := 512#32
  let v21 : BitVec 32 := Scalar.muli arg12 c512_i32
  let v22 : BitVec 32 := v21
  let v56 : Index := Scalar.indexCast v22
  let c0_37 : Index := 0#32
  ![0, 0, v56.toNat, 0]
def k0_off134 (k0_t6 : Fin k0_t6_loop.trips) : Fin 4 → Nat :=
  let c0_38 : Index := 0#32
  let c0_39 : Index := 0#32
  let c0_i32_10 : BitVec 32 := 0#32
  let c1_i32_12 : BitVec 32 := 1#32
  let arg12 : BitVec 32 := Scf.iv c0_i32_10 c1_i32_12 k0_t6
  let c512_i32 : BitVec 32 := 512#32
  let v21 : BitVec 32 := Scalar.muli arg12 c512_i32
  let v22 : BitVec 32 := v21
  let v63 : Index := Scalar.indexCast v22
  let c128 : Index := 128#32
  ![0, 0, v63.toNat, 128]
def k0_off135 (k0_t6 : Fin k0_t6_loop.trips) : Fin 4 → Nat :=
  let c0_40 : Index := 0#32
  let c0_41 : Index := 0#32
  let c0_i32_10 : BitVec 32 := 0#32
  let c1_i32_12 : BitVec 32 := 1#32
  let arg12 : BitVec 32 := Scf.iv c0_i32_10 c1_i32_12 k0_t6
  let c512_i32 : BitVec 32 := 512#32
  let v21 : BitVec 32 := Scalar.muli arg12 c512_i32
  let v22 : BitVec 32 := v21
  let v70 : Index := Scalar.indexCast v22
  let c256 : Index := 256#32
  ![0, 0, v70.toNat, 256]
def k0_off136 (k0_t6 : Fin k0_t6_loop.trips) : Fin 4 → Nat :=
  let c0_42 : Index := 0#32
  let c0_43 : Index := 0#32
  let c0_i32_10 : BitVec 32 := 0#32
  let c1_i32_12 : BitVec 32 := 1#32
  let arg12 : BitVec 32 := Scf.iv c0_i32_10 c1_i32_12 k0_t6
  let c512_i32 : BitVec 32 := 512#32
  let v21 : BitVec 32 := Scalar.muli arg12 c512_i32
  let v22 : BitVec 32 := v21
  let v77 : Index := Scalar.indexCast v22
  let c384 : Index := 384#32
  ![0, 0, v77.toNat, 384]
def k0_off137 (k0_t6 : Fin k0_t6_loop.trips) : Fin 4 → Nat :=
  let c0_44 : Index := 0#32
  let c0_45 : Index := 0#32
  let c0_i32_10 : BitVec 32 := 0#32
  let c1_i32_12 : BitVec 32 := 1#32
  let arg12 : BitVec 32 := Scf.iv c0_i32_10 c1_i32_12 k0_t6
  let c512_i32 : BitVec 32 := 512#32
  let v21 : BitVec 32 := Scalar.muli arg12 c512_i32
  let v22 : BitVec 32 := v21
  let v84 : Index := Scalar.indexCast v22
  let c512 : Index := 512#32
  ![0, 0, v84.toNat, 512]
def k0_off138 (k0_t6 : Fin k0_t6_loop.trips) : Fin 4 → Nat :=
  let c0_46 : Index := 0#32
  let c0_47 : Index := 0#32
  let c0_i32_10 : BitVec 32 := 0#32
  let c1_i32_12 : BitVec 32 := 1#32
  let arg12 : BitVec 32 := Scf.iv c0_i32_10 c1_i32_12 k0_t6
  let c512_i32 : BitVec 32 := 512#32
  let v21 : BitVec 32 := Scalar.muli arg12 c512_i32
  let v22 : BitVec 32 := v21
  let v91 : Index := Scalar.indexCast v22
  let c640 : Index := 640#32
  ![0, 0, v91.toNat, 640]
def k0_off139 (k0_t6 : Fin k0_t6_loop.trips) : Fin 4 → Nat :=
  let c0_48 : Index := 0#32
  let c0_49 : Index := 0#32
  let c0_i32_10 : BitVec 32 := 0#32
  let c1_i32_12 : BitVec 32 := 1#32
  let arg12 : BitVec 32 := Scf.iv c0_i32_10 c1_i32_12 k0_t6
  let c512_i32 : BitVec 32 := 512#32
  let v21 : BitVec 32 := Scalar.muli arg12 c512_i32
  let v22 : BitVec 32 := v21
  let v98 : Index := Scalar.indexCast v22
  let c768 : Index := 768#32
  ![0, 0, v98.toNat, 768]
def k0_off140 (k0_t6 : Fin k0_t6_loop.trips) : Fin 4 → Nat :=
  let c0_50 : Index := 0#32
  let c0_51 : Index := 0#32
  let c0_i32_10 : BitVec 32 := 0#32
  let c1_i32_12 : BitVec 32 := 1#32
  let arg12 : BitVec 32 := Scf.iv c0_i32_10 c1_i32_12 k0_t6
  let c512_i32 : BitVec 32 := 512#32
  let v21 : BitVec 32 := Scalar.muli arg12 c512_i32
  let v22 : BitVec 32 := v21
  let v105 : Index := Scalar.indexCast v22
  let c896 : Index := 896#32
  ![0, 0, v105.toNat, 896]
def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x16x1024 : Shape := ⟨3, ![2, 16, 1024]⟩
abbrev S8192x1024 : Shape := ⟨2, ![8192, 1024]⟩
abbrev S4x16x1024x1408 : Shape := ⟨4, ![4, 16, 1024, 1408]⟩
abbrev S4x16x1408x1024 : Shape := ⟨4, ![4, 16, 1408, 1024]⟩
abbrev S1x16x1024x1408 : Shape := ⟨4, ![1, 16, 1024, 1408]⟩
abbrev S16x1024x1408 : Shape := ⟨3, ![16, 1024, 1408]⟩
abbrev S1x16x1408x1024 : Shape := ⟨4, ![1, 16, 1408, 1024]⟩
abbrev S16x1408x1024 : Shape := ⟨3, ![16, 1408, 1024]⟩
abbrev S1x16x1024 : Shape := ⟨3, ![1, 16, 1024]⟩
abbrev S16x1024 : Shape := ⟨2, ![16, 1024]⟩
abbrev S_ : Shape := ⟨0, ![]⟩
abbrev S16x1024x1 : Shape := ⟨3, ![16, 1024, 1]⟩
abbrev S16x1024x1024 : Shape := ⟨3, ![16, 1024, 1024]⟩
abbrev S1x16x1024x1024 : Shape := ⟨4, ![1, 16, 1024, 1024]⟩
abbrev S2x16x1024x1024 : Shape := ⟨4, ![2, 16, 1024, 1024]⟩

abbrev nBuf : Space → Nat
  | .hbm => 75
  | .vmem => 0
  | .smem => 0
  | _ => 0

abbrev bufTy : (tb : Table) → Fin (tcTables nBuf tb) → BufTy
  | .hbm, ⟨0, _⟩ => ⟨S2x16x1024, .i32⟩
  | .hbm, ⟨1, _⟩ => ⟨S2x16x1024, .f32⟩
  | .hbm, ⟨2, _⟩ => ⟨S8192x1024, .f32⟩
  | .hbm, ⟨3, _⟩ => ⟨S8192x1024, .f32⟩
  | .hbm, ⟨4, _⟩ => ⟨S4x16x1024x1408, .f32⟩
  | .hbm, ⟨5, _⟩ => ⟨S4x16x1024x1408, .f32⟩
  | .hbm, ⟨6, _⟩ => ⟨S4x16x1408x1024, .f32⟩
  | .hbm, ⟨7, _⟩ => ⟨S1x16x1024x1408, .f32⟩
  | .hbm, ⟨8, _⟩ => ⟨S16x1024x1408, .f32⟩
  | .hbm, ⟨9, _⟩ => ⟨S1x16x1024x1408, .f32⟩
  | .hbm, ⟨10, _⟩ => ⟨S16x1024x1408, .f32⟩
  | .hbm, ⟨11, _⟩ => ⟨S1x16x1408x1024, .f32⟩
  | .hbm, ⟨12, _⟩ => ⟨S16x1408x1024, .f32⟩
  | .hbm, ⟨13, _⟩ => ⟨S1x16x1024, .i32⟩
  | .hbm, ⟨14, _⟩ => ⟨S16x1024, .i32⟩
  | .hbm, ⟨15, _⟩ => ⟨S1x16x1024, .f32⟩
  | .hbm, ⟨16, _⟩ => ⟨S16x1024, .f32⟩
  | .hbm, ⟨17, _⟩ => ⟨S_, .i32⟩
  | .hbm, ⟨18, _⟩ => ⟨S16x1024, .i32⟩
  | .hbm, ⟨19, _⟩ => ⟨S16x1024, .i1⟩
  | .hbm, ⟨20, _⟩ => ⟨S_, .i32⟩
  | .hbm, ⟨21, _⟩ => ⟨S16x1024, .i32⟩
  | .hbm, ⟨22, _⟩ => ⟨S16x1024, .i32⟩
  | .hbm, ⟨23, _⟩ => ⟨S16x1024, .i32⟩
  | .hbm, ⟨24, _⟩ => ⟨S16x1024x1, .i32⟩
  | .hbm, ⟨25, _⟩ => ⟨S16x1024x1024, .f32⟩
  | .hbm, ⟨26, _⟩ => ⟨S16x1024x1408, .f32⟩
  | .hbm, ⟨27, _⟩ => ⟨S16x1024x1408, .f32⟩
  | .hbm, ⟨28, _⟩ => ⟨S16x1024x1408, .f32⟩
  | .hbm, ⟨29, _⟩ => ⟨S_, .f32⟩
  | .hbm, ⟨30, _⟩ => ⟨S16x1024x1408, .f32⟩
  | .hbm, ⟨31, _⟩ => ⟨S16x1024x1408, .f32⟩
  | .hbm, ⟨32, _⟩ => ⟨S_, .f32⟩
  | .hbm, ⟨33, _⟩ => ⟨S16x1024x1408, .f32⟩
  | .hbm, ⟨34, _⟩ => ⟨S16x1024x1408, .f32⟩
  | .hbm, ⟨35, _⟩ => ⟨S16x1024x1408, .f32⟩
  | .hbm, ⟨36, _⟩ => ⟨S16x1024x1408, .f32⟩
  | .hbm, ⟨37, _⟩ => ⟨S16x1024x1408, .f32⟩
  | .hbm, ⟨38, _⟩ => ⟨S16x1024x1024, .f32⟩
  | .hbm, ⟨39, _⟩ => ⟨S16x1024x1, .f32⟩
  | .hbm, ⟨40, _⟩ => ⟨S16x1024x1024, .f32⟩
  | .hbm, ⟨41, _⟩ => ⟨S16x1024x1024, .f32⟩
  | .hbm, ⟨42, _⟩ => ⟨S1x16x1024, .i32⟩
  | .hbm, ⟨43, _⟩ => ⟨S16x1024, .i32⟩
  | .hbm, ⟨44, _⟩ => ⟨S1x16x1024, .f32⟩
  | .hbm, ⟨45, _⟩ => ⟨S16x1024, .f32⟩
  | .hbm, ⟨46, _⟩ => ⟨S_, .i32⟩
  | .hbm, ⟨47, _⟩ => ⟨S16x1024, .i32⟩
  | .hbm, ⟨48, _⟩ => ⟨S16x1024, .i1⟩
  | .hbm, ⟨49, _⟩ => ⟨S_, .i32⟩
  | .hbm, ⟨50, _⟩ => ⟨S16x1024, .i32⟩
  | .hbm, ⟨51, _⟩ => ⟨S16x1024, .i32⟩
  | .hbm, ⟨52, _⟩ => ⟨S16x1024, .i32⟩
  | .hbm, ⟨53, _⟩ => ⟨S16x1024x1, .i32⟩
  | .hbm, ⟨54, _⟩ => ⟨S16x1024x1024, .f32⟩
  | .hbm, ⟨55, _⟩ => ⟨S16x1024x1408, .f32⟩
  | .hbm, ⟨56, _⟩ => ⟨S16x1024x1408, .f32⟩
  | .hbm, ⟨57, _⟩ => ⟨S16x1024x1408, .f32⟩
  | .hbm, ⟨58, _⟩ => ⟨S_, .f32⟩
  | .hbm, ⟨59, _⟩ => ⟨S16x1024x1408, .f32⟩
  | .hbm, ⟨60, _⟩ => ⟨S16x1024x1408, .f32⟩
  | .hbm, ⟨61, _⟩ => ⟨S_, .f32⟩
  | .hbm, ⟨62, _⟩ => ⟨S16x1024x1408, .f32⟩
  | .hbm, ⟨63, _⟩ => ⟨S16x1024x1408, .f32⟩
  | .hbm, ⟨64, _⟩ => ⟨S16x1024x1408, .f32⟩
  | .hbm, ⟨65, _⟩ => ⟨S16x1024x1408, .f32⟩
  | .hbm, ⟨66, _⟩ => ⟨S16x1024x1408, .f32⟩
  | .hbm, ⟨67, _⟩ => ⟨S16x1024x1024, .f32⟩
  | .hbm, ⟨68, _⟩ => ⟨S16x1024x1, .f32⟩
  | .hbm, ⟨69, _⟩ => ⟨S16x1024x1024, .f32⟩
  | .hbm, ⟨70, _⟩ => ⟨S16x1024x1024, .f32⟩
  | .hbm, ⟨71, _⟩ => ⟨S1x16x1024x1024, .f32⟩
  | .hbm, ⟨72, _⟩ => ⟨S1x16x1024x1024, .f32⟩
  | .hbm, ⟨73, _⟩ => ⟨S2x16x1024x1024, .f32⟩
  | .hbm, ⟨74, _⟩ => ⟨S2x16x1024x1024, .bf16⟩
  | _, _ => ⟨S2x16x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_1 : Ref sig .tc := ⟨.hbm, 46, rfl⟩
abbrev main_v29 : Ref sig .tc := ⟨.hbm, 47, rfl⟩
abbrev main_v30 : Ref sig .tc := ⟨.hbm, 48, rfl⟩
abbrev main_c_2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩

abbrev nD : Nat := 1
abbrev τ : Topo := Topo.v7x

variable {F : FTy → Type} [FloatOps F]
-- ==== Kernel2.lean ====
abbrev S32x256x1024 : Shape := ⟨3, ![32, 256, 1024]⟩
abbrev S1024 : Shape := ⟨1, ![1024]⟩
abbrev S1024x3072 : Shape := ⟨2, ![1024, 3072]⟩
abbrev S8192x1024 : Shape := ⟨2, ![8192, 1024]⟩
abbrev S1x1x1024 : Shape := ⟨3, ![1, 1, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 13
  | .vmem => 14
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x3072, .f32⟩
  | .hbm, ⟨5, _⟩ => ⟨S8192x1024, .f32⟩
  | .hbm, ⟨6, _⟩ => ⟨S1x1x1024, .f32⟩
  | .hbm, ⟨7, _⟩ => ⟨S1x1x1024, .f32⟩
  | .hbm, ⟨8, _⟩ => ⟨S1024x3072, .bf16⟩
  | .hbm, ⟨9, _⟩ => ⟨S1x1024, .f32⟩
  | .hbm, ⟨10, _⟩ => ⟨S8192x1024, .bf16⟩
  | .hbm, ⟨11, _⟩ => ⟨S8192x1024, .f32⟩
  | .hbm, ⟨12, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S32x256x1024 : Shape := ⟨3, ![32, 256, 1024]⟩
abbrev S1024 : Shape := ⟨1, ![1024]⟩
abbrev S1024x3072 : Shape := ⟨2, ![1024, 3072]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x256x3072 : Shape := ⟨3, ![32, 256, 3072]⟩
abbrev S8192x1024 : Shape := ⟨2, ![8192, 1024]⟩

abbrev nBuf : Space → Nat
  | .hbm => 44
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x3072, .f32⟩
  | .hbm, ⟨5, _⟩ => ⟨S32x256x1024, .f32⟩
  | .hbm, ⟨6, _⟩ => ⟨S_, .f32⟩
  | .hbm, ⟨7, _⟩ => ⟨S32x256, .f32⟩
  | .hbm, ⟨8, _⟩ => ⟨S32x256x1, .f32⟩
  | .hbm, ⟨9, _⟩ => ⟨S_, .f32⟩
  | .hbm, ⟨10, _⟩ => ⟨S32x256x1, .f32⟩
  | .hbm, ⟨11, _⟩ => ⟨S32x256x1, .f32⟩
  | .hbm, ⟨12, _⟩ => ⟨S_, .f32⟩
  | .hbm, ⟨13, _⟩ => ⟨S32x256x1, .f32⟩
  | .hbm, ⟨14, _⟩ => ⟨S32x256x1, .f32⟩
  | .hbm, ⟨15, _⟩ => ⟨S32x256x1, .f32⟩
  | .hbm, ⟨16, _⟩ => ⟨S32x256x1024, .f32⟩
  | .hbm, ⟨17, _⟩ => ⟨S32x256x1024, .f32⟩
  | .hbm, ⟨18, _⟩ => ⟨S1x1x1024, .f32⟩
  | .hbm, ⟨19, _⟩ => ⟨S32x256x1024, .f32⟩
  | .hbm, ⟨20, _⟩ => ⟨S32x256x1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1x1x1024, .f32⟩
  | .hbm, ⟨25, _⟩ => ⟨S32x256x1024, .f32⟩
  | .hbm, ⟨26, _⟩ => ⟨S32x256x1024, .f32⟩
  | .hbm, ⟨27, _⟩ => ⟨S1x1x1024, .f32⟩
  | .hbm, ⟨28, _⟩ => ⟨S32x256x1024, .f32⟩
  | .hbm, ⟨29, _⟩ => ⟨S32x256x1024, .f32⟩
  | .hbm, ⟨30, _⟩ => ⟨S32x256x3072, .f32⟩
  | .hbm, ⟨31, _⟩ => ⟨S32x256x1024, .f32⟩
  | .hbm, ⟨32, _⟩ => ⟨S32x256x1024, .f32⟩
  | .hbm, ⟨33, _⟩ => ⟨S32x256x1024, .f32⟩
  | .hbm, ⟨34, _⟩ => ⟨S_, .f32⟩
  | .hbm, ⟨35, _⟩ => ⟨S32x256x1024, .f32⟩
  | .hbm, ⟨36, _⟩ => ⟨S32x256x1024, .f32⟩
  | .hbm, ⟨37, _⟩ => ⟨S_, .f32⟩
  | .hbm, ⟨38, _⟩ => ⟨S32x256x1024, .f32⟩
  | .hbm, ⟨39, _⟩ => ⟨S32x256x1024, .f32⟩
  | .hbm, ⟨40, _⟩ => ⟨S8192x1024, .f32⟩
  | .hbm, ⟨41, _⟩ => ⟨S8192x1024, .bf16⟩
  | .hbm, ⟨42, _⟩ => ⟨S8192x1024, .f32⟩
  | .hbm, ⟨43, _⟩ => ⟨S8192x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel3.lean ====
abbrev S32x256x1024 : Shape := ⟨3, ![32, 256, 1024]⟩
abbrev S1024x1024 : Shape := ⟨2, ![1024, 1024]⟩
abbrev S1024 : Shape := ⟨1, ![1024]⟩
abbrev S1024x16 : Shape := ⟨2, ![1024, 16]⟩
abbrev S8192x1024 : Shape := ⟨2, ![8192, 1024]⟩
abbrev S1x1x1024 : Shape := ⟨3, ![1, 1, 1024]⟩
abbrev S16x1024 : Shape := ⟨2, ![16, 1024]⟩
abbrev S1x1024 : Shape := ⟨2, ![1, 1024]⟩
abbrev S64x16x128 : Shape := ⟨3, ![64, 16, 128]⟩
abbrev S512x1024 : Shape := ⟨2, ![512, 1024]⟩
abbrev S4x16x128 : Shape := ⟨3, ![4, 16, 128]⟩
abbrev S512 : Shape := ⟨1, ![512]⟩
abbrev S512x1 : Shape := ⟨2, ![512, 1]⟩
abbrev S16x512 : Shape := ⟨2, ![16, 512]⟩
abbrev S1x512 : Shape := ⟨2, ![1, 512]⟩
abbrev S16x128 : Shape := ⟨2, ![16, 128]⟩
abbrev S1x16x128 : Shape := ⟨3, ![1, 16, 128]⟩

abbrev nBuf : Space → Nat
  | .hbm => 21
  | .vmem => 19
  | .smem => 0
  | _ => 0

abbrev bufTy : (tb : Table) → Fin (tcTables nBuf tb) → BufTy
  | .hbm, ⟨0, _⟩ => ⟨S32x256x1024, .f32⟩
  | .hbm, ⟨1, _⟩ => ⟨S1024x1024, .f32⟩
  | .hbm, ⟨2, _⟩ => ⟨S32x256x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x16, .f32⟩
  | .hbm, ⟨8, _⟩ => ⟨S8192x1024, .f32⟩
  | .hbm, ⟨9, _⟩ => ⟨S8192x1024, .bf16⟩
  | .hbm, ⟨10, _⟩ => ⟨S1024x1024, .bf16⟩
  | .hbm, ⟨11, _⟩ => ⟨S8192x1024, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S16x1024, .f32⟩
  | .hbm, ⟨16, _⟩ => ⟨S16x1024, .bf16⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S64x16x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S16x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S4x16x128, .f32⟩
  | .local _ .vmem, ⟨18, _⟩ => ⟨S4x16x128, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S32x256x1024 : Shape := ⟨3, ![32, 256, 1024]⟩
abbrev S1024x1024 : Shape := ⟨2, ![1024, 1024]⟩
abbrev S1024 : Shape := ⟨1, ![1024]⟩
abbrev S1024x16 : Shape := ⟨2, ![1024, 16]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S8192x1024 : Shape := ⟨2, ![8192, 1024]⟩
abbrev S8192x16 : Shape := ⟨2, ![8192, 16]⟩
abbrev S8192 : Shape := ⟨1, ![8192]⟩
abbrev S8192x1 : Shape := ⟨2, ![8192, 1]⟩
abbrev S64x128x16 : Shape := ⟨3, ![64, 128, 16]⟩
abbrev S64x16x128 : Shape := ⟨3, ![64, 16, 128]⟩

abbrev nBuf : Space → Nat
  | .hbm => 57
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1024x1024, .f32⟩
  | .hbm, ⟨2, _⟩ => ⟨S32x256x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x16, .f32⟩
  | .hbm, ⟨8, _⟩ => ⟨S32x256x1024, .f32⟩
  | .hbm, ⟨9, _⟩ => ⟨S1x1x1024, .f32⟩
  | .hbm, ⟨10, _⟩ => ⟨S32x256x1024, .f32⟩
  | .hbm, ⟨11, _⟩ => ⟨S32x256x1024, .f32⟩
  | .hbm, ⟨12, _⟩ => ⟨S32x256x1024, .f32⟩
  | .hbm, ⟨13, _⟩ => ⟨S32x256x1024, .f32⟩
  | .hbm, ⟨14, _⟩ => ⟨S_, .f32⟩
  | .hbm, ⟨15, _⟩ => ⟨S32x256, .f32⟩
  | .hbm, ⟨16, _⟩ => ⟨S32x256x1, .f32⟩
  | .hbm, ⟨17, _⟩ => ⟨S_, .f32⟩
  | .hbm, ⟨18, _⟩ => ⟨S32x256x1, .f32⟩
  | .hbm, ⟨19, _⟩ => ⟨S32x256x1, .f32⟩
  | .hbm, ⟨20, _⟩ => ⟨S_, .f32⟩
  | .hbm, ⟨21, _⟩ => ⟨S32x256x1, .f32⟩
  | .hbm, ⟨22, _⟩ => ⟨S32x256x1, .f32⟩
  | .hbm, ⟨23, _⟩ => ⟨S32x256x1, .f32⟩
  | .hbm, ⟨24, _⟩ => ⟨S32x256x1024, .f32⟩
  | .hbm, ⟨25, _⟩ => ⟨S32x256x1024, .f32⟩
  | .hbm, ⟨26, _⟩ => ⟨S1x1x1024, .f32⟩
  | .hbm, ⟨27, _⟩ => ⟨S32x256x1024, .f32⟩
  | .hbm, ⟨28, _⟩ => ⟨S32x256x1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1x1024, .f32⟩
  | .hbm, ⟨33, _⟩ => ⟨S32x256x1024, .f32⟩
  | .hbm, ⟨34, _⟩ => ⟨S32x256x1024, .f32⟩
  | .hbm, ⟨35, _⟩ => ⟨S1x1x1024, .f32⟩
  | .hbm, ⟨36, _⟩ => ⟨S32x256x1024, .f32⟩
  | .hbm, ⟨37, _⟩ => ⟨S32x256x1024, .f32⟩
  | .hbm, ⟨38, _⟩ => ⟨S8192x1024, .f32⟩
  | .hbm, ⟨39, _⟩ => ⟨S8192x16, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1, .f32⟩
  | .hbm, ⟨46, _⟩ => ⟨S8192x16, .f32⟩
  | .hbm, ⟨47, _⟩ => ⟨S8192x16, .f32⟩
  | .hbm, ⟨48, _⟩ => ⟨S8192x16, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x16, .f32⟩
  | .hbm, ⟨53, _⟩ => ⟨S8192x16, .f32⟩
  | .hbm, ⟨54, _⟩ => ⟨S8192x1024, .f32⟩
  | .hbm, ⟨55, _⟩ => ⟨S64x128x16, .f32⟩
  | .hbm, ⟨56, _⟩ => ⟨S64x16x128, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Proof.Rows.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Batch
public import Idealize.ShloMosaic.Lib.Ring
public import Idealize.ShloMosaic.Lib.Tactic

@[expose] public section

/-! The rows the copies move: the row buffer's row `n` of slot `s` (1024 rows a slot, eight a block), a source row of
a hidden-state array, what a copy of one into the other lands, and the two as element sets. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem emb_unit_val {s : Shape} (off size : Fin s.rank → ℕ) (inb) (j : (Rect.unit off size inb).shape.Idx) (a : Fin s.rank) :
    (((Rect.unit off size inb).emb j a : Fin _) : ℕ) = off a + (j a : ℕ) := by
  rw [Rect.emb_apply]; show off a + 1 * (j a : ℕ) = _; rw [Nat.one_mul]

/-- The row buffer (two slots of 128 blocks of eight rows), whole. -/
abbrev M10 : Memref sig .tc .vmem S2x128x8x1024 .f32 := Memref.whole cc0_scratch0

/-- A copy's destination as printed: one row of the row buffer. -/
abbrev dstM (o : Fin 4 → ℕ) (h : ∀ a, o a + S1x1x1x1024.size a ≤ S2x128x8x1024.size a) : Memref sig .tc .vmem S1x1024 .f32 :=
  (M10.slice (Rect.unit (s := S2x128x8x1024) o S1x1x1x1024.size h) (fun _ => rfl)).squeeze S1x1024 squeezes_S1x1x1x1024_S1x1024

/-- A copy's source as printed: one row of a hidden-state array. -/
abbrev srcM (b : Memref sig .tc .hbm S8192x1024 .f32) (o : Fin 2 → ℕ) (h : ∀ a, o a + S1x1024.size a ≤ S8192x1024.size a) :
    Memref sig .tc .hbm S1x1024 .f32 :=
  b.slice (Rect.unit (s := S8192x1024) o S1x1024.size h) (fun _ => rfl)

/-- A slot's semaphore as printed. -/
abbrev semM (o : Fin 1 → ℕ) (h : ∀ a, o a + S1.size a ≤ S2.size a) : DmaSems sig S_ :=
  (cc0_scratch1.slice (Rect.unit (s := S2) o S1.size h)).squeeze S_ squeezes_S1_S_

/-- Slot `s`'s semaphore. -/
abbrev cell (s : Fin 2) : DmaSem sig := ⟨10 + s.val, by have := s.isLt; show _ < 12; omega⟩

theorem semM_inb (s : Fin 2) : ∀ a, (![s.val] : Fin 1 → ℕ) a + S1.size a ≤ S2.size a := by
  revert s; decide

theorem semM_eq (s : Fin 2) (o : Fin 1 → ℕ) (h : ∀ a, o a + S1.size a ≤ S2.size a) (ho : o = ![s.val]) :
    (semM o h).sem = cell s := by
  subst ho; revert s; decide

/-- Row `n` of slot `s`, as elements of the row buffer. -/
def dstSet (s : Fin 2) (n : Fin 1024) : Finset S2x128x8x1024.Idx :=
  Finset.univ.filter fun i => (i 0).val = s.val ∧ 8 * (i 1).val + (i 2).val = n.val

/-- Slot `s`, as elements of the row buffer. -/
def slotSet (s : Fin 2) : Finset S2x128x8x1024.Idx := Finset.univ.filter fun i => (i 0).val = s.val

theorem mem_dstSet (s : Fin 2) (n : Fin 1024) (i : S2x128x8x1024.Idx) :
    i ∈ dstSet s n ↔ (i 0).val = s.val ∧ 8 * (i 1).val + (i 2).val = n.val := by
  unfold dstSet; rw [Finset.mem_filter]; exact ⟨fun h => h.2, fun h => ⟨Finset.mem_univ _, h⟩⟩

theorem mem_slotSet (s : Fin 2) (i : S2x128x8x1024.Idx) : i ∈ slotSet s ↔ (i 0).val = s.val := by
  unfold slotSet; rw [Finset.mem_filter]; exact ⟨fun h => h.2, fun h => ⟨Finset.mem_univ _, h⟩⟩

theorem dstSet_disjoint (s : Fin 2) (n n' : Fin 1024) (h : n ≠ n') : Disjoint (dstSet s n) (dstSet s n') := by
  rw [Finset.disjoint_left]; intro i hi hi'
  rw [mem_dstSet] at hi hi'
  exact h (Fin.ext (by omega))

theorem slot_biUnion (s : Fin 2) : Finset.univ.biUnion (dstSet s) = slotSet s := by
  ext i
  rw [Finset.mem_biUnion, mem_slotSet]
  constructor
  · rintro ⟨n, -, hn⟩; exact ((mem_dstSet s n i).1 hn).1
  · intro h
    have h1 : (i 1).val < 128 := (i 1).isLt
    have h2 : (i 2).val < 8 := (i 2).isLt
    exact ⟨⟨8 * (i 1).val + (i 2).val, by omega⟩, Finset.mem_univ _, (mem_dstSet s _ i).2 ⟨h, rfl⟩⟩

theorem slot_disjoint : Disjoint (slotSet 0) (slotSet 1) := by
  rw [Finset.disjoint_left]; intro i hi hi'
  rw [mem_slotSet] at hi hi'
  rw [hi] at hi'; exact absurd hi' (by decide)

theorem slot_union : slotSet 0 ∪ slotSet 1 = Finset.univ := by
  ext i
  rw [Finset.mem_union, mem_slotSet, mem_slotSet]
  have h0 : (i 0).val < 2 := (i 0).isLt
  exact ⟨fun _ => Finset.mem_univ _, fun _ => by show (i 0).val = 0 ∨ (i 0).val = 1; omega⟩

theorem dst_set (s : Fin 2) (n : Fin 1024) (k u : ℕ) (hu : u < 8) (hn : n.val = 8 * k + u) (h) :
    (dstM ![s.val, k, u, 0] h).view.set = dstSet s n := by
  rw [View.set_reshape]
  ext i
  rw [View.set_slice_whole, Rect.mem_set_unit, mem_dstSet]
  have h3 : (i 3).val < 1024 := (i 3).isLt
  have h2 : (i 2).val < 8 := (i 2).isLt
  constructor
  · intro hh
    have a0 := hh 0; have a1 := hh 1; have a2 := hh 2
    simp at a0 a1 a2
    omega
  · rintro ⟨e0, e1⟩ a
    match a with
    | ⟨0, _⟩ => exact ⟨by show s.val ≤ (i 0).val; omega, by show (i 0).val < s.val + 1; omega⟩
    | ⟨1, _⟩ => exact ⟨by show k ≤ (i 1).val; omega, by show (i 1).val < k + 1; omega⟩
    | ⟨2, _⟩ => exact ⟨by show u ≤ (i 2).val; omega, by show (i 2).val < u + 1; omega⟩
    | ⟨3, _⟩ => exact ⟨by show 0 ≤ (i 3).val; omega, by show (i 3).val < 0 + 1024; omega⟩

theorem row_inb (r : Fin 8192) : ∀ a, (![r.val, 0] : Fin 2 → ℕ) a + S1x1024.size a ≤ S8192x1024.size a := by
  intro a
  have := r.isLt
  match a with
  | ⟨0, _⟩ => show r.val + 1 ≤ 8192; omega
  | ⟨1, _⟩ => show 0 + 1024 ≤ 1024; omega

/-- Where row `n` of a slot lies within its blocks. -/
def rowOf (i : S2x128x8x1024.Idx) : Fin 1024 :=
  ⟨8 * (i 1).val + (i 2).val, by have h1 : (i 1).val < 128 := (i 1).isLt; have h2 : (i 2).val < 8 := (i 2).isLt; omega⟩

/-- The index of row `r` at column `d` of a hidden-state array. -/
def hix (r : Fin 8192) (d : Fin 1024) : S8192x1024.Idx := Shape.pair (d := ![8192, 1024]) r d

/-- The gathered rows: row `n` of a slot is row `r n` of the array `b` holds. -/
def gath (b : Memref sig .tc .hbm S8192x1024 .f32) (fs : b.view.ty.Contents (Elt F)) (r : Fin 1024 → Fin 8192) :
    S2x128x8x1024.Idx → Elt F .f32 :=
  fun i => b.view.read (Elt F) fs (hix (r (rowOf i)) (i 3))

/-- What a copy of row `r n` into row `n` of slot `s` lands agrees with the gathered rows on that row. -/
theorem landed (b : Memref sig .tc .hbm S8192x1024 .f32) (fs : b.view.ty.Contents (Elt F)) (r : Fin 1024 → Fin 8192)
    (s : Fin 2) (n : Fin 1024) (k u : ℕ) (hu : u < 8) (hn : n.val = 8 * k + u) (h) (hs)
    (fd : M10.view.ty.Contents (Elt F)) (i : S2x128x8x1024.Idx) (hi : i ∈ dstSet s n) :
    (dstM ![s.val, k, u, 0] h).view.write (Elt F) fd ((ReadAs.same).apply ((srcM b ![(r n).val, 0] hs).view.read (Elt F) fs)) Finset.univ i
      = gath b fs r i := by
  rw [← dst_set s n k u hu hn h] at hi
  obtain ⟨x, -, rfl⟩ := Finset.mem_map.mp hi
  rw [View.write_emb_of_mem _ _ (Finset.mem_univ x)]
  have hx0 : (x 0).val = 0 := by have : (x 0).val < 1 := (x 0).isLt; omega
  have he : Shape.reshapeEquiv (s := S1x1x1x1024) (s' := S1x1024) (squeezes_S1x1x1x1024_S1x1024.numel_eq) x
      = (fun a => match a with | ⟨0, _⟩ => ⟨0, Nat.one_pos⟩ | ⟨1, _⟩ => ⟨0, Nat.one_pos⟩ | ⟨2, _⟩ => ⟨0, Nat.one_pos⟩ | ⟨3, _⟩ => ⟨(x 1).val, (x 1).isLt⟩ : S1x1x1x1024.Idx) := by
    refine Shape.reshapeEquiv_eq_of_rowMajor _ ?_
    rw [Shape.rowMajor_val_four, Shape.rowMajor_val_two]
    show ((0 * 1 + 0) * 1 + 0) * 1024 + (x 1).val = (x 0).val * 1024 + (x 1).val
    omega
  have hemb : ∀ a, (((dstM ![s.val, k, u, 0] h).view.emb x a : Fin _) : ℕ) = (![s.val, k, u, (x 1).val] : Fin 4 → ℕ) a := by
    intro a
    show (((Rect.unit (s := S2x128x8x1024) ![s.val, k, u, 0] S1x1x1x1024.size h).emb (Shape.reshapeEquiv (s := S1x1x1x1024) (s' := S1x1024) (squeezes_S1x1x1x1024_S1x1024.numel_eq) x) a : Fin _) : ℕ) = _
    rw [he, emb_unit_val]
    match a with
    | ⟨0, _⟩ => rfl
    | ⟨1, _⟩ => rfl
    | ⟨2, _⟩ => rfl
    | ⟨3, _⟩ => show 0 + (x 1).val = (x 1).val; omega
  have e1 := hemb 1; have e2 := hemb 2; have e3 := hemb 3
  have hrow : rowOf ((dstM ![s.val, k, u, 0] h).view.emb x) = n := by
    apply Fin.ext
    show 8 * (((dstM ![s.val, k, u, 0] h).view.emb x 1 : Fin _) : ℕ) + (((dstM ![s.val, k, u, 0] h).view.emb x 2 : Fin _) : ℕ) = n.val
    rw [e1, e2, hn]; rfl
  have h1 : gath b fs r ((dstM ![s.val, k, u, 0] h).view.emb x)
      = b.view.read (Elt F) fs (hix (r n) ⟨(x 1).val, (x 1).isLt⟩) := by
    unfold gath
    rw [hrow]
    congr 2
    exact Fin.ext e3
  rw [h1]
  have h2 : (Rect.unit (s := S8192x1024) ![(r n).val, 0] S1x1024.size hs).emb x = hix (r n) ⟨(x 1).val, (x 1).isLt⟩ := by
    funext a
    apply Fin.ext
    rw [emb_unit_val]
    match a with
    | ⟨0, _⟩ => show (r n).val + (x 0).val = (r n).val; omega
    | ⟨1, _⟩ => show 0 + (x 1).val = (x 1).val; omega
  rw [← h2]
  rfl

end Cert.KernelIdeal.Hand
-- ==== Proof.Offsets.lean ====
module

public import proofs.«01_k».proof.Proof.Gen.KernelIdeal.Skeleton

@[expose] public section

/-! The closed forms of the row copies' offsets: for each of the eight copies of a trip, where the semaphore, the
destination row and the index word of the copy lie, in terms of the grid point and the trip. Also the four
conditions of the body in terms of the grid point. -/

set_option maxRecDepth 16384

noncomputable section

namespace Cert.KernelIdeal.Hand

open Idealize.ShloMosaic Cert.KernelIdeal

theorem cond1_iff : ∀ i : grid0.Coords, k0_cond1 i = 1#1 ↔ ((i 0).val = 0 ∧ (i 1).val = 0) := by decide +kernel
theorem cond2_iff : ∀ i : grid0.Coords, k0_cond2 i = 1#1 ↔ (i 1).val = 0 := by decide +kernel
theorem cond3_iff : ∀ i : grid0.Coords, k0_cond3 i = 1#1 ↔ (i 1).val = 1 := by decide +kernel
theorem cond4_iff : ∀ i : grid0.Coords, k0_cond4 i = 1#1 ↔ ¬((i 0).val = 15 ∧ (i 1).val = 1) := by decide +kernel
theorem cond5_iff : ∀ i : grid0.Coords, k0_cond5 i = 1#1 ↔ (i 1).val = 1 := by decide +kernel
theorem cond6_iff : ∀ i : grid0.Coords, k0_cond6 i = 1#1 ↔ (i 1).val = 0 := by decide +kernel

theorem off1_at : ∀ (i : grid0.Coords) (k : Fin k0_t1_loop.trips), (i 0).val = 0 → (i 1).val = 0 → k0_off1 i k = ![8 * k.val + 0] := by decide +kernel
theorem off2_at : ∀ (i : grid0.Coords), (i 0).val = 0 → (i 1).val = 0 → k0_off2 i = ![0] := by decide +kernel
theorem off3_at : ∀ (i : grid0.Coords) (k : Fin k0_t1_loop.trips), (i 0).val = 0 → (i 1).val = 0 → k0_off3 i k = ![0, k.val, 0, 0] := by decide +kernel
theorem off5_at : ∀ (i : grid0.Coords) (k : Fin k0_t1_loop.trips), (i 0).val = 0 → (i 1).val = 0 → k0_off5 i k = ![8 * k.val + 1] := by decide +kernel
theorem off6_at : ∀ (i : grid0.Coords), (i 0).val = 0 → (i 1).val = 0 → k0_off6 i = ![0] := by decide +kernel
theorem off7_at : ∀ (i : grid0.Coords) (k : Fin k0_t1_loop.trips), (i 0).val = 0 → (i 1).val = 0 → k0_off7 i k = ![0, k.val, 1, 0] := by decide +kernel
theorem off9_at : ∀ (i : grid0.Coords) (k : Fin k0_t1_loop.trips), (i 0).val = 0 → (i 1).val = 0 → k0_off9 i k = ![8 * k.val + 2] := by decide +kernel
theorem off10_at : ∀ (i : grid0.Coords), (i 0).val = 0 → (i 1).val = 0 → k0_off10 i = ![0] := by decide +kernel
theorem off11_at : ∀ (i : grid0.Coords) (k : Fin k0_t1_loop.trips), (i 0).val = 0 → (i 1).val = 0 → k0_off11 i k = ![0, k.val, 2, 0] := by decide +kernel
theorem off13_at : ∀ (i : grid0.Coords) (k : Fin k0_t1_loop.trips), (i 0).val = 0 → (i 1).val = 0 → k0_off13 i k = ![8 * k.val + 3] := by decide +kernel
theorem off14_at : ∀ (i : grid0.Coords), (i 0).val = 0 → (i 1).val = 0 → k0_off14 i = ![0] := by decide +kernel
theorem off15_at : ∀ (i : grid0.Coords) (k : Fin k0_t1_loop.trips), (i 0).val = 0 → (i 1).val = 0 → k0_off15 i k = ![0, k.val, 3, 0] := by decide +kernel
theorem off17_at : ∀ (i : grid0.Coords) (k : Fin k0_t1_loop.trips), (i 0).val = 0 → (i 1).val = 0 → k0_off17 i k = ![8 * k.val + 4] := by decide +kernel
theorem off18_at : ∀ (i : grid0.Coords), (i 0).val = 0 → (i 1).val = 0 → k0_off18 i = ![0] := by decide +kernel
theorem off19_at : ∀ (i : grid0.Coords) (k : Fin k0_t1_loop.trips), (i 0).val = 0 → (i 1).val = 0 → k0_off19 i k = ![0, k.val, 4, 0] := by decide +kernel
theorem off21_at : ∀ (i : grid0.Coords) (k : Fin k0_t1_loop.trips), (i 0).val = 0 → (i 1).val = 0 → k0_off21 i k = ![8 * k.val + 5] := by decide +kernel
theorem off22_at : ∀ (i : grid0.Coords), (i 0).val = 0 → (i 1).val = 0 → k0_off22 i = ![0] := by decide +kernel
theorem off23_at : ∀ (i : grid0.Coords) (k : Fin k0_t1_loop.trips), (i 0).val = 0 → (i 1).val = 0 → k0_off23 i k = ![0, k.val, 5, 0] := by decide +kernel
theorem off25_at : ∀ (i : grid0.Coords) (k : Fin k0_t1_loop.trips), (i 0).val = 0 → (i 1).val = 0 → k0_off25 i k = ![8 * k.val + 6] := by decide +kernel
theorem off26_at : ∀ (i : grid0.Coords), (i 0).val = 0 → (i 1).val = 0 → k0_off26 i = ![0] := by decide +kernel
theorem off27_at : ∀ (i : grid0.Coords) (k : Fin k0_t1_loop.trips), (i 0).val = 0 → (i 1).val = 0 → k0_off27 i k = ![0, k.val, 6, 0] := by decide +kernel
theorem off29_at : ∀ (i : grid0.Coords) (k : Fin k0_t1_loop.trips), (i 0).val = 0 → (i 1).val = 0 → k0_off29 i k = ![8 * k.val + 7] := by decide +kernel
theorem off30_at : ∀ (i : grid0.Coords), (i 0).val = 0 → (i 1).val = 0 → k0_off30 i = ![0] := by decide +kernel
theorem off31_at : ∀ (i : grid0.Coords) (k : Fin k0_t1_loop.trips), (i 0).val = 0 → (i 1).val = 0 → k0_off31 i k = ![0, k.val, 7, 0] := by decide +kernel
theorem off65_at : ∀ (i : grid0.Coords) (k : Fin k0_t3_loop.trips), ¬((i 0).val = 15 ∧ (i 1).val = 1) → (i 1).val = 1 → k0_off65 i k = ![1024 * ((i 0).val + 1) + 8 * k.val + 0] := by decide +kernel
theorem off66_at : ∀ (i : grid0.Coords), ¬((i 0).val = 15 ∧ (i 1).val = 1) → (i 1).val = 1 → k0_off66 i = ![0] := by decide +kernel
theorem off67_at : ∀ (i : grid0.Coords) (k : Fin k0_t3_loop.trips), ¬((i 0).val = 15 ∧ (i 1).val = 1) → (i 1).val = 1 → k0_off67 i k = ![0, k.val, 0, 0] := by decide +kernel
theorem off69_at : ∀ (i : grid0.Coords) (k : Fin k0_t3_loop.trips), ¬((i 0).val = 15 ∧ (i 1).val = 1) → (i 1).val = 1 → k0_off69 i k = ![1024 * ((i 0).val + 1) + 8 * k.val + 1] := by decide +kernel
theorem off70_at : ∀ (i : grid0.Coords), ¬((i 0).val = 15 ∧ (i 1).val = 1) → (i 1).val = 1 → k0_off70 i = ![0] := by decide +kernel
theorem off71_at : ∀ (i : grid0.Coords) (k : Fin k0_t3_loop.trips), ¬((i 0).val = 15 ∧ (i 1).val = 1) → (i 1).val = 1 → k0_off71 i k = ![0, k.val, 1, 0] := by decide +kernel
theorem off73_at : ∀ (i : grid0.Coords) (k : Fin k0_t3_loop.trips), ¬((i 0).val = 15 ∧ (i 1).val = 1) → (i 1).val = 1 → k0_off73 i k = ![1024 * ((i 0).val + 1) + 8 * k.val + 2] := by decide +kernel
theorem off74_at : ∀ (i : grid0.Coords), ¬((i 0).val = 15 ∧ (i 1).val = 1) → (i 1).val = 1 → k0_off74 i = ![0] := by decide +kernel
theorem off75_at : ∀ (i : grid0.Coords) (k : Fin k0_t3_loop.trips), ¬((i 0).val = 15 ∧ (i 1).val = 1) → (i 1).val = 1 → k0_off75 i k = ![0, k.val, 2, 0] := by decide +kernel
theorem off77_at : ∀ (i : grid0.Coords) (k : Fin k0_t3_loop.trips), ¬((i 0).val = 15 ∧ (i 1).val = 1) → (i 1).val = 1 → k0_off77 i k = ![1024 * ((i 0).val + 1) + 8 * k.val + 3] := by decide +kernel
theorem off78_at : ∀ (i : grid0.Coords), ¬((i 0).val = 15 ∧ (i 1).val = 1) → (i 1).val = 1 → k0_off78 i = ![0] := by decide +kernel
theorem off79_at : ∀ (i : grid0.Coords) (k : Fin k0_t3_loop.trips), ¬((i 0).val = 15 ∧ (i 1).val = 1) → (i 1).val = 1 → k0_off79 i k = ![0, k.val, 3, 0] := by decide +kernel
theorem off81_at : ∀ (i : grid0.Coords) (k : Fin k0_t3_loop.trips), ¬((i 0).val = 15 ∧ (i 1).val = 1) → (i 1).val = 1 → k0_off81 i k = ![1024 * ((i 0).val + 1) + 8 * k.val + 4] := by decide +kernel
theorem off82_at : ∀ (i : grid0.Coords), ¬((i 0).val = 15 ∧ (i 1).val = 1) → (i 1).val = 1 → k0_off82 i = ![0] := by decide +kernel
theorem off83_at : ∀ (i : grid0.Coords) (k : Fin k0_t3_loop.trips), ¬((i 0).val = 15 ∧ (i 1).val = 1) → (i 1).val = 1 → k0_off83 i k = ![0, k.val, 4, 0] := by decide +kernel
theorem off85_at : ∀ (i : grid0.Coords) (k : Fin k0_t3_loop.trips), ¬((i 0).val = 15 ∧ (i 1).val = 1) → (i 1).val = 1 → k0_off85 i k = ![1024 * ((i 0).val + 1) + 8 * k.val + 5] := by decide +kernel
theorem off86_at : ∀ (i : grid0.Coords), ¬((i 0).val = 15 ∧ (i 1).val = 1) → (i 1).val = 1 → k0_off86 i = ![0] := by decide +kernel
theorem off87_at : ∀ (i : grid0.Coords) (k : Fin k0_t3_loop.trips), ¬((i 0).val = 15 ∧ (i 1).val = 1) → (i 1).val = 1 → k0_off87 i k = ![0, k.val, 5, 0] := by decide +kernel
theorem off89_at : ∀ (i : grid0.Coords) (k : Fin k0_t3_loop.trips), ¬((i 0).val = 15 ∧ (i 1).val = 1) → (i 1).val = 1 → k0_off89 i k = ![1024 * ((i 0).val + 1) + 8 * k.val + 6] := by decide +kernel
theorem off90_at : ∀ (i : grid0.Coords), ¬((i 0).val = 15 ∧ (i 1).val = 1) → (i 1).val = 1 → k0_off90 i = ![0] := by decide +kernel
theorem off91_at : ∀ (i : grid0.Coords) (k : Fin k0_t3_loop.trips), ¬((i 0).val = 15 ∧ (i 1).val = 1) → (i 1).val = 1 → k0_off91 i k = ![0, k.val, 6, 0] := by decide +kernel
theorem off93_at : ∀ (i : grid0.Coords) (k : Fin k0_t3_loop.trips), ¬((i 0).val = 15 ∧ (i 1).val = 1) → (i 1).val = 1 → k0_off93 i k = ![1024 * ((i 0).val + 1) + 8 * k.val + 7] := by decide +kernel
theorem off94_at : ∀ (i : grid0.Coords), ¬((i 0).val = 15 ∧ (i 1).val = 1) → (i 1).val = 1 → k0_off94 i = ![0] := by decide +kernel
theorem off95_at : ∀ (i : grid0.Coords) (k : Fin k0_t3_loop.trips), ¬((i 0).val = 15 ∧ (i 1).val = 1) → (i 1).val = 1 → k0_off95 i k = ![0, k.val, 7, 0] := by decide +kernel
theorem off97_at : ∀ (i : grid0.Coords) (k : Fin k0_t4_loop.trips), (i 1).val = 0 → k0_off97 i k = ![16384 + 1024 * (i 0).val + 8 * k.val + 0] := by decide +kernel
theorem off98_at : ∀ (i : grid0.Coords), (i 1).val = 0 → k0_off98 i = ![1] := by decide +kernel
theorem off99_at : ∀ (i : grid0.Coords) (k : Fin k0_t4_loop.trips), (i 1).val = 0 → k0_off99 i k = ![1, k.val, 0, 0] := by decide +kernel
theorem off101_at : ∀ (i : grid0.Coords) (k : Fin k0_t4_loop.trips), (i 1).val = 0 → k0_off101 i k = ![16384 + 1024 * (i 0).val + 8 * k.val + 1] := by decide +kernel
theorem off102_at : ∀ (i : grid0.Coords), (i 1).val = 0 → k0_off102 i = ![1] := by decide +kernel
theorem off103_at : ∀ (i : grid0.Coords) (k : Fin k0_t4_loop.trips), (i 1).val = 0 → k0_off103 i k = ![1, k.val, 1, 0] := by decide +kernel
theorem off105_at : ∀ (i : grid0.Coords) (k : Fin k0_t4_loop.trips), (i 1).val = 0 → k0_off105 i k = ![16384 + 1024 * (i 0).val + 8 * k.val + 2] := by decide +kernel
theorem off106_at : ∀ (i : grid0.Coords), (i 1).val = 0 → k0_off106 i = ![1] := by decide +kernel
theorem off107_at : ∀ (i : grid0.Coords) (k : Fin k0_t4_loop.trips), (i 1).val = 0 → k0_off107 i k = ![1, k.val, 2, 0] := by decide +kernel
theorem off109_at : ∀ (i : grid0.Coords) (k : Fin k0_t4_loop.trips), (i 1).val = 0 → k0_off109 i k = ![16384 + 1024 * (i 0).val + 8 * k.val + 3] := by decide +kernel
theorem off110_at : ∀ (i : grid0.Coords), (i 1).val = 0 → k0_off110 i = ![1] := by decide +kernel
theorem off111_at : ∀ (i : grid0.Coords) (k : Fin k0_t4_loop.trips), (i 1).val = 0 → k0_off111 i k = ![1, k.val, 3, 0] := by decide +kernel
theorem off113_at : ∀ (i : grid0.Coords) (k : Fin k0_t4_loop.trips), (i 1).val = 0 → k0_off113 i k = ![16384 + 1024 * (i 0).val + 8 * k.val + 4] := by decide +kernel
theorem off114_at : ∀ (i : grid0.Coords), (i 1).val = 0 → k0_off114 i = ![1] := by decide +kernel
theorem off115_at : ∀ (i : grid0.Coords) (k : Fin k0_t4_loop.trips), (i 1).val = 0 → k0_off115 i k = ![1, k.val, 4, 0] := by decide +kernel
theorem off117_at : ∀ (i : grid0.Coords) (k : Fin k0_t4_loop.trips), (i 1).val = 0 → k0_off117 i k = ![16384 + 1024 * (i 0).val + 8 * k.val + 5] := by decide +kernel
theorem off118_at : ∀ (i : grid0.Coords), (i 1).val = 0 → k0_off118 i = ![1] := by decide +kernel
theorem off119_at : ∀ (i : grid0.Coords) (k : Fin k0_t4_loop.trips), (i 1).val = 0 → k0_off119 i k = ![1, k.val, 5, 0] := by decide +kernel
theorem off121_at : ∀ (i : grid0.Coords) (k : Fin k0_t4_loop.trips), (i 1).val = 0 → k0_off121 i k = ![16384 + 1024 * (i 0).val + 8 * k.val + 6] := by decide +kernel
theorem off122_at : ∀ (i : grid0.Coords), (i 1).val = 0 → k0_off122 i = ![1] := by decide +kernel
theorem off123_at : ∀ (i : grid0.Coords) (k : Fin k0_t4_loop.trips), (i 1).val = 0 → k0_off123 i k = ![1, k.val, 6, 0] := by decide +kernel
theorem off125_at : ∀ (i : grid0.Coords) (k : Fin k0_t4_loop.trips), (i 1).val = 0 → k0_off125 i k = ![16384 + 1024 * (i 0).val + 8 * k.val + 7] := by decide +kernel
theorem off126_at : ∀ (i : grid0.Coords), (i 1).val = 0 → k0_off126 i = ![1] := by decide +kernel
theorem off127_at : ∀ (i : grid0.Coords) (k : Fin k0_t4_loop.trips), (i 1).val = 0 → k0_off127 i k = ![1, k.val, 7, 0] := by decide +kernel

theorem off129_at : ∀ i : grid0.Coords, k0_off129 i = ![(i 1).val] := by decide +kernel
theorem off130_at : ∀ i : grid0.Coords, k0_off130 i = ![(i 1).val, 0, 0, 0] := by decide +kernel
theorem off131_at : ∀ (i : grid0.Coords) (k : Fin k0_t6_loop.trips), k0_off131 i k = ![(i 1).val, 64 * k.val, 0, 0] := by decide +kernel

end Cert.KernelIdeal.Hand
-- ==== Proof.Issue.lean ====
module

public import proofs.«01_k».proof.Proof.Rows
public import proofs.«01_k».proof.Proof.Offsets

@[expose] public section

/-! One row copy: what it delivers, and the step that issues the next of a slot's 1024 copies. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The transfers' counters in the proof's algebra. -/
abbrev EC : UEmb Counters 𝕄 := countersEmb (U := Pipeline.UD sig nD τ)

/-- The contents of a hidden-state array's buffer. -/
abbrev HBuf (c : Dev nD) (b : Memref sig .tc .hbm S8192x1024 .f32) : Type := Buf (Elt F) (b.view.loc (c : Thread nD τ))

/-- One row copy's amount. -/
abbrev amt : ℕ := (dstM ![0, 0, 0, 0] (by decide)).view.dmaCredit

/-- A share of the source array lent to copy `n`. -/
abbrev tokS (n : Fin 1024) : PosShare TreeShare := Transfers.shareTokN fullShare n.val

/-- The elements of source row `r`. -/
abbrev srcSet (b : Memref sig .tc .hbm S8192x1024 .f32) (r : Fin 8192) : Finset b.view.ty.Idx :=
  (srcM b ![r.val, 0] (row_inb r)).view.set

variable (c : Dev nD) (b : Memref sig .tc .hbm S8192x1024 .f32) (fs : HBuf (F := F) c b) (s : Fin 2) (r : Fin 1024 → Fin 8192)

/-- What copy `n` of slot `s` delivers: the slot's row `n` at the gathered rows, and the source row lent to it. -/
def deliv (n : Fin 1024) : sProp 𝕄 :=
  iprop((M10.view.loc (c : Thread nD τ) ↦[dstSet s n]{fullShare} (gath b fs r : Buf (Elt F) (M10.view.loc (c : Thread nD τ))))
    ∗ (b.view.loc (c : Thread nD τ) ↦[srcSet b (r n)]{tokS n} fs))

instance deliv_storable (n : Fin 1024) : Storable (upEmb : UEmb _ 𝕄) (deliv c b fs s r n) := by
  unfold deliv; infer_instance

/-- Before copy `n` of slot `s`: `n` copies issued, the source shares and the slot's rows of the others still here, and of
    the source shares of the ones issued what the copies did not take. -/
def issueSt (n : ℕ) : sProp 𝕄 :=
  iprop(Transfers.Batch (Lvl := ℕ) EC (c : Thread nD τ) (SemLoc.dma (cell s)) () amt (deliv c b fs s r) n 0
    ∗ bigSep (Transfers.pending n) (fun t : Fin 1024 => (b.view.loc (c : Thread nD τ) ↦[b.view.set]{tokS t} fs : sProp 𝕄))
    ∗ bigSep (Transfers.pending n) (fun t : Fin 1024 => (iprop(∃ fd, M10.view.loc (c : Thread nD τ) ↦[dstSet s t]{fullShare} fd) : sProp 𝕄))
    ∗ bigSep (Transfers.issued n) (fun t : Fin 1024 => (b.view.loc (c : Thread nD τ) ↦[b.view.set \ srcSet b (r t)]{tokS t} fs : sProp 𝕄)))

theorem srcSet_sub (b : Memref sig .tc .hbm S8192x1024 .f32) (r : Fin 8192) : srcSet b r ⊆ b.view.set :=
  View.set_slice_subset _ _

set_option maxHeartbeats 1000000 in
/-- The step that issues copy `n`. -/
theorem issue_step (n : ℕ) (k u : ℕ) (hu : u < 8) (hk : k < 128) (hn : n = 8 * k + u)
    (od : Fin 4 → ℕ) (hd) (hod : od = ![s.val, k, u, 0]) (os : Fin 1 → ℕ) (hos) (hoss : os = ![s.val])
    (osr : Fin 2 → ℕ) (hosr) (hosrr : osr = ![(r ⟨n, by omega⟩).val, 0])
    {h1} {h2} {h3} {K : PUnit → Prog (TpuEff nD τ sig (Elt F) Λ₀ .tc) PUnit} {Q : PUnit → sProp 𝕄} :
    issueSt c b fs s r n
      ⊢ iprop((issueSt c b fs s r (n + 1) -∗ wp frame (wpE (defs₀ (F := F)) Variants.none (c : Thread nD τ) none) Set.univ (K ⟨⟩) Q)
          -∗ wp frame (wpE (defs₀ (F := F)) Variants.none (c : Thread nD τ) none) Set.univ
              (.op (.enqueueDma (srcM b osr hosr) (.here (dstM od hd)) (.dma (semM os hos).sem) h1 h2 h3) K) Q) := by
  subst hod hosrr
  have hn' : n < 1024 := by omega
  have hsem : (semM os hos).sem = cell s := semM_eq s os hos hoss
  revert h3
  rw [hsem]
  intro h3
  unfold issueSt
  have hp1 : bigSep (Transfers.pending n) (fun t : Fin 1024 => (b.view.loc (c : Thread nD τ) ↦[b.view.set]{tokS t} fs : sProp 𝕄))
      ⊢ iprop((b.view.loc (c : Thread nD τ) ↦[b.view.set]{tokS ⟨n, hn'⟩} fs)
        ∗ bigSep (Transfers.pending (n + 1)) (fun t : Fin 1024 => (b.view.loc (c : Thread nD τ) ↦[b.view.set]{tokS t} fs : sProp 𝕄))) :=
    Entails.of_eq (by rw [Transfers.pending_succ hn', bigSep_insert (Transfers.not_mem_pending_succ hn')]; rfl)
  have hp2 : bigSep (Transfers.pending n) (fun t : Fin 1024 => (iprop(∃ fd, M10.view.loc (c : Thread nD τ) ↦[dstSet s t]{fullShare} fd) : sProp 𝕄))
      ⊢ iprop((∃ fd, M10.view.loc (c : Thread nD τ) ↦[dstSet s ⟨n, hn'⟩]{fullShare} fd)
        ∗ bigSep (Transfers.pending (n + 1)) (fun t : Fin 1024 => (iprop(∃ fd, M10.view.loc (c : Thread nD τ) ↦[dstSet s t]{fullShare} fd) : sProp 𝕄))) :=
    Entails.of_eq (by rw [Transfers.pending_succ hn', bigSep_insert (Transfers.not_mem_pending_succ hn')]; rfl)
  have hi : iprop((b.view.loc (c : Thread nD τ) ↦[b.view.set \ srcSet b (r ⟨n, hn'⟩)]{tokS ⟨n, hn'⟩} fs)
        ∗ bigSep (Transfers.issued n) (fun t : Fin 1024 => (b.view.loc (c : Thread nD τ) ↦[b.view.set \ srcSet b (r t)]{tokS t} fs : sProp 𝕄)))
      ⊢ bigSep (Transfers.issued (n + 1)) (fun t : Fin 1024 => (b.view.loc (c : Thread nD τ) ↦[b.view.set \ srcSet b (r t)]{tokS t} fs : sProp 𝕄)) :=
    Entails.of_eq (by rw [Transfers.issued_succ hn', bigSep_insert (Transfers.not_mem_issued hn')]; rfl)
  iintro ⟨HB, Hp, Hd, Hi⟩ HK
  ihave Hp := hp1 $$ Hp
  ihave Hd := hp2 $$ Hd
  icases Hp with ⟨Ht, Hp⟩
  icases Hd with ⟨⟨%fd, Hd1⟩, Hd⟩
  ihave Ht := (pointsTo_split_subset (srcSet_sub b (r ⟨n, hn'⟩))).1 $$ Ht
  icases Ht with ⟨Hs, Hrem⟩
  have hD : iprop(((dstM ![s.val, k, u, 0] hd).view.loc (c : Thread nD τ) ↦[dstSet s ⟨n, hn'⟩]{fullShare} ((dstM ![s.val, k, u, 0] hd).view.write (Elt F) fd
        ((ReadAs.same).apply ((srcM b ![(r ⟨n, hn'⟩).val, 0] hosr).view.read (Elt F) fs)) Finset.univ))
        ∗ ((srcM b ![(r ⟨n, hn'⟩).val, 0] hosr).view.loc (c : Thread nD τ) ↦[(srcM b ![(r ⟨n, hn'⟩).val, 0] hosr).view.set]{tokS ⟨n, hn'⟩} fs))
      ⊢ deliv c b fs s r ⟨n, hn'⟩ :=
    sep_mono_left (Entails.of_eq (pointsTo_congr fun i hi => landed b fs r s ⟨n, hn'⟩ k u hu hn hd hosr fd i hi))
  have hw := Transfers.wp_dmaBatch (defs := defs₀ (F := F)) (Q := Q) (k := K) EC Variants.none (c : Thread nD τ) none (src := srcM b ![(r ⟨n, hn'⟩).val, 0] hosr) (dst := dstM ![s.val, k, u, 0] hd)
    (via := ReadAs.same) (sm := SemLoc.dma (cell s)) (hsrc := h1) (hdst := h2) (hsem := h3)
    (q := tokS ⟨n, hn'⟩) (fs := fs) (Sd := dstSet s ⟨n, hn'⟩) (fd := fd) (D := deliv c b fs s r) (j := n) (u := 0) () amt rfl
    (dst_set s ⟨n, hn'⟩ k u hu hn hd).subset hn' (Nat.zero_le _) hD
  iapply hw $$ [Hs Hd1 HB]
  · isplitl [Hs]; · iexact Hs
    isplitl [Hd1]; · iexact Hd1
    iexact HB
  iintro HB
  iapply HK
  isplitl [HB]; · iexact HB
  isplitl [Hp]; · iexact Hp
  isplitl [Hd]; · iexact Hd
  iapply hi
  isplitl [Hrem]; · iexact Hrem
  iexact Hi

end Cert.KernelIdeal.Hand
-- ==== Proof.Trip1.lean ====
module

public import proofs.«01_k».proof.Proof.Issue

@[expose] public section

/-! One trip of the first point's issue loop: eight row numbers read and eight row copies issued. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The row numbers' buffer's contents. -/
abbrev TBuf (c : Dev nD) : Type := Buf (Elt F) ((Memref.whole main_v5).view.loc (c : Thread nD τ))

/-- Entry `j` of the row numbers. -/
abbrev tix (j : Fin 32768) : S32768.Idx := fun a => ⟨j.val, by have h : a = 0 := Subsingleton.elim _ _; subst h; exact j.isLt⟩

variable (c : Dev nD)

theorem load_step (q : PosShare TreeShare) (T : TBuf (F := F) c) (j : Fin 32768) (o : Fin 1 → ℕ) (ho) (hoj : o = ![j.val]) {h1} {hp}
    {K : Elt F .i32 → Prog (TpuEff nD τ sig (Elt F) Λ₀ .tc) PUnit} {Q : PUnit → sProp 𝕄} :
    ((Memref.whole main_v5).view.loc (c : Thread nD τ) ↦{q} T)
      ⊢ iprop((((Memref.whole main_v5).view.loc (c : Thread nD τ) ↦{q} T) -∗ wp frame (wpE (defs₀ (F := F)) Variants.none (c : Thread nD τ) none) Set.univ (K (T (tix j))) Q)
          -∗ wp frame (wpE (defs₀ (F := F)) Variants.none (c : Thread nD τ) none) Set.univ
              ((smemLoad (Memref.whole main_v5) (Rect.unit (s := S32768) o S1.size ho) h1 hp : Prog (TpuEff nD τ sig (Elt F) Λ₀ .tc) (Elt F .i32)) >>= K) Q) := by
  subst hoj
  have h := wp_smemLoadElt (defs := defs₀ (F := F)) Variants.none (c : Thread nD τ) none Set.univ (Q := Q) (q := q) (S := Finset.univ) (f := T) (k := K)
    (m := Memref.whole main_v5) (r := Rect.unit (s := S32768) ![j.val] S1.size ho) (hw := View.loads_smem_one hp h1)
    (x := Shape.Idx.first (h1.symm ▸ Nat.one_pos)) (Γ := ∅) (Finset.subset_univ _)
  have e : (View.read (Elt F) ((Memref.whole main_v5).access (Rect.unit (s := S32768) ![j.val] S1.size ho)) T (Shape.Idx.first (h1.symm ▸ Nat.one_pos)) : Elt F .i32) = T (tix j) := by
    rw [View.read_apply]
    refine (congrArg T ?_)
    funext a
    apply Fin.ext
    refine (emb_unit_val (s := S32768) ![j.val] S1.size ho (Shape.Idx.first (h1.symm ▸ Nat.one_pos)) a).trans ?_
    have h0 : a = (0 : Fin 1) := Subsingleton.elim (α := Fin 1) _ _
    subst h0
    have h2 : (((Shape.Idx.first (h1.symm ▸ Nat.one_pos) : (Rect.unit (s := S32768) ![j.val] S1.size ho).shape.Idx) 0 : Fin _) : ℕ) = 0 :=
      Nat.lt_one_iff.1 (Fin.isLt _)
    exact congrArg (j.val + ·) h2
  rw [e] at h
  exact h

/-- The row numbers and slot `s` before copy `n`. -/
def copySt (q : PosShare TreeShare) (T : TBuf (F := F) c) (b : Memref sig .tc .hbm S8192x1024 .f32) (fs : HBuf (F := F) c b) (s : Fin 2)
    (r : Fin 1024 → Fin 8192) (n : ℕ) : sProp 𝕄 :=
  iprop(((Memref.whole main_v5).view.loc (c : Thread nD τ) ↦{q} T) ∗ issueSt c b fs s r n)

/-- One copy: its row number read, found in range, and the row's copy issued. -/
theorem copy_step (q : PosShare TreeShare) (T : TBuf (F := F) c) (b : Memref sig .tc .hbm S8192x1024 .f32) (fs : HBuf (F := F) c b) (s : Fin 2)
    (r : Fin 1024 → Fin 8192) (n : ℕ) (k u : ℕ) (hu : u < 8) (hk : k < 128) (hn : n = 8 * k + u)
    (j : Fin 32768) (hr : (T (tix j) : BitVec 32).toNat = (r ⟨n, by omega⟩).val)
    (oi : Fin 1 → ℕ) (hoi) (hoj : oi = ![j.val])
    (chk : BitVec 32 → Prop) (dec : ∀ x, Decidable (chk x)) (hchk : chk (T (tix j)))
    (osr : BitVec 32 → Fin 2 → ℕ) (hosr : ∀ x, chk x → ∀ a, osr x a + S1x1024.size a ≤ S8192x1024.size a) (hoss : ∀ x : BitVec 32, osr x = ![x.toNat, 0])
    (od : Fin 4 → ℕ) (hd) (hod : od = ![s.val, k, u, 0]) (os : Fin 1 → ℕ) (hos) (hsem : os = ![s.val])
    {g1} {g2} {h1 : ∀ x (y : PLift (chk x)), (srcM b (osr x) (hosr x y.down)).view.WordExact} {h2 : (dstM od hd).view.WordExact}
    {h3 : DmaTarget.Typed (nD := nD) Space.hbm (SemLoc.dma (semM os hos).sem) (.here (dstM od hd) : DmaTarget nD τ sig (c : Thread nD τ).2 .vmem S1x1024 .f32)} {K : PUnit → Prog (TpuEff nD τ sig (Elt F) Λ₀ .tc) PUnit} {Q : PUnit → sProp 𝕄} :
    copySt c q T b fs s r n
      ⊢ iprop((copySt c q T b fs s r (n + 1) -∗ wp frame (wpE (defs₀ (F := F)) Variants.none (c : Thread nD τ) none) Set.univ (K ⟨⟩) Q)
          -∗ wp frame (wpE (defs₀ (F := F)) Variants.none (c : Thread nD τ) none) Set.univ
              ((smemLoad (Memref.whole main_v5) (Rect.unit (s := S32768) oi S1.size hoi) g1 g2 : Prog (TpuEff nD τ sig (Elt F) Λ₀ .tc) (Elt F .i32)) >>= fun x =>
                (Prog.lift (TpuEff.assume (chk x) (dec x)) : Prog (TpuEff nD τ sig (Elt F) Λ₀ .tc) _) >>= fun y =>
                (Prog.lift (.enqueueDma (srcM b (osr x) (hosr x y.down)) (.here (dstM od hd)) (.dma (semM os hos).sem) (h1 x y) h2 h3)
                  : Prog (TpuEff nD τ sig (Elt F) Λ₀ .tc) _) >>= K) Q) := by
  unfold copySt
  iintro ⟨HT, HS⟩ HK
  iapply (load_step c q T j oi hoi hoj) $$ HT
  iintro HT
  iapply (wp_assume (defs := defs₀ (F := F)) Variants.none (c : Thread nD τ) none Set.univ hchk)
  iapply (issue_step c b fs s r n k u hu hk hn od hd hod os hos hsem (osr (T (tix j))) (hosr _ hchk) (by rw [hoss]; exact congrArg (fun v => ![v, 0]) hr)) $$ HS
  iintro HS
  iapply HK
  isplitl [HT]; · iexact HT
  iexact HS

/-- The row numbers of set `s`, expert `e`: entries `16384 s + 1024 e + n`. -/
def rows (T : TBuf (F := F) c) (hT : ∀ j : S32768.Idx, (T j : BitVec 32).toNat < 8192) (s : Fin 2) (e : Fin 16) (n : Fin 1024) : Fin 8192 :=
  ⟨(T (tix ⟨16384 * s.val + 1024 * e.val + n.val, by omega⟩) : BitVec 32).toNat, hT _⟩

theorem rows_val (T : TBuf (F := F) c) (hT : ∀ j : S32768.Idx, (T j : BitVec 32).toNat < 8192) (s : Fin 2) (e : Fin 16) (n : Fin 1024) (j : Fin 32768)
    (h : j.val = 16384 * s.val + 1024 * e.val + n.val) : (T (tix j) : BitVec 32).toNat = (rows c T hT s e n).val := by
  have hj : j = ⟨16384 * s.val + 1024 * e.val + n.val, by omega⟩ := Fin.ext h
  unfold rows; rw [hj]

theorem chk_of {o : Fin 2 → ℕ} (v : BitVec 32) (ho : o = ![v.toNat, 0]) (hv : v.toNat < 8192) : ∀ a, o a + S1x1024.size a ≤ S8192x1024.size a := by
  subst ho; exact row_inb ⟨v.toNat, hv⟩

theorem trips1 : k0_t1_loop.trips = 128 := by decide +kernel
theorem trips3 : k0_t3_loop.trips = 128 := by decide +kernel
theorem trips4 : k0_t4_loop.trips = 128 := by decide +kernel

/-- One trip of issue loop 1: eight row numbers read and eight row copies issued. -/
theorem trip1 (q : PosShare TreeShare) (T : TBuf (F := F) c) (hT : ∀ j : S32768.Idx, (T j : BitVec 32).toNat < 8192)
    (b : Memref sig .tc .hbm S8192x1024 .f32) (hb : b.IsWhole) (fs : HBuf (F := F) c b) (i : grid0.Coords) (k : Fin k0_t1_loop.trips)
    (hi0 : (i 0).val = 0) (hi1 : (i 1).val = 0)
    {h5} {arg4} {harg4} {arg5} {harg5} {arg6} {harg6} {arg7} {harg7} {arg8} {harg8} {arg9} {harg9} {h10} {h1} {h2} {v23} (Q : PUnit → sProp 𝕄) :
   copySt c q T b fs 0 (rows c T hT 0 0) (8 * k.val) ⊢ iprop((copySt c q T b fs 0 (rows c T hT 0 0) (8 * (k.val + 1)) -∗ Q ⟨⟩) -∗
    wp frame (wpE (defs₀ (F := F)) Variants.none (c : Thread nD τ) none) Set.univ
     (k0_t1_body i (Memref.whole main_v5) h5 b hb arg4 harg4 arg5 harg5 arg6 harg6 arg7 harg7 arg8 harg8 arg9 harg9 (Memref.whole cc0_scratch0) h10 cc0_scratch1 h1 v23 h2 k ⟨⟩) Q) := by
  have hk : k.val < 128 := lt_of_lt_of_eq k.isLt trips1
  have hi : (i 0).val < 16 := (i 0).isLt
  unfold k0_t1_body
  rw [k0_part1_eq_skeleton, k0_part2_eq_skeleton]
  unfold k0_part1_skel k0_part2_skel
  dsimp only
  simp only [bind_assoc, pure_bind]
  iintro H HK
  iapply (copy_step c q T b fs 0 (rows c T hT 0 0) (8 * k.val + 0) k.val 0 (by omega) hk rfl ⟨8 * k.val + 0, by omega⟩ (rows_val c T hT 0 0 _ _ (by simp; try omega))
    _ _ (off1_at i k hi0 hi1) (k0_chk1 i) (k0_chk1.dec i) (fun _ _ => chk_of _ rfl (hT _)) k0_off4 (fun x hx => k0_off4_inb i x hx h1 h2) (fun _ => rfl)
    _ _ (off3_at i k hi0 hi1) _ _ (off2_at i hi0 hi1)) $$ H
  iintro H
  iapply (copy_step c q T b fs 0 (rows c T hT 0 0) (8 * k.val + 1) k.val 1 (by omega) hk rfl ⟨8 * k.val + 1, by omega⟩ (rows_val c T hT 0 0 _ _ (by simp; try omega))
    _ _ (off5_at i k hi0 hi1) (k0_chk2 i) (k0_chk2.dec i) (fun _ _ => chk_of _ rfl (hT _)) k0_off8 (fun x hx => k0_off8_inb i x hx h1 h2) (fun _ => rfl)
    _ _ (off7_at i k hi0 hi1) _ _ (off6_at i hi0 hi1)) $$ H
  iintro H
  iapply (copy_step c q T b fs 0 (rows c T hT 0 0) (8 * k.val + 2) k.val 2 (by omega) hk rfl ⟨8 * k.val + 2, by omega⟩ (rows_val c T hT 0 0 _ _ (by simp; try omega))
    _ _ (off9_at i k hi0 hi1) (k0_chk3 i) (k0_chk3.dec i) (fun _ _ => chk_of _ rfl (hT _)) k0_off12 (fun x hx => k0_off12_inb i x hx h1 h2) (fun _ => rfl)
    _ _ (off11_at i k hi0 hi1) _ _ (off10_at i hi0 hi1)) $$ H
  iintro H
  iapply (copy_step c q T b fs 0 (rows c T hT 0 0) (8 * k.val + 3) k.val 3 (by omega) hk rfl ⟨8 * k.val + 3, by omega⟩ (rows_val c T hT 0 0 _ _ (by simp; try omega))
    _ _ (off13_at i k hi0 hi1) (k0_chk4 i) (k0_chk4.dec i) (fun _ _ => chk_of _ rfl (hT _)) k0_off16 (fun x hx => k0_off16_inb i x hx h1 h2) (fun _ => rfl)
    _ _ (off15_at i k hi0 hi1) _ _ (off14_at i hi0 hi1)) $$ H
  iintro H
  iapply (copy_step c q T b fs 0 (rows c T hT 0 0) (8 * k.val + 4) k.val 4 (by omega) hk rfl ⟨8 * k.val + 4, by omega⟩ (rows_val c T hT 0 0 _ _ (by simp; try omega))
    _ _ (off17_at i k hi0 hi1) (k0_chk5 i) (k0_chk5.dec i) (fun _ _ => chk_of _ rfl (hT _)) k0_off20 (fun x hx => k0_off20_inb i x hx h1 h2) (fun _ => rfl)
    _ _ (off19_at i k hi0 hi1) _ _ (off18_at i hi0 hi1)) $$ H
  iintro H
  iapply (copy_step c q T b fs 0 (rows c T hT 0 0) (8 * k.val + 5) k.val 5 (by omega) hk rfl ⟨8 * k.val + 5, by omega⟩ (rows_val c T hT 0 0 _ _ (by simp; try omega))
    _ _ (off21_at i k hi0 hi1) (k0_chk6 i) (k0_chk6.dec i) (fun _ _ => chk_of _ rfl (hT _)) k0_off24 (fun x hx => k0_off24_inb i x hx h1 h2) (fun _ => rfl)
    _ _ (off23_at i k hi0 hi1) _ _ (off22_at i hi0 hi1)) $$ H
  iintro H
  iapply (copy_step c q T b fs 0 (rows c T hT 0 0) (8 * k.val + 6) k.val 6 (by omega) hk rfl ⟨8 * k.val + 6, by omega⟩ (rows_val c T hT 0 0 _ _ (by simp; try omega))
    _ _ (off25_at i k hi0 hi1) (k0_chk7 i) (k0_chk7.dec i) (fun _ _ => chk_of _ rfl (hT _)) k0_off28 (fun x hx => k0_off28_inb i x hx h1 h2) (fun _ => rfl)
    _ _ (off27_at i k hi0 hi1) _ _ (off26_at i hi0 hi1)) $$ H
  iintro H
  iapply (copy_step c q T b fs 0 (rows c T hT 0 0) (8 * k.val + 7) k.val 7 (by omega) hk rfl ⟨8 * k.val + 7, by omega⟩ (rows_val c T hT 0 0 _ _ (by simp; try omega))
    _ _ (off29_at i k hi0 hi1) (k0_chk8 i) (k0_chk8.dec i) (fun _ _ => chk_of _ rfl (hT _)) k0_off32 (fun x hx => k0_off32_inb i x hx h1 h2) (fun _ => rfl)
    _ _ (off31_at i k hi0 hi1) _ _ (off30_at i hi0 hi1)) $$ H
  iintro H
  iapply (le_wp_ret (Q := Q))
  iapply HK
  iexact H

/-- Issue loop 1: from no copy issued to all of them. -/
theorem loop1 (q : PosShare TreeShare) (T : TBuf (F := F) c) (hT : ∀ j : S32768.Idx, (T j : BitVec 32).toNat < 8192)
    (b : Memref sig .tc .hbm S8192x1024 .f32) (hb : b.IsWhole) (fs : HBuf (F := F) c b) (i : grid0.Coords)
    (hi0 : (i 0).val = 0) (hi1 : (i 1).val = 0)
    {h5} {arg4} {harg4} {arg5} {harg5} {arg6} {harg6} {arg7} {harg7} {arg8} {harg8} {arg9} {harg9} {h10} {h1} {h2} {v23} {hok} {kk : PUnit → Prog (TpuEff nD τ sig (Elt F) Λ₀ .tc) PUnit} (Q : PUnit → sProp 𝕄) :
   copySt c q T b fs 0 (rows c T hT 0 0) 0 ⊢ iprop((copySt c q T b fs 0 (rows c T hT 0 0) 1024 -∗
      wp frame (wpE (defs₀ (F := F)) Variants.none (c : Thread nD τ) none) Set.univ (kk ⟨⟩) Q) -∗
    wp frame (wpE (defs₀ (F := F)) Variants.none (c : Thread nD τ) none) Set.univ
     (Scf.Loop.for k0_t1_loop hok ⟨⟩ (k0_t1_body i (Memref.whole main_v5) h5 b hb arg4 harg4 arg5 harg5 arg6 harg6 arg7 harg7 arg8 harg8 arg9 harg9 (Memref.whole cc0_scratch0) h10 cc0_scratch1 h1 v23 h2) >>= kk) Q) := by
  iintro H HK
  iapply (Scf.wp_for_bind _ _ _ _ _ _ hok _ _ (fun n _ => copySt c q T b fs 0 (rows c T hT 0 0) (8 * n)) ?hb) $$ H
  case hb =>
    intro k acc
    iintro H
    iapply (trip1 c q T hT b hb fs i k hi0 hi1 _) $$ H
    iintro H
    iexact H
  iintro %acc H
  iapply HK
  have e : 8 * Scf.trips k0_t1_loop.lb k0_t1_loop.ub k0_t1_loop.st = 1024 := congrArg (8 * ·) trips1
  rw [← e]
  iexact H

/-- One trip of issue loop 3: eight row numbers read and eight row copies issued. -/
theorem trip3 (q : PosShare TreeShare) (T : TBuf (F := F) c) (hT : ∀ j : S32768.Idx, (T j : BitVec 32).toNat < 8192)
    (b : Memref sig .tc .hbm S8192x1024 .f32) (hb : b.IsWhole) (fs : HBuf (F := F) c b) (i : grid0.Coords) (k : Fin k0_t3_loop.trips)
    (hi0 : ¬((i 0).val = 15 ∧ (i 1).val = 1)) (hi1 : (i 1).val = 1) (e : Fin 16) (he : e.val = (i 0).val + 1)
    {h5} {arg4} {harg4} {arg5} {harg5} {arg6} {harg6} {arg7} {harg7} {arg8} {harg8} {arg9} {harg9} {h10} {h1} {h2} {v1} {v11} {v23} (Q : PUnit → sProp 𝕄) :
   copySt c q T b fs 0 (rows c T hT 0 e) (8 * k.val) ⊢ iprop((copySt c q T b fs 0 (rows c T hT 0 e) (8 * (k.val + 1)) -∗ Q ⟨⟩) -∗
    wp frame (wpE (defs₀ (F := F)) Variants.none (c : Thread nD τ) none) Set.univ
     (k0_t3_body i (Memref.whole main_v5) h5 b hb arg4 harg4 arg5 harg5 arg6 harg6 arg7 harg7 arg8 harg8 arg9 harg9 (Memref.whole cc0_scratch0) h10 cc0_scratch1 v1 v11 h1 v23 h2 k ⟨⟩) Q) := by
  have hk : k.val < 128 := lt_of_lt_of_eq k.isLt trips3
  have hi : (i 0).val < 16 := (i 0).isLt
  unfold k0_t3_body
  rw [k0_part5_eq_skeleton, k0_part6_eq_skeleton]
  unfold k0_part5_skel k0_part6_skel
  dsimp only
  simp only [bind_assoc, pure_bind]
  iintro H HK
  iapply (copy_step c q T b fs 0 (rows c T hT 0 e) (8 * k.val + 0) k.val 0 (by omega) hk rfl ⟨1024 * ((i 0).val + 1) + 8 * k.val + 0, by omega⟩ (rows_val c T hT 0 e _ _ (by simp; try omega))
    _ _ (off65_at i k hi0 hi1) (k0_chk17 i) (k0_chk17.dec i) (fun _ _ => chk_of _ rfl (hT _)) k0_off68 (fun x hx => k0_off68_inb i x hx h1 h2) (fun _ => rfl)
    _ _ (off67_at i k hi0 hi1) _ _ (off66_at i hi0 hi1)) $$ H
  iintro H
  iapply (copy_step c q T b fs 0 (rows c T hT 0 e) (8 * k.val + 1) k.val 1 (by omega) hk rfl ⟨1024 * ((i 0).val + 1) + 8 * k.val + 1, by omega⟩ (rows_val c T hT 0 e _ _ (by simp; try omega))
    _ _ (off69_at i k hi0 hi1) (k0_chk18 i) (k0_chk18.dec i) (fun _ _ => chk_of _ rfl (hT _)) k0_off72 (fun x hx => k0_off72_inb i x hx h1 h2) (fun _ => rfl)
    _ _ (off71_at i k hi0 hi1) _ _ (off70_at i hi0 hi1)) $$ H
  iintro H
  iapply (copy_step c q T b fs 0 (rows c T hT 0 e) (8 * k.val + 2) k.val 2 (by omega) hk rfl ⟨1024 * ((i 0).val + 1) + 8 * k.val + 2, by omega⟩ (rows_val c T hT 0 e _ _ (by simp; try omega))
    _ _ (off73_at i k hi0 hi1) (k0_chk19 i) (k0_chk19.dec i) (fun _ _ => chk_of _ rfl (hT _)) k0_off76 (fun x hx => k0_off76_inb i x hx h1 h2) (fun _ => rfl)
    _ _ (off75_at i k hi0 hi1) _ _ (off74_at i hi0 hi1)) $$ H
  iintro H
  iapply (copy_step c q T b fs 0 (rows c T hT 0 e) (8 * k.val + 3) k.val 3 (by omega) hk rfl ⟨1024 * ((i 0).val + 1) + 8 * k.val + 3, by omega⟩ (rows_val c T hT 0 e _ _ (by simp; try omega))
    _ _ (off77_at i k hi0 hi1) (k0_chk20 i) (k0_chk20.dec i) (fun _ _ => chk_of _ rfl (hT _)) k0_off80 (fun x hx => k0_off80_inb i x hx h1 h2) (fun _ => rfl)
    _ _ (off79_at i k hi0 hi1) _ _ (off78_at i hi0 hi1)) $$ H
  iintro H
  iapply (copy_step c q T b fs 0 (rows c T hT 0 e) (8 * k.val + 4) k.val 4 (by omega) hk rfl ⟨1024 * ((i 0).val + 1) + 8 * k.val + 4, by omega⟩ (rows_val c T hT 0 e _ _ (by simp; try omega))
    _ _ (off81_at i k hi0 hi1) (k0_chk21 i) (k0_chk21.dec i) (fun _ _ => chk_of _ rfl (hT _)) k0_off84 (fun x hx => k0_off84_inb i x hx h1 h2) (fun _ => rfl)
    _ _ (off83_at i k hi0 hi1) _ _ (off82_at i hi0 hi1)) $$ H
  iintro H
  iapply (copy_step c q T b fs 0 (rows c T hT 0 e) (8 * k.val + 5) k.val 5 (by omega) hk rfl ⟨1024 * ((i 0).val + 1) + 8 * k.val + 5, by omega⟩ (rows_val c T hT 0 e _ _ (by simp; try omega))
    _ _ (off85_at i k hi0 hi1) (k0_chk22 i) (k0_chk22.dec i) (fun _ _ => chk_of _ rfl (hT _)) k0_off88 (fun x hx => k0_off88_inb i x hx h1 h2) (fun _ => rfl)
    _ _ (off87_at i k hi0 hi1) _ _ (off86_at i hi0 hi1)) $$ H
  iintro H
  iapply (copy_step c q T b fs 0 (rows c T hT 0 e) (8 * k.val + 6) k.val 6 (by omega) hk rfl ⟨1024 * ((i 0).val + 1) + 8 * k.val + 6, by omega⟩ (rows_val c T hT 0 e _ _ (by simp; try omega))
    _ _ (off89_at i k hi0 hi1) (k0_chk23 i) (k0_chk23.dec i) (fun _ _ => chk_of _ rfl (hT _)) k0_off92 (fun x hx => k0_off92_inb i x hx h1 h2) (fun _ => rfl)
    _ _ (off91_at i k hi0 hi1) _ _ (off90_at i hi0 hi1)) $$ H
  iintro H
  iapply (copy_step c q T b fs 0 (rows c T hT 0 e) (8 * k.val + 7) k.val 7 (by omega) hk rfl ⟨1024 * ((i 0).val + 1) + 8 * k.val + 7, by omega⟩ (rows_val c T hT 0 e _ _ (by simp; try omega))
    _ _ (off93_at i k hi0 hi1) (k0_chk24 i) (k0_chk24.dec i) (fun _ _ => chk_of _ rfl (hT _)) k0_off96 (fun x hx => k0_off96_inb i x hx h1 h2) (fun _ => rfl)
    _ _ (off95_at i k hi0 hi1) _ _ (off94_at i hi0 hi1)) $$ H
  iintro H
  iapply (le_wp_ret (Q := Q))
  iapply HK
  iexact H

/-- Issue loop 3: from no copy issued to all of them. -/
theorem loop3 (q : PosShare TreeShare) (T : TBuf (F := F) c) (hT : ∀ j : S32768.Idx, (T j : BitVec 32).toNat < 8192)
    (b : Memref sig .tc .hbm S8192x1024 .f32) (hb : b.IsWhole) (fs : HBuf (F := F) c b) (i : grid0.Coords)
    (hi0 : ¬((i 0).val = 15 ∧ (i 1).val = 1)) (hi1 : (i 1).val = 1) (e : Fin 16) (he : e.val = (i 0).val + 1)
    {h5} {arg4} {harg4} {arg5} {harg5} {arg6} {harg6} {arg7} {harg7} {arg8} {harg8} {arg9} {harg9} {h10} {h1} {h2} {v1} {v11} {v23} {hok} {kk : PUnit → Prog (TpuEff nD τ sig (Elt F) Λ₀ .tc) PUnit} (Q : PUnit → sProp 𝕄) :
   copySt c q T b fs 0 (rows c T hT 0 e) 0 ⊢ iprop((copySt c q T b fs 0 (rows c T hT 0 e) 1024 -∗
      wp frame (wpE (defs₀ (F := F)) Variants.none (c : Thread nD τ) none) Set.univ (kk ⟨⟩) Q) -∗
    wp frame (wpE (defs₀ (F := F)) Variants.none (c : Thread nD τ) none) Set.univ
     (Scf.Loop.for k0_t3_loop hok ⟨⟩ (k0_t3_body i (Memref.whole main_v5) h5 b hb arg4 harg4 arg5 harg5 arg6 harg6 arg7 harg7 arg8 harg8 arg9 harg9 (Memref.whole cc0_scratch0) h10 cc0_scratch1 v1 v11 h1 v23 h2) >>= kk) Q) := by
  iintro H HK
  iapply (Scf.wp_for_bind _ _ _ _ _ _ hok _ _ (fun n _ => copySt c q T b fs 0 (rows c T hT 0 e) (8 * n)) ?hb) $$ H
  case hb =>
    intro k acc
    iintro H
    iapply (trip3 c q T hT b hb fs i k hi0 hi1 e he _) $$ H
    iintro H
    iexact H
  iintro %acc H
  iapply HK
  have e : 8 * Scf.trips k0_t3_loop.lb k0_t3_loop.ub k0_t3_loop.st = 1024 := congrArg (8 * ·) trips3
  rw [← e]
  iexact H

/-- One trip of issue loop 4: eight row numbers read and eight row copies issued. -/
theorem trip4 (q : PosShare TreeShare) (T : TBuf (F := F) c) (hT : ∀ j : S32768.Idx, (T j : BitVec 32).toNat < 8192)
    (b : Memref sig .tc .hbm S8192x1024 .f32) (hb : b.IsWhole) (fs : HBuf (F := F) c b) (i : grid0.Coords) (k : Fin k0_t4_loop.trips)
    (hi1 : (i 1).val = 0) (e : Fin 16) (he : e.val = (i 0).val)
    {h5} {arg4} {harg4} {arg5} {harg5} {arg6} {harg6} {arg7} {harg7} {arg8} {harg8} {arg9} {harg9} {h10} {h1} {h2} {v23} (Q : PUnit → sProp 𝕄) :
   copySt c q T b fs 1 (rows c T hT 1 e) (8 * k.val) ⊢ iprop((copySt c q T b fs 1 (rows c T hT 1 e) (8 * (k.val + 1)) -∗ Q ⟨⟩) -∗
    wp frame (wpE (defs₀ (F := F)) Variants.none (c : Thread nD τ) none) Set.univ
     (k0_t4_body i (Memref.whole main_v5) h5 arg4 harg4 b hb arg5 harg5 arg6 harg6 arg7 harg7 arg8 harg8 arg9 harg9 (Memref.whole cc0_scratch0) h10 cc0_scratch1 h1 v23 h2 k ⟨⟩) Q) := by
  have hk : k.val < 128 := lt_of_lt_of_eq k.isLt trips4
  have hi : (i 0).val < 16 := (i 0).isLt
  unfold k0_t4_body
  rw [k0_part7_eq_skeleton, k0_part8_eq_skeleton]
  unfold k0_part7_skel k0_part8_skel
  dsimp only
  simp only [bind_assoc, pure_bind]
  iintro H HK
  iapply (copy_step c q T b fs 1 (rows c T hT 1 e) (8 * k.val + 0) k.val 0 (by omega) hk rfl ⟨16384 + 1024 * (i 0).val + 8 * k.val + 0, by omega⟩ (rows_val c T hT 1 e _ _ (by simp; try omega))
    _ _ (off97_at i k hi1) (k0_chk25 i) (k0_chk25.dec i) (fun _ _ => chk_of _ rfl (hT _)) k0_off100 (fun x hx => k0_off100_inb i x hx h1 h2) (fun _ => rfl)
    _ _ (off99_at i k hi1) _ _ (off98_at i hi1)) $$ H
  iintro H
  iapply (copy_step c q T b fs 1 (rows c T hT 1 e) (8 * k.val + 1) k.val 1 (by omega) hk rfl ⟨16384 + 1024 * (i 0).val + 8 * k.val + 1, by omega⟩ (rows_val c T hT 1 e _ _ (by simp; try omega))
    _ _ (off101_at i k hi1) (k0_chk26 i) (k0_chk26.dec i) (fun _ _ => chk_of _ rfl (hT _)) k0_off104 (fun x hx => k0_off104_inb i x hx h1 h2) (fun _ => rfl)
    _ _ (off103_at i k hi1) _ _ (off102_at i hi1)) $$ H
  iintro H
  iapply (copy_step c q T b fs 1 (rows c T hT 1 e) (8 * k.val + 2) k.val 2 (by omega) hk rfl ⟨16384 + 1024 * (i 0).val + 8 * k.val + 2, by omega⟩ (rows_val c T hT 1 e _ _ (by simp; try omega))
    _ _ (off105_at i k hi1) (k0_chk27 i) (k0_chk27.dec i) (fun _ _ => chk_of _ rfl (hT _)) k0_off108 (fun x hx => k0_off108_inb i x hx h1 h2) (fun _ => rfl)
    _ _ (off107_at i k hi1) _ _ (off106_at i hi1)) $$ H
  iintro H
  iapply (copy_step c q T b fs 1 (rows c T hT 1 e) (8 * k.val + 3) k.val 3 (by omega) hk rfl ⟨16384 + 1024 * (i 0).val + 8 * k.val + 3, by omega⟩ (rows_val c T hT 1 e _ _ (by simp; try omega))
    _ _ (off109_at i k hi1) (k0_chk28 i) (k0_chk28.dec i) (fun _ _ => chk_of _ rfl (hT _)) k0_off112 (fun x hx => k0_off112_inb i x hx h1 h2) (fun _ => rfl)
    _ _ (off111_at i k hi1) _ _ (off110_at i hi1)) $$ H
  iintro H
  iapply (copy_step c q T b fs 1 (rows c T hT 1 e) (8 * k.val + 4) k.val 4 (by omega) hk rfl ⟨16384 + 1024 * (i 0).val + 8 * k.val + 4, by omega⟩ (rows_val c T hT 1 e _ _ (by simp; try omega))
    _ _ (off113_at i k hi1) (k0_chk29 i) (k0_chk29.dec i) (fun _ _ => chk_of _ rfl (hT _)) k0_off116 (fun x hx => k0_off116_inb i x hx h1 h2) (fun _ => rfl)
    _ _ (off115_at i k hi1) _ _ (off114_at i hi1)) $$ H
  iintro H
  iapply (copy_step c q T b fs 1 (rows c T hT 1 e) (8 * k.val + 5) k.val 5 (by omega) hk rfl ⟨16384 + 1024 * (i 0).val + 8 * k.val + 5, by omega⟩ (rows_val c T hT 1 e _ _ (by simp; try omega))
    _ _ (off117_at i k hi1) (k0_chk30 i) (k0_chk30.dec i) (fun _ _ => chk_of _ rfl (hT _)) k0_off120 (fun x hx => k0_off120_inb i x hx h1 h2) (fun _ => rfl)
    _ _ (off119_at i k hi1) _ _ (off118_at i hi1)) $$ H
  iintro H
  iapply (copy_step c q T b fs 1 (rows c T hT 1 e) (8 * k.val + 6) k.val 6 (by omega) hk rfl ⟨16384 + 1024 * (i 0).val + 8 * k.val + 6, by omega⟩ (rows_val c T hT 1 e _ _ (by simp; try omega))
    _ _ (off121_at i k hi1) (k0_chk31 i) (k0_chk31.dec i) (fun _ _ => chk_of _ rfl (hT _)) k0_off124 (fun x hx => k0_off124_inb i x hx h1 h2) (fun _ => rfl)
    _ _ (off123_at i k hi1) _ _ (off122_at i hi1)) $$ H
  iintro H
  iapply (copy_step c q T b fs 1 (rows c T hT 1 e) (8 * k.val + 7) k.val 7 (by omega) hk rfl ⟨16384 + 1024 * (i 0).val + 8 * k.val + 7, by omega⟩ (rows_val c T hT 1 e _ _ (by simp; try omega))
    _ _ (off125_at i k hi1) (k0_chk32 i) (k0_chk32.dec i) (fun _ _ => chk_of _ rfl (hT _)) k0_off128 (fun x hx => k0_off128_inb i x hx h1 h2) (fun _ => rfl)
    _ _ (off127_at i k hi1) _ _ (off126_at i hi1)) $$ H
  iintro H
  iapply (le_wp_ret (Q := Q))
  iapply HK
  iexact H

/-- Issue loop 4: from no copy issued to all of them. -/
theorem loop4 (q : PosShare TreeShare) (T : TBuf (F := F) c) (hT : ∀ j : S32768.Idx, (T j : BitVec 32).toNat < 8192)
    (b : Memref sig .tc .hbm S8192x1024 .f32) (hb : b.IsWhole) (fs : HBuf (F := F) c b) (i : grid0.Coords)
    (hi1 : (i 1).val = 0) (e : Fin 16) (he : e.val = (i 0).val)
    {h5} {arg4} {harg4} {arg5} {harg5} {arg6} {harg6} {arg7} {harg7} {arg8} {harg8} {arg9} {harg9} {h10} {h1} {h2} {v23} {hok} {kk : PUnit → Prog (TpuEff nD τ sig (Elt F) Λ₀ .tc) PUnit} (Q : PUnit → sProp 𝕄) :
   copySt c q T b fs 1 (rows c T hT 1 e) 0 ⊢ iprop((copySt c q T b fs 1 (rows c T hT 1 e) 1024 -∗
      wp frame (wpE (defs₀ (F := F)) Variants.none (c : Thread nD τ) none) Set.univ (kk ⟨⟩) Q) -∗
    wp frame (wpE (defs₀ (F := F)) Variants.none (c : Thread nD τ) none) Set.univ
     (Scf.Loop.for k0_t4_loop hok ⟨⟩ (k0_t4_body i (Memref.whole main_v5) h5 arg4 harg4 b hb arg5 harg5 arg6 harg6 arg7 harg7 arg8 harg8 arg9 harg9 (Memref.whole cc0_scratch0) h10 cc0_scratch1 h1 v23 h2) >>= kk) Q) := by
  iintro H HK
  iapply (Scf.wp_for_bind _ _ _ _ _ _ hok _ _ (fun n _ => copySt c q T b fs 1 (rows c T hT 1 e) (8 * n)) ?hb) $$ H
  case hb =>
    intro k acc
    iintro H
    iapply (trip4 c q T hT b hb fs i k hi1 e he _) $$ H
    iintro H
    iexact H
  iintro %acc H
  iapply HK
  have e : 8 * Scf.trips k0_t4_loop.lb k0_t4_loop.ub k0_t4_loop.st = 1024 := congrArg (8 * ·) trips4
  rw [← e]
  iexact H

end Cert.KernelIdeal.Hand
-- ==== Proof.Wait.lean ====
module

public import proofs.«01_k».proof.Proof.Trip1

@[expose] public section

/-! A slot's 1024 copies: begun, in flight, and landed. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (b : Memref sig .tc .hbm S8192x1024 .f32) (fs : HBuf (F := F) c b) (s : Fin 2) (r : Fin 1024 → Fin 8192)

/-- A slot's copies all issued and none waited for, with what they did not take of the source. -/
def flightSt : sProp 𝕄 :=
  iprop(Transfers.Batch (Lvl := ℕ) EC (c : Thread nD τ) (SemLoc.dma (cell s)) () amt (deliv c b fs s r) 1024 0
    ∗ bigSep Finset.univ (fun t : Fin 1024 => (b.view.loc (c : Thread nD τ) ↦[b.view.set \ srcSet b (r t)]{tokS t} fs : sProp 𝕄))
    ∗ (b.view.loc (c : Thread nD τ) ↦[b.view.set]{Transfers.shareDrop fullShare 1024} fs))

/-- A slot's rows in the row buffer, whatever they hold. -/
def slotAny (s : Fin 2) : sProp 𝕄 := iprop(∃ f, M10.view.loc (c : Thread nD τ) ↦[slotSet s]{fullShare} f)

/-- A slot before its copies: its rows, the source and the cell at zero make the state before copy 0. -/
theorem issue_start {E : Set ℕ} :
    iprop(slotAny (F := F) c s ∗ (b.view.loc (c : Thread nD τ) ↦[b.view.set]{fullShare} fs) ∗ semVal ((c : Thread nD τ), SemLoc.dma (cell s)) 0)
      ⊢ (|={E}=> iprop(issueSt c b fs s r 0 ∗ (b.view.loc (c : Thread nD τ) ↦[b.view.set]{Transfers.shareDrop fullShare 1024} fs)) : sProp 𝕄) := by
  iintro ⟨Hs, Hb, Hq⟩
  unfold slotAny
  icases Hs with ⟨%f, Hs⟩
  imod (Transfers.batch_alloc' (Lvl := ℕ) EC (c : Thread nD τ) () amt (deliv c b fs s r) (sm := SemLoc.dma (cell s)) (E := E)) $$ Hq with HB
  imodintro
  ihave Hb := Transfers.pointsTo_toks_split fullShare 1024 $$ Hb
  icases Hb with ⟨Hd, Ht⟩
  isplitr [Hd]
  · unfold issueSt
    isplitl [HB]; · iexact HB
    rw [Transfers.pending_zero, Transfers.issued_zero]
    isplitl [Ht]; · iexact Ht
    isplitl [Hs]
    · have e : ((M10.view.loc (c : Thread nD τ) ↦[slotSet s]{fullShare} f) : sProp 𝕄)
          ⊢ bigSep Finset.univ (fun t : Fin 1024 => (iprop(∃ fd, M10.view.loc (c : Thread nD τ) ↦[dstSet s t]{fullShare} fd) : sProp 𝕄)) := by
        rw [← slot_biUnion s]
        refine (Entails.of_eq (pointsTo_biUnion (ℓ := M10.view.loc (c : Thread nD τ)) Finset.univ (dstSet s) fun t _ t' _ h => dstSet_disjoint s t t' h)).trans ?_
        exact bigSep_mono fun t _ => exists_intro (Φ := fun fd => (M10.view.loc (c : Thread nD τ) ↦[dstSet s t]{fullShare} fd : sProp 𝕄)) f
      iapply e
      iexact Hs
    · rw [bigSep_empty]
      iempintro
  · iexact Hd

/-- All issued: the flight. -/
theorem issue_end :
    iprop(issueSt c b fs s r 1024 ∗ (b.view.loc (c : Thread nD τ) ↦[b.view.set]{Transfers.shareDrop fullShare 1024} fs)) ⊢ flightSt c b fs s r := by
  unfold issueSt flightSt
  iintro ⟨⟨HB, -, -, Hi⟩, Hd⟩
  rw [Transfers.issued_all rfl]
  isplitl [HB]; · iexact HB
  isplitl [Hi]; · iexact Hi
  iexact Hd

theorem amt_pos : 0 < amt := View.dmaCredit_pos _ (by decide)

/-- The copies landed: the slot holds the gathered rows, and the source is whole again. -/
def landedSt : sProp 𝕄 :=
  iprop((M10.view.loc (c : Thread nD τ) ↦[slotSet s]{fullShare} (gath b fs r : Buf (Elt F) (M10.view.loc (c : Thread nD τ))))
    ∗ (b.view.loc (c : Thread nD τ) ↦[b.view.set]{fullShare} fs) ∗ semVal ((c : Thread nD τ), SemLoc.dma (cell s)) 0)

theorem collect :
    iprop(Transfers.Batch (Lvl := ℕ) EC (c : Thread nD τ) (SemLoc.dma (cell s)) () amt (deliv c b fs s r) 1024 (amt * 1024)
      ∗ bigSep Finset.univ (fun t : Fin 1024 => (b.view.loc (c : Thread nD τ) ↦[b.view.set \ srcSet b (r t)]{tokS t} fs : sProp 𝕄))
      ∗ (b.view.loc (c : Thread nD τ) ↦[b.view.set]{Transfers.shareDrop fullShare 1024} fs)) ⊢ (|={Set.univ}=> landedSt c b fs s r : sProp 𝕄) := by
  iintro ⟨HB, Hi, Hd⟩
  imod (Transfers.batch_collect' EC (c : Thread nD τ) amt_pos) $$ HB with ⟨HD, Hv⟩
  imodintro
  unfold landedSt
  have e1 : bigSep Finset.univ (deliv c b fs s r) ⊢ iprop((M10.view.loc (c : Thread nD τ) ↦[slotSet s]{fullShare} (gath b fs r : Buf (Elt F) (M10.view.loc (c : Thread nD τ))))
      ∗ bigSep Finset.univ (fun t : Fin 1024 => (b.view.loc (c : Thread nD τ) ↦[srcSet b (r t)]{tokS t} fs : sProp 𝕄))) := by
    unfold deliv
    refine (Entails.of_eq (bigSep_sep _ _ _)).trans ?_
    rw [← slot_biUnion s]
    exact sep_mono_left (Entails.of_eq (pointsTo_biUnion (ℓ := M10.view.loc (c : Thread nD τ)) Finset.univ (dstSet s) fun t _ t' _ h => dstSet_disjoint s t t' h).symm)
  have e2 : iprop(bigSep Finset.univ (fun t : Fin 1024 => (b.view.loc (c : Thread nD τ) ↦[srcSet b (r t)]{tokS t} fs : sProp 𝕄))
      ∗ bigSep Finset.univ (fun t : Fin 1024 => (b.view.loc (c : Thread nD τ) ↦[b.view.set \ srcSet b (r t)]{tokS t} fs : sProp 𝕄)))
      ⊢ bigSep Finset.univ (fun t : Fin 1024 => (b.view.loc (c : Thread nD τ) ↦[b.view.set]{tokS t} fs : sProp 𝕄)) := by
    refine (Entails.of_eq (bigSep_sep _ _ _).symm).trans ?_
    exact bigSep_mono fun t _ => (pointsTo_split_subset (srcSet_sub b (r t))).2
  ihave HD := e1 $$ HD
  icases HD with ⟨Hm, Hs⟩
  ihave Ht := e2 $$ [Hs Hi]
  · isplitl [Hs] <;> iassumption
  isplitl [Hm]; · iexact Hm
  isplitl [Hd Ht]
  · iapply (Transfers.pointsTo_toks_join fullShare 1024)
    isplitl [Hd] <;> iassumption
  iexact Hv

theorem trips5 : k0_t5_loop.trips = 128 := by decide +kernel

/-- The wait loop: 128 waits of eight rows each take the flight to the landed rows. -/
theorem loop5 (i : grid0.Coords) (hs : (i 1).val = s.val) (W : Waits sig Unit)
    {arg2} {h2} {arg3} {h3} {arg4} {harg4} {arg5} {harg5} {arg6} {harg6} {arg7} {harg7} {arg8} {harg8} {arg9} {harg9} {h10} {hok}
    {kk : PUnit → Prog (TpuEff nD τ sig (Elt F) Λ₀ .tc) PUnit} (Q : PUnit → sProp 𝕄) :
   iprop(flightSt c b fs s r ∗ owes (c : Thread nD τ) 0 W) ⊢ iprop((∀ W', iprop(landedSt c b fs s r ∗ owes (c : Thread nD τ) 0 W') -∗
      wp frame (wpE (defs₀ (F := F)) Variants.none (c : Thread nD τ) none) Set.univ (kk ⟨⟩) Q) -∗
    wp frame (wpE (defs₀ (F := F)) Variants.none (c : Thread nD τ) none) Set.univ
     (Scf.Loop.for k0_t5_loop hok ⟨⟩ (k0_t5_body i arg2 h2 arg3 h3 arg4 harg4 arg5 harg5 arg6 harg6 arg7 harg7 arg8 harg8 arg9 harg9 (Memref.whole cc0_scratch0) h10 cc0_scratch1) >>= kk) Q) := by
  iintro ⟨HF, HW⟩ HK
  unfold flightSt
  icases HF with ⟨HB, Hi, Hd⟩
  iapply (Scf.wp_for_bind _ _ _ _ _ _ hok _ _ (fun n _ => iprop(Transfers.Batch (Lvl := ℕ) EC (c : Thread nD τ) (SemLoc.dma (cell s)) () amt (deliv c b fs s r) 1024 (n * (8 * amt))
      ∗ ∃ W', owes (c : Thread nD τ) 0 W')) ?hb) $$ [HB HW]
  case hb =>
    intro k acc
    have hk : k.val < 128 := lt_of_lt_of_eq k.isLt trips5
    unfold k0_t5_body
    dsimp only
    iintro ⟨HB, ⟨%W', HW⟩⟩
    have hsem := semM_eq s (k0_off129 i) (k0_off129_inb i) ((off129_at i).trans (by rw [hs]))
    rw [hsem]
    iapply (Transfers.wp_waitBatchMul EC Variants.none (c : Thread nD τ) none () (N := amt) (D := deliv c b fs s r) (j := 1024) 8 rfl (u := k.val * (8 * amt)) (by
      have : (k.val + 1) * (8 * amt) ≤ 128 * (8 * amt) := Nat.mul_le_mul_right _ hk
      rw [Nat.succ_mul k.val (8 * amt)] at this; omega)) $$ [HB HW]
    · isplitl [HB] <;> iassumption
    iintro ⟨HB, HW⟩
    iapply (le_wp_ret)
    have e : (k.val + 1) * (8 * amt) = k.val * (8 * amt) + 8 * amt := Nat.succ_mul _ _
    rw [e]
    isplitl [HB]; · iexact HB
    iexists _; iexact HW
  · rw [Nat.zero_mul]
    isplitl [HB]; · iexact HB
    iexists _; iexact HW
  iintro %acc ⟨HB, ⟨%W', HW⟩⟩
  have e : Scf.trips k0_t5_loop.lb k0_t5_loop.ub k0_t5_loop.st * (8 * amt) = amt * 1024 := by
    rw [show Scf.trips k0_t5_loop.lb k0_t5_loop.ub k0_t5_loop.st = 128 from trips5]; omega
  rw [e]
  imod (collect c b fs s r) $$ [HB Hi Hd] with HL
  · isplitl [HB]; · iexact HB
    isplitl [Hi]; · iexact Hi
    iexact Hd
  iapply HK
  isplitl [HL]; · iexact HL
  iexact HW

end Cert.KernelIdeal.Hand
-- ==== Proof.Compute.lean ====
module

public import proofs.«01_k».proof.Proof.Wait

@[expose] public section

/-! The compute loop: two trips of 512 rows, each storing eight blocks of 128 columns. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem trips6 : k0_t6_loop.trips = 2 := by decide +kernel
theorem off132_at : ∀ k : Fin k0_t6_loop.trips, k0_off132 k = ![0, 0, 512 * k.val, 0] := by decide +kernel
theorem off133_at : ∀ k : Fin k0_t6_loop.trips, k0_off133 k = ![0, 0, 512 * k.val, 128 * 0] := by decide +kernel
theorem off134_at : ∀ k : Fin k0_t6_loop.trips, k0_off134 k = ![0, 0, 512 * k.val, 128 * 1] := by decide +kernel
theorem off135_at : ∀ k : Fin k0_t6_loop.trips, k0_off135 k = ![0, 0, 512 * k.val, 128 * 2] := by decide +kernel
theorem off136_at : ∀ k : Fin k0_t6_loop.trips, k0_off136 k = ![0, 0, 512 * k.val, 128 * 3] := by decide +kernel
theorem off137_at : ∀ k : Fin k0_t6_loop.trips, k0_off137 k = ![0, 0, 512 * k.val, 128 * 4] := by decide +kernel
theorem off138_at : ∀ k : Fin k0_t6_loop.trips, k0_off138 k = ![0, 0, 512 * k.val, 128 * 5] := by decide +kernel
theorem off139_at : ∀ k : Fin k0_t6_loop.trips, k0_off139 k = ![0, 0, 512 * k.val, 128 * 6] := by decide +kernel
theorem off140_at : ∀ k : Fin k0_t6_loop.trips, k0_off140 k = ![0, 0, 512 * k.val, 128 * 7] := by decide +kernel

theorem col_slices (j : Fin 8) : S512x1024.Slices ![0, 128 * j.val] S512x128 := by
  revert j; decide

/-- The block of columns `128 j …` of the gated output, as stored. -/
def payCol (j : Fin 8) (y : FVec F S512x1024 .f32) (g : FVec F S512x128 .f32) : FVec F S1x1x512x128 .bf16 :=
  shapeCast S1x1x512x128 (truncf .bf16 (mulf (extractStridedSlice S512x128 ![0, 128 * j.val] y (col_slices j)) g) bitsLt_bf16_f32)
    shapeCasts_S512x128_S1x1x512x128

section
variable (x : Vec F S1x64x8x1024 .f32) (wg wu : Vec F S1x1x1024x1408 .bf16) (wd : Vec F S1x1x1408x1024 .bf16) (g : Vec F S1x1x512x128 .f32)
theorem pay_col0 : k0_pay7 (k0_pay6 x wg wu wd g) = payCol 0 (k0_pay4 x wg wu wd) (k0_pay5 g) := rfl
theorem pay_col1 : k0_pay8 (k0_pay4 x wg wu wd) (k0_pay5 g) = payCol 1 (k0_pay4 x wg wu wd) (k0_pay5 g) := rfl
theorem pay_col2 : k0_pay9 (k0_pay4 x wg wu wd) (k0_pay5 g) = payCol 2 (k0_pay4 x wg wu wd) (k0_pay5 g) := rfl
theorem pay_col3 : k0_pay10 (k0_pay4 x wg wu wd) (k0_pay5 g) = payCol 3 (k0_pay4 x wg wu wd) (k0_pay5 g) := rfl
theorem pay_col4 : k0_pay11 (k0_pay4 x wg wu wd) (k0_pay5 g) = payCol 4 (k0_pay4 x wg wu wd) (k0_pay5 g) := rfl
theorem pay_col5 : k0_pay1 (k0_pay12 (k0_pay4 x wg wu wd) (k0_pay5 g)) = payCol 5 (k0_pay4 x wg wu wd) (k0_pay5 g) := rfl
theorem pay_col6 : k0_pay2 (k0_pay4 x wg wu wd) (k0_pay5 g) = payCol 6 (k0_pay4 x wg wu wd) (k0_pay5 g) := rfl
theorem pay_col7 : k0_pay3 (k0_pay4 x wg wu wd) (k0_pay5 g) = payCol 7 (k0_pay4 x wg wu wd) (k0_pay5 g) := rfl
end

/-- The rows of trip `t`, as read. -/
def xTrip (X : Fin 1024 → Fin 1024 → Elt F .f32) (t : Fin 2) : Vec F S1x64x8x1024 .f32 := fun y =>
  X ⟨512 * t.val + 8 * (y 1).val + (y 2).val, by
    have h1 : (y 1).val < 64 := (y 1).isLt; have h2 : (y 2).val < 8 := (y 2).isLt; omega⟩ (y 3)

theorem gt_inb (t : Fin 2) : ∀ a, (![0, 0, 512 * t.val, 0] : Fin 4 → ℕ) a + S1x1x512x128.size a ≤ S1x1x1024x128.size a := by
  revert t; decide

theorem ct_inb (t : Fin 2) (j : Fin 8) : ∀ a, (![0, 0, 512 * t.val, 128 * j.val] : Fin 4 → ℕ) a + S1x1x512x128.size a ≤ S1x1x1024x1024.size a := by
  revert t j; decide

/-- The gates of trip `t`'s rows. -/
def gTrip (G : Vec F S1x1x1024x128 .f32) (t : Fin 2) : Vec F S1x1x512x128 .f32 := fun y =>
  G ((Rect.unit (s := S1x1x1024x128) ![0, 0, 512 * t.val, 0] S1x1x512x128.size (gt_inb t)).emb y)

/-- Where element `y` of the block lies within its trip's block of columns. -/
def inCol (y : S1x1x1024x1024.Idx) : S1x1x512x128.Idx := fun a => match a with
  | ⟨0, _⟩ => ⟨0, Nat.one_pos⟩
  | ⟨1, _⟩ => ⟨0, Nat.one_pos⟩
  | ⟨2, _⟩ => ⟨(y 2).val % 512, Nat.mod_lt _ (by decide)⟩
  | ⟨3, _⟩ => ⟨(y 3).val % 128, Nat.mod_lt _ (by decide)⟩

def tripOf (y : S1x1x1024x1024.Idx) : Fin 2 := ⟨(y 2).val / 512, by have h : (y 2).val < 1024 := (y 2).isLt; omega⟩
def colOf (y : S1x1x1024x1024.Idx) : Fin 8 := ⟨(y 3).val / 128, by have h : (y 3).val < 1024 := (y 3).isLt; omega⟩

/-- The block a grid point writes: the gated feed-forward of the gathered rows. -/
def ffn (X : Fin 1024 → Fin 1024 → Elt F .f32) (wg wu : Vec F S1x1x1024x1408 .bf16) (wd : Vec F S1x1x1408x1024 .bf16)
    (G : Vec F S1x1x1024x128 .f32) : Vec F S1x1x1024x1024 .bf16 := fun y =>
  payCol (colOf y) (k0_pay4 (xTrip X (tripOf y)) wg wu wd) (k0_pay5 (gTrip G (tripOf y))) (inCol y)

/-- The piece stored at columns `128 j …` of trip `t`. -/
def piece (X : Fin 1024 → Fin 1024 → Elt F .f32) (wg wu : Vec F S1x1x1024x1408 .bf16) (wd : Vec F S1x1x1408x1024 .bf16)
    (G : Vec F S1x1x1024x128 .f32) (t : Fin 2) (j : Fin 8) : View.Piece (Elt F) S1x1x1024x1024 .bf16 :=
  ⟨Rect.unit (s := S1x1x1024x1024) ![0, 0, 512 * t.val, 128 * j.val] S1x1x512x128.size (ct_inb t j),
    payCol j (k0_pay4 (xTrip X t) wg wu wd) (k0_pay5 (gTrip G t))⟩

section
variable (X : Fin 1024 → Fin 1024 → Elt F .f32) (wg wu : Vec F S1x1x1024x1408 .bf16) (wd : Vec F S1x1x1408x1024 .bf16) (G : Vec F S1x1x1024x128 .f32)

theorem piece_eq (t : Fin 2) (j : Fin 8) (x : (piece X wg wu wd G t j).1.shape.Idx) :
    (piece X wg wu wd G t j).2 x = ffn X wg wu wd G ((piece X wg wu wd G t j).1.emb x) := by
  have h2 : (((piece X wg wu wd G t j).1.emb x 2 : Fin _) : ℕ) = 512 * t.val + (x 2).val :=
    emb_unit_val (s := S1x1x1024x1024) ![0, 0, 512 * t.val, 128 * j.val] S1x1x512x128.size (ct_inb t j) x 2
  have h3 : (((piece X wg wu wd G t j).1.emb x 3 : Fin _) : ℕ) = 128 * j.val + (x 3).val :=
    emb_unit_val (s := S1x1x1024x1024) ![0, 0, 512 * t.val, 128 * j.val] S1x1x512x128.size (ct_inb t j) x 3
  have x0 : (x 0).val < 1 := (x 0).isLt
  have x1 : (x 1).val < 1 := (x 1).isLt
  have x2 : (x 2).val < 512 := (x 2).isLt
  have x3 : (x 3).val < 128 := (x 3).isLt
  have ht : tripOf ((piece X wg wu wd G t j).1.emb x) = t := Fin.ext (by unfold tripOf; show _ / 512 = t.val; rw [h2]; omega)
  have hj : colOf ((piece X wg wu wd G t j).1.emb x) = j := Fin.ext (by unfold colOf; show _ / 128 = j.val; rw [h3]; omega)
  have hi : inCol ((piece X wg wu wd G t j).1.emb x) = x := by
    funext a
    match a with
    | ⟨0, _⟩ => exact Fin.ext (by show 0 = (x 0).val; omega)
    | ⟨1, _⟩ => exact Fin.ext (by show 0 = (x 1).val; omega)
    | ⟨2, _⟩ => exact Fin.ext (by show _ % 512 = (x 2).val; rw [h2]; omega)
    | ⟨3, _⟩ => exact Fin.ext (by show _ % 128 = (x 3).val; rw [h3]; omega)
  unfold ffn
  rw [ht, hj, hi]
  rfl

/-- Trip `t`'s pieces, last first. -/
def tripL (t : Fin 2) : List (View.Piece (Elt F) S1x1x1024x1024 .bf16) :=
  [piece X wg wu wd G t 7, piece X wg wu wd G t 6, piece X wg wu wd G t 5, piece X wg wu wd G t 4,
   piece X wg wu wd G t 3, piece X wg wu wd G t 2, piece X wg wu wd G t 1, piece X wg wu wd G t 0]

theorem piece_mem (t : Fin 2) (j : Fin 8) : piece X wg wu wd G t j ∈ tripL X wg wu wd G t := by
  unfold tripL
  match j with
  | 0 | 1 | 2 | 3 | 4 | 5 | 6 | 7 => simp

theorem mem_tripL (t : Fin 2) (p) (hp : p ∈ tripL X wg wu wd G t) : ∃ j, p = piece X wg wu wd G t j := by
  unfold tripL at hp
  simp only [List.mem_cons, List.not_mem_nil, or_false] at hp
  rcases hp with h | h | h | h | h | h | h | h <;> exact ⟨_, h⟩

/-- After both trips the block reads as the gated feed-forward. -/
theorem read_trips {sp : Space} (v : View sig .tc sp S1x1x1024x1024 .bf16) (f : v.ty.Contents (Elt F)) :
    v.read (Elt F) (v.writes (Elt F) (v.writes (Elt F) f (tripL X wg wu wd G 0)) (tripL X wg wu wd G 1)) = ffn X wg wu wd G := by
  rw [← View.writes_append]
  funext y
  refine View.read_writes_apply_of_pieces v f (ffn X wg wu wd G) _ ?_ y ?_
  · intro p hp x
    rcases List.mem_append.1 hp with h | h
    · obtain ⟨j, rfl⟩ := mem_tripL X wg wu wd G 1 p h; exact piece_eq X wg wu wd G 1 j x
    · obtain ⟨j, rfl⟩ := mem_tripL X wg wu wd G 0 p h; exact piece_eq X wg wu wd G 0 j x
  · have hm : y ∈ (piece X wg wu wd G (tripOf y) (colOf y)).1.set := by
      refine (Rect.mem_set_unit (inb := ct_inb _ _)).2 fun a => ?_
      have y0 : (y 0).val < 1 := (y 0).isLt
      have y1 : (y 1).val < 1 := (y 1).isLt
      match a with
      | ⟨0, _⟩ => show 0 ≤ (y 0).val ∧ (y 0).val < 0 + 1; omega
      | ⟨1, _⟩ => show 0 ≤ (y 1).val ∧ (y 1).val < 0 + 1; omega
      | ⟨2, _⟩ => show 512 * ((y 2).val / 512) ≤ (y 2).val ∧ (y 2).val < 512 * ((y 2).val / 512) + 512; omega
      | ⟨3, _⟩ => show 128 * ((y 3).val / 128) ≤ (y 3).val ∧ (y 3).val < 128 * ((y 3).val / 128) + 128; omega
    refine ⟨_, List.mem_append.2 ?_, hm⟩
    rcases (show tripOf y = 1 ∨ tripOf y = 0 by
      have : (tripOf y).val < 2 := (tripOf y).isLt
      rcases (show (tripOf y).val = 1 ∨ (tripOf y).val = 0 by omega) with h | h
      · exact .inl (Fin.ext h)
      · exact .inr (Fin.ext h)) with h | h
    · rw [h]; exact .inl (piece_mem X wg wu wd G 1 _)
    · rw [h]; exact .inr (piece_mem X wg wu wd G 0 _)
end

end Cert.KernelIdeal.Hand
-- ==== Proof.Trip6.lean ====
module

public import proofs.«01_k».proof.Proof.Compute

@[expose] public section

/-! The compute loop run: it leaves the gated feed-forward of the slot's rows in the output block. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (b : Memref sig .tc .hbm S8192x1024 .f32) (fs : HBuf (F := F) c b) (s : Fin 2) (r : Fin 1024 → Fin 8192)

/-- The gathered rows by row and column. -/
def gRows : Fin 1024 → Fin 1024 → Elt F .f32 := fun n d => b.view.read (Elt F) fs (hix (r n) d)

theorem rows_sub (i : grid0.Coords) (t : Fin k0_t6_loop.trips) (hs : (i 1).val = s.val) :
    (M10.access (Rect.unit (s := S2x128x8x1024) (k0_off131 i t) S1x64x8x1024.size (k0_off131_inb i t))).set ⊆ slotSet s := by
  intro y hy
  rw [View.set_slice_whole, Rect.mem_set_unit] at hy
  have h0 := hy 0
  rw [off131_at i t] at h0
  have h1 : (i 1).val ≤ (y 0).val ∧ (y 0).val < (i 1).val + 1 := h0
  rw [mem_slotSet]; omega

theorem rows_read (i : grid0.Coords) (t : Fin k0_t6_loop.trips) (t' : Fin 2) (ht : t.val = t'.val) :
    (M10.access (Rect.unit (s := S2x128x8x1024) (k0_off131 i t) S1x64x8x1024.size (k0_off131_inb i t))).read (Elt F) (gath b fs r) = xTrip (gRows c b fs r) t' := by
  funext y
  have he (a : Fin 4) : (((Rect.unit (s := S2x128x8x1024) (k0_off131 i t) S1x64x8x1024.size (k0_off131_inb i t)).emb y a : Fin _) : ℕ) = ![(i 1).val, 64 * t.val, 0, 0] a + (y a).val := by
    rw [← off131_at i t]; exact emb_unit_val (s := S2x128x8x1024) _ _ _ y a
  have e1 : (((Rect.unit (s := S2x128x8x1024) (k0_off131 i t) S1x64x8x1024.size (k0_off131_inb i t)).emb y 1 : Fin _) : ℕ) = 64 * t.val + (y 1).val := he 1
  have e2 : (((Rect.unit (s := S2x128x8x1024) (k0_off131 i t) S1x64x8x1024.size (k0_off131_inb i t)).emb y 2 : Fin _) : ℕ) = 0 + (y 2).val := he 2
  have e3 : (((Rect.unit (s := S2x128x8x1024) (k0_off131 i t) S1x64x8x1024.size (k0_off131_inb i t)).emb y 3 : Fin _) : ℕ) = 0 + (y 3).val := he 3
  have h1 : rowOf ((Rect.unit (s := S2x128x8x1024) (k0_off131 i t) S1x64x8x1024.size (k0_off131_inb i t)).emb y)
      = ⟨512 * t'.val + 8 * (y 1).val + (y 2).val, by
          have h1 : (y 1).val < 64 := (y 1).isLt; have h2 : (y 2).val < 8 := (y 2).isLt; omega⟩ := by
    apply Fin.ext
    unfold rowOf
    show 8 * _ + _ = _
    rw [e1, e2]; show _ = 512 * t'.val + 8 * (y 1).val + (y 2).val; omega
  have h3 : (Rect.unit (s := S2x128x8x1024) (k0_off131 i t) S1x64x8x1024.size (k0_off131_inb i t)).emb y 3 = (y 3 : Fin 1024) :=
    Fin.ext (by rw [e3]; exact Nat.zero_add _)
  have hh (n n' : Fin 1024) (d d' : Fin 1024) (hn : n = n') (hd : d = d') : b.view.read (Elt F) fs (hix (r n) d) = b.view.read (Elt F) fs (hix (r n') d') := by
    rw [hn, hd]
  exact hh _ _ _ _ h1 h3

variable {q5 q6 q7 q8 : PosShare TreeShare}
variable (arg5 arg6 : Memref sig .tc .vmem S1x1x1024x1408 .bf16) (arg7 : Memref sig .tc .vmem S1x1x1408x1024 .bf16) (arg8 : Memref sig .tc .vmem S1x1x1024x128 .f32)
  (arg9 : Memref sig .tc .vmem S1x1x1024x1024 .bf16)
variable (f5 : Buf (Elt F) (arg5.view.loc (c : Thread nD τ))) (f6 : Buf (Elt F) (arg6.view.loc (c : Thread nD τ))) (f7 : Buf (Elt F) (arg7.view.loc (c : Thread nD τ)))
  (f8 : Buf (Elt F) (arg8.view.loc (c : Thread nD τ)))

/-- What a compute trip holds: the weights' and gates' blocks, the slot's rows, and the output block at `f9`. -/
def compSt (f9 : Buf (Elt F) (arg9.view.loc (c : Thread nD τ))) : sProp 𝕄 :=
  iprop((arg5.view.loc (c : Thread nD τ) ↦[arg5.view.set]{fullShare} f5) ∗ (arg6.view.loc (c : Thread nD τ) ↦[arg6.view.set]{fullShare} f6)
    ∗ (arg7.view.loc (c : Thread nD τ) ↦[arg7.view.set]{fullShare} f7) ∗ (arg8.view.loc (c : Thread nD τ) ↦[arg8.view.set]{fullShare} f8)
    ∗ (M10.view.loc (c : Thread nD τ) ↦[slotSet s]{fullShare} (gath b fs r : Buf (Elt F) (M10.view.loc (c : Thread nD τ))))
    ∗ (arg9.view.loc (c : Thread nD τ) ↦[arg9.view.set]{fullShare} f9))

theorem read_zero4 {sh : Shape} {e : EltTy} {sp : Space} (m : Memref sig .tc sp sh e) (f : Buf (Elt F) (m.view.loc (c : Thread nD τ)))
    (o : Fin sh.rank → ℕ) (h) (ho : ∀ a, o a = 0) (hx : ∀ x a, ((Rect.unit o sh.size h).emb x a : ℕ) = o a + (x a : ℕ)) :
    (m.access (Rect.unit o sh.size h)).read (Elt F) f = m.view.read (Elt F) f := by
  funext y
  show m.view.read (Elt F) f ((Rect.unit o sh.size h).emb y) = m.view.read (Elt F) f y
  refine congrArg _ (funext fun a => Fin.ext ?_)
  rw [hx, ho, Nat.zero_add]

theorem gates_read (t : Fin k0_t6_loop.trips) (t' : Fin 2) (ht : t.val = t'.val) :
    (arg8.access (Rect.unit (s := S1x1x1024x128) (k0_off132 t) S1x1x512x128.size (k0_off132_inb t))).read (Elt F) f8 = gTrip (arg8.view.read (Elt F) f8) t' := by
  funext y
  show arg8.view.read (Elt F) f8 _ = arg8.view.read (Elt F) f8 _
  refine congrArg _ (funext fun a => Fin.ext ?_)
  refine (emb_unit_val (s := S1x1x1024x128) _ _ _ y a).trans (Eq.trans ?_ (emb_unit_val (s := S1x1x1024x128) _ _ (gt_inb t') y a).symm)
  have e := congrFun (off132_at t) a
  rw [ht] at e
  exact congrArg (· + (y a).val) e

/-- A load through a view held whole. -/
theorem load_whole {sh : Shape} {e : EltTy} {sp : CoreSpace} (m : Memref sig .tc sp sh e) (q : PosShare TreeShare) (f : Buf (Elt F) (m.view.loc (c : Thread nD τ)))
    {rc : Rect sh} {hl : m.view.LoadsAt rc} {k : (rc.shape.Idx → Elt F e) → Prog (TpuEff nD τ sig (Elt F) Λ₀ (c : Thread nD τ).2) PUnit} (Q : PUnit → sProp 𝕄) :
    (m.view.loc (c : Thread nD τ) ↦[m.view.set]{q} f) ⊢ iprop(((m.view.loc (c : Thread nD τ) ↦[m.view.set]{q} f) -∗
        wp frame (wpE (defs₀ (F := F)) Variants.none (c : Thread nD τ) none) Set.univ (k ((m.access rc).read (Elt F) f)) Q) -∗
      wp frame (wpE (defs₀ (F := F)) Variants.none (c : Thread nD τ) none) Set.univ (.op (.load m rc hl) k) Q) :=
  wp_load_rect (defs := defs₀ (F := F)) (m := m) (r := rc) Variants.none (c : Thread nD τ) none Set.univ (View.set_slice_subset _ _)

/-- A store through a view held whole, onto a block already partly stored. -/
theorem store_whole {sh : Shape} {e : EltTy} {sp : CoreSpace} (m : Memref sig .tc sp sh e) (f : Buf (Elt F) (m.view.loc (c : Thread nD τ))) (L : List (View.Piece (Elt F) sh e))
    {rc : Rect sh} {w : rc.shape.Idx → Elt F e} {hx} {hm}
    {k : PUnit → Prog (TpuEff nD τ sig (Elt F) Λ₀ (c : Thread nD τ).2) PUnit} (p : View.Piece (Elt F) sh e) (hp : (⟨rc, w⟩ : View.Piece (Elt F) sh e) = p) (Q : PUnit → sProp 𝕄) :
    (m.view.loc (c : Thread nD τ) ↦[m.view.set]{fullShare} m.view.writes (Elt F) f L) ⊢ iprop(((m.view.loc (c : Thread nD τ) ↦[m.view.set]{fullShare} m.view.writes (Elt F) f (p :: L)) -∗
        wp frame (wpE (defs₀ (F := F)) Variants.none (c : Thread nD τ) none) Set.univ (k ⟨⟩) Q) -∗
      wp frame (wpE (defs₀ (F := F)) Variants.none (c : Thread nD τ) none) Set.univ (.op (.store m rc w Finset.univ hx hm) k) Q) := by
  subst hp
  exact wp_store (defs := defs₀ (F := F)) (m := m) (r := rc) Variants.none (c : Thread nD τ) none Set.univ (View.set_slice_subset _ _)

theorem piece_of (o : Fin 4 → ℕ) (h) (t : Fin 2) (j : Fin 8) (ho : o = ![0, 0, 512 * t.val, 128 * j.val]) (X : Fin 1024 → Fin 1024 → Elt F .f32) (wg wu : Vec F S1x1x1024x1408 .bf16) (wd : Vec F S1x1x1408x1024 .bf16)
    (G : Vec F S1x1x1024x128 .f32) (w : Vec F S1x1x512x128 .bf16) (hw : w = payCol j (k0_pay4 (xTrip X t) wg wu wd) (k0_pay5 (gTrip G t))) :
    (⟨Rect.unit (s := S1x1x1024x1024) o S1x1x512x128.size h, w⟩ : View.Piece (Elt F) S1x1x1024x1024 .bf16) = piece X wg wu wd G t j := by
  subst ho hw; rfl

theorem trip6 (i : grid0.Coords) (hs : (i 1).val = s.val) (t : Fin k0_t6_loop.trips) (t' : Fin 2) (ht : t.val = t'.val)
    (f9 : Buf (Elt F) (arg9.view.loc (c : Thread nD τ)))
    {arg2} {h2} {arg3} {h3} {arg4} {h4} {h5} {h6} {h7} {h8} {h9} {h10} {v11} (Q : PUnit → sProp 𝕄) :
   compSt c b fs s r arg5 arg6 arg7 arg8 arg9 f5 f6 f7 f8 f9 ⊢ iprop((compSt c b fs s r arg5 arg6 arg7 arg8 arg9 f5 f6 f7 f8
        (arg9.view.writes (Elt F) f9 (tripL (gRows c b fs r) (arg5.view.read (Elt F) f5) (arg6.view.read (Elt F) f6) (arg7.view.read (Elt F) f7) (arg8.view.read (Elt F) f8) t')) -∗ Q ⟨⟩) -∗
    wp frame (wpE (defs₀ (F := F)) Variants.none (c : Thread nD τ) none) Set.univ
     (k0_t6_body i arg2 h2 arg3 h3 arg4 h4 arg5 h5 arg6 h6 arg7 h7 arg8 h8 arg9 h9 (Memref.whole cc0_scratch0) h10 cc0_scratch1 v11 t ⟨⟩) Q) := by
  unfold k0_t6_body
  rw [k0_part10_eq_skeleton, k0_part11_eq_skeleton]
  unfold k0_part10_skel k0_part11_skel
  dsimp only
  simp only [bind_assoc, pure_bind]
  unfold compSt
  iintro ⟨H5, H6, H7, H8, HM, H9⟩ HK
  iapply (wp_load_rect (defs := defs₀ (F := F)) Variants.none (c : Thread nD τ) none Set.univ (rows_sub s i t hs)) $$ HM
  iintro HM
  rw [rows_read c b fs r i t t' ht]
  iapply (load_whole c arg5 fullShare f5 Q) $$ H5
  iintro H5
  rw [read_zero4 c arg5 f5 _ _ (by decide) (fun x a => emb_unit_val _ _ _ x a)]
  iapply (load_whole c arg6 fullShare f6 Q) $$ H6
  iintro H6
  rw [read_zero4 c arg6 f6 _ _ (by decide) (fun x a => emb_unit_val _ _ _ x a)]
  iapply (load_whole c arg7 fullShare f7 Q) $$ H7
  iintro H7
  rw [read_zero4 c arg7 f7 _ _ (by decide) (fun x a => emb_unit_val _ _ _ x a)]
  iapply (load_whole c arg8 fullShare f8 Q) $$ H8
  iintro H8
  rw [gates_read c arg8 f8 t t' ht]
  iapply (load_whole c arg9 fullShare _ Q) $$ H9
  iintro H9
  ihave H9 := (Entails.of_eq (show (arg9.view.loc (c : Thread nD τ) ↦[arg9.view.set]{fullShare} f9 : sProp 𝕄) = (arg9.view.loc (c : Thread nD τ) ↦[arg9.view.set]{fullShare} arg9.view.writes (Elt F) f9 ([] : List (View.Piece (Elt F) S1x1x1024x1024 .bf16))) from rfl)) $$ H9
  iapply (store_whole c arg9 f9 [] (piece (gRows c b fs r) (arg5.view.read (Elt F) f5) (arg6.view.read (Elt F) f6) (arg7.view.read (Elt F) f7) (arg8.view.read (Elt F) f8) t' 0) (piece_of _ _ t' 0 (by rw [off133_at t, ht]; rfl) (gRows c b fs r) (arg5.view.read (Elt F) f5) (arg6.view.read (Elt F) f6) (arg7.view.read (Elt F) f7) (arg8.view.read (Elt F) f8) _ (pay_col0 _ _ _ _ _)) Q) $$ H9
  iintro H9
  iapply (load_whole c arg9 fullShare _ Q) $$ H9
  iintro H9
  iapply (store_whole c arg9 f9 _ (piece (gRows c b fs r) (arg5.view.read (Elt F) f5) (arg6.view.read (Elt F) f6) (arg7.view.read (Elt F) f7) (arg8.view.read (Elt F) f8) t' 1) (piece_of _ _ t' 1 (by rw [off134_at t, ht]; rfl) (gRows c b fs r) (arg5.view.read (Elt F) f5) (arg6.view.read (Elt F) f6) (arg7.view.read (Elt F) f7) (arg8.view.read (Elt F) f8) _ (pay_col1 _ _ _ _ _)) Q) $$ H9
  iintro H9
  iapply (load_whole c arg9 fullShare _ Q) $$ H9
  iintro H9
  iapply (store_whole c arg9 f9 _ (piece (gRows c b fs r) (arg5.view.read (Elt F) f5) (arg6.view.read (Elt F) f6) (arg7.view.read (Elt F) f7) (arg8.view.read (Elt F) f8) t' 2) (piece_of _ _ t' 2 (by rw [off135_at t, ht]; rfl) (gRows c b fs r) (arg5.view.read (Elt F) f5) (arg6.view.read (Elt F) f6) (arg7.view.read (Elt F) f7) (arg8.view.read (Elt F) f8) _ (pay_col2 _ _ _ _ _)) Q) $$ H9
  iintro H9
  iapply (load_whole c arg9 fullShare _ Q) $$ H9
  iintro H9
  iapply (store_whole c arg9 f9 _ (piece (gRows c b fs r) (arg5.view.read (Elt F) f5) (arg6.view.read (Elt F) f6) (arg7.view.read (Elt F) f7) (arg8.view.read (Elt F) f8) t' 3) (piece_of _ _ t' 3 (by rw [off136_at t, ht]; rfl) (gRows c b fs r) (arg5.view.read (Elt F) f5) (arg6.view.read (Elt F) f6) (arg7.view.read (Elt F) f7) (arg8.view.read (Elt F) f8) _ (pay_col3 _ _ _ _ _)) Q) $$ H9
  iintro H9
  iapply (load_whole c arg9 fullShare _ Q) $$ H9
  iintro H9
  iapply (store_whole c arg9 f9 _ (piece (gRows c b fs r) (arg5.view.read (Elt F) f5) (arg6.view.read (Elt F) f6) (arg7.view.read (Elt F) f7) (arg8.view.read (Elt F) f8) t' 4) (piece_of _ _ t' 4 (by rw [off137_at t, ht]; rfl) (gRows c b fs r) (arg5.view.read (Elt F) f5) (arg6.view.read (Elt F) f6) (arg7.view.read (Elt F) f7) (arg8.view.read (Elt F) f8) _ (pay_col4 _ _ _ _ _)) Q) $$ H9
  iintro H9
  iapply (load_whole c arg9 fullShare _ Q) $$ H9
  iintro H9
  iapply (store_whole c arg9 f9 _ (piece (gRows c b fs r) (arg5.view.read (Elt F) f5) (arg6.view.read (Elt F) f6) (arg7.view.read (Elt F) f7) (arg8.view.read (Elt F) f8) t' 5) (piece_of _ _ t' 5 (by rw [off138_at t, ht]; rfl) (gRows c b fs r) (arg5.view.read (Elt F) f5) (arg6.view.read (Elt F) f6) (arg7.view.read (Elt F) f7) (arg8.view.read (Elt F) f8) _ (pay_col5 _ _ _ _ _)) Q) $$ H9
  iintro H9
  iapply (load_whole c arg9 fullShare _ Q) $$ H9
  iintro H9
  iapply (store_whole c arg9 f9 _ (piece (gRows c b fs r) (arg5.view.read (Elt F) f5) (arg6.view.read (Elt F) f6) (arg7.view.read (Elt F) f7) (arg8.view.read (Elt F) f8) t' 6) (piece_of _ _ t' 6 (by rw [off139_at t, ht]; rfl) (gRows c b fs r) (arg5.view.read (Elt F) f5) (arg6.view.read (Elt F) f6) (arg7.view.read (Elt F) f7) (arg8.view.read (Elt F) f8) _ (pay_col6 _ _ _ _ _)) Q) $$ H9
  iintro H9
  iapply (load_whole c arg9 fullShare _ Q) $$ H9
  iintro H9
  iapply (store_whole c arg9 f9 _ (piece (gRows c b fs r) (arg5.view.read (Elt F) f5) (arg6.view.read (Elt F) f6) (arg7.view.read (Elt F) f7) (arg8.view.read (Elt F) f8) t' 7) (piece_of _ _ t' 7 (by rw [off140_at t, ht]; rfl) (gRows c b fs r) (arg5.view.read (Elt F) f5) (arg6.view.read (Elt F) f6) (arg7.view.read (Elt F) f7) (arg8.view.read (Elt F) f8) _ (pay_col7 _ _ _ _ _)) Q) $$ H9
  iintro H9
  iapply (le_wp_ret (Q := Q))
  iapply HK
  isplitl [H5]; iexact H5
  isplitl [H6]; iexact H6
  isplitl [H7]; iexact H7
  isplitl [H8]; iexact H8
  isplitl [HM]; iexact HM
  iexact H9

/-- The output block's contents after `n` trips. -/
def afterTrips (f9 : Buf (Elt F) (arg9.view.loc (c : Thread nD τ))) (n : ℕ) : Buf (Elt F) (arg9.view.loc (c : Thread nD τ)) :=
  match n with
  | 0 => f9
  | 1 => arg9.view.writes (Elt F) f9 (tripL (gRows c b fs r) (arg5.view.read (Elt F) f5) (arg6.view.read (Elt F) f6) (arg7.view.read (Elt F) f7) (arg8.view.read (Elt F) f8) 0)
  | _ => arg9.view.writes (Elt F) (arg9.view.writes (Elt F) f9 (tripL (gRows c b fs r) (arg5.view.read (Elt F) f5) (arg6.view.read (Elt F) f6) (arg7.view.read (Elt F) f7) (arg8.view.read (Elt F) f8) 0))
      (tripL (gRows c b fs r) (arg5.view.read (Elt F) f5) (arg6.view.read (Elt F) f6) (arg7.view.read (Elt F) f7) (arg8.view.read (Elt F) f8) 1)

theorem afterTrips_succ (f9 : Buf (Elt F) (arg9.view.loc (c : Thread nD τ))) (t : Fin 2) :
    afterTrips c b fs r arg5 arg6 arg7 arg8 arg9 f5 f6 f7 f8 f9 (t.val + 1)
      = arg9.view.writes (Elt F) (afterTrips c b fs r arg5 arg6 arg7 arg8 arg9 f5 f6 f7 f8 f9 t.val)
        (tripL (gRows c b fs r) (arg5.view.read (Elt F) f5) (arg6.view.read (Elt F) f6) (arg7.view.read (Elt F) f7) (arg8.view.read (Elt F) f8) t) := by
  match t with
  | 0 | 1 => rfl

theorem loop6 (i : grid0.Coords) (hs : (i 1).val = s.val) (f9 : Buf (Elt F) (arg9.view.loc (c : Thread nD τ)))
    {arg2} {h2} {arg3} {h3} {arg4} {h4} {h5} {h6} {h7} {h8} {h9} {h10} {v11} {hok} {kk : PUnit → Prog (TpuEff nD τ sig (Elt F) Λ₀ (c : Thread nD τ).2) PUnit} (Q : PUnit → sProp 𝕄) :
   compSt c b fs s r arg5 arg6 arg7 arg8 arg9 f5 f6 f7 f8 f9 ⊢ iprop((∀ g9, ⌜arg9.view.read (Elt F) g9 = ffn (gRows c b fs r) (arg5.view.read (Elt F) f5) (arg6.view.read (Elt F) f6) (arg7.view.read (Elt F) f7) (arg8.view.read (Elt F) f8)⌝ -∗
        compSt c b fs s r arg5 arg6 arg7 arg8 arg9 f5 f6 f7 f8 g9 -∗ wp frame (wpE (defs₀ (F := F)) Variants.none (c : Thread nD τ) none) Set.univ (kk ⟨⟩) Q) -∗
    wp frame (wpE (defs₀ (F := F)) Variants.none (c : Thread nD τ) none) Set.univ
     (Scf.Loop.for k0_t6_loop hok ⟨⟩ (k0_t6_body i arg2 h2 arg3 h3 arg4 h4 arg5 h5 arg6 h6 arg7 h7 arg8 h8 arg9 h9 (Memref.whole cc0_scratch0) h10 cc0_scratch1 v11) >>= kk) Q) := by
  iintro H HK
  ihave H := (Entails.of_eq (show compSt c b fs s r arg5 arg6 arg7 arg8 arg9 f5 f6 f7 f8 f9 = compSt c b fs s r arg5 arg6 arg7 arg8 arg9 f5 f6 f7 f8 (afterTrips c b fs r arg5 arg6 arg7 arg8 arg9 f5 f6 f7 f8 f9 0) from rfl)) $$ H
  iapply (Scf.wp_for_bind _ _ _ _ _ _ hok _ _ (fun n _ => compSt c b fs s r arg5 arg6 arg7 arg8 arg9 f5 f6 f7 f8 (afterTrips c b fs r arg5 arg6 arg7 arg8 arg9 f5 f6 f7 f8 f9 n)) ?hb) $$ H
  case hb =>
    intro k acc
    have hk : k.val < 2 := lt_of_lt_of_eq k.isLt trips6
    iintro H
    iapply (trip6 c b fs s r arg5 arg6 arg7 arg8 arg9 f5 f6 f7 f8 i hs k ⟨k.val, hk⟩ rfl _ _) $$ H
    iintro H
    rw [← afterTrips_succ c b fs r arg5 arg6 arg7 arg8 arg9 f5 f6 f7 f8 f9 ⟨k.val, hk⟩]
    iexact H
  iintro %acc H
  ispecialize HK $$ %_ %(read_trips _ _ _ _ _ arg9.view f9)
  iapply HK
  rw [show Scf.trips k0_t6_loop.lb k0_t6_loop.ub k0_t6_loop.st = 2 from trips6]
  iexact H

end Cert.KernelIdeal.Hand
-- ==== Proof.Body.lean ====
module

public import proofs.«01_k».proof.Proof.Trip6

@[expose] public section

/-! One grid point: what the kernel holds between points, and the body run from one to the next. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD)

/-- A slot with no copy in flight: its rows at anything, its source array whole, its cell at zero. -/
def free (b : Memref sig .tc .hbm S8192x1024 .f32) (fs : HBuf (F := F) c b) (s : Fin 2) : sProp 𝕄 :=
  iprop(slotAny (F := F) c s ∗ (b.view.loc (c : Thread nD τ) ↦[b.view.set]{fullShare} fs) ∗ semVal ((c : Thread nD τ), SemLoc.dma (cell s)) 0)

/-- The row-number table as the body holds it. -/
def table (q : PosShare TreeShare) (T : TBuf (F := F) c) : sProp 𝕄 :=
  iprop((Memref.whole main_v5).view.loc (c : Thread nD τ) ↦{q} T)

/-- A slot filled by any of the copy loops. -/
theorem fill (q : PosShare TreeShare) (T : TBuf (F := F) c) (b : Memref sig .tc .hbm S8192x1024 .f32) (fs : HBuf (F := F) c b) (s : Fin 2) (r : Fin 1024 → Fin 8192)
    {p : Prog (TpuEff nD τ sig (Elt F) Λ₀ .tc) PUnit} {Q : PUnit → sProp 𝕄} {X : sProp 𝕄}
    (hl : copySt c q T b fs s r 0 ⊢ iprop((copySt c q T b fs s r 1024 -∗ X) -∗ wp frame (wpE (defs₀ (F := F)) Variants.none (c : Thread nD τ) none) Set.univ p Q)) :
    iprop(table c q T ∗ free c b fs s) ⊢ iprop(((table c q T ∗ flightSt c b fs s r) -∗ X) -∗ wp frame (wpE (defs₀ (F := F)) Variants.none (c : Thread nD τ) none) Set.univ p Q) := by
  iintro ⟨HT, HF⟩ HK
  unfold free
  imod (issue_start c b fs s r (E := Set.univ)) $$ HF with ⟨HI, Hd⟩
  iapply hl $$ [HT HI]
  · unfold copySt table
    isplitl [HT] <;> iassumption
  unfold copySt
  iintro ⟨HT, HI⟩
  iapply HK
  isplitl [HT]
  · unfold table; iexact HT
  iapply (issue_end c b fs s r)
  isplitl [HI] <;> iassumption

section
variable (arg5 arg6 : Memref sig .tc .vmem S1x1x1024x1408 .bf16) (arg7 : Memref sig .tc .vmem S1x1x1408x1024 .bf16) (arg8 : Memref sig .tc .vmem S1x1x1024x128 .f32)
  (arg9 : Memref sig .tc .vmem S1x1x1024x1024 .bf16)
variable (f5 : Buf (Elt F) (arg5.view.loc (c : Thread nD τ))) (f6 : Buf (Elt F) (arg6.view.loc (c : Thread nD τ))) (f7 : Buf (Elt F) (arg7.view.loc (c : Thread nD τ)))
  (f8 : Buf (Elt F) (arg8.view.loc (c : Thread nD τ)))

/-- The staged blocks. -/
def winSt (f9 : Buf (Elt F) (arg9.view.loc (c : Thread nD τ))) : sProp 𝕄 :=
  iprop((arg5.view.loc (c : Thread nD τ) ↦[arg5.view.set]{fullShare} f5) ∗ (arg6.view.loc (c : Thread nD τ) ↦[arg6.view.set]{fullShare} f6)
    ∗ (arg7.view.loc (c : Thread nD τ) ↦[arg7.view.set]{fullShare} f7) ∗ (arg8.view.loc (c : Thread nD τ) ↦[arg8.view.set]{fullShare} f8)
    ∗ (arg9.view.loc (c : Thread nD τ) ↦[arg9.view.set]{fullShare} f9))

/-- The point's end: a slot in flight waited for and computed with. -/
theorem finish (b : Memref sig .tc .hbm S8192x1024 .f32) (fs : HBuf (F := F) c b) (s : Fin 2) (r : Fin 1024 → Fin 8192)
    (i : grid0.Coords) (hs : (i 1).val = s.val) (W : Waits sig Unit) (f9 : Buf (Elt F) (arg9.view.loc (c : Thread nD τ)))
    {arg2} {h2} {arg3} {h3} {arg4} {h4} {h5} {h6} {h7} {h8} {h9} {h10} {v11} {hok5} {hok6} (Q : PUnit → sProp 𝕄) :
    iprop(flightSt c b fs s r ∗ owes (c : Thread nD τ) 0 W ∗ winSt c arg5 arg6 arg7 arg8 arg9 f5 f6 f7 f8 f9)
      ⊢ iprop((∀ W' g9, ⌜arg9.view.read (Elt F) g9 = ffn (gRows c b fs r) (arg5.view.read (Elt F) f5) (arg6.view.read (Elt F) f6) (arg7.view.read (Elt F) f7) (arg8.view.read (Elt F) f8)⌝ -∗
          (free c b fs s ∗ owes (c : Thread nD τ) 0 W' ∗ winSt c arg5 arg6 arg7 arg8 arg9 f5 f6 f7 f8 g9) -∗ Q ⟨⟩) -∗
        wp frame (wpE (defs₀ (F := F)) Variants.none (c : Thread nD τ) none) Set.univ
          (Scf.Loop.for k0_t5_loop hok5 ⟨⟩ (k0_t5_body i arg2 h2 arg3 h3 arg4 h4 arg5 h5 arg6 h6 arg7 h7 arg8 h8 arg9 h9 (Memref.whole cc0_scratch0) h10 cc0_scratch1) >>= fun _ =>
            Scf.Loop.for k0_t6_loop hok6 ⟨⟩ (k0_t6_body i arg2 h2 arg3 h3 arg4 h4 arg5 h5 arg6 h6 arg7 h7 arg8 h8 arg9 h9 (Memref.whole cc0_scratch0) h10 cc0_scratch1 v11) >>= fun _ => pure ⟨⟩) Q) := by
  iintro ⟨HF, HW, Hw⟩ HK
  iapply (loop5 c b fs s r i hs W Q) $$ [HF HW]
  · isplitl [HF] <;> iassumption
  unfold landedSt
  iintro %W' ⟨⟨HM, Hb, Hq⟩, HW⟩
  unfold winSt
  icases Hw with ⟨H5, H6, H7, H8, H9⟩
  iapply (loop6 c b fs s r arg5 arg6 arg7 arg8 arg9 f5 f6 f7 f8 i hs f9 Q) $$ [H5 H6 H7 H8 H9 HM]
  · unfold compSt
    isplitl [H5]; · iexact H5
    isplitl [H6]; · iexact H6
    isplitl [H7]; · iexact H7
    isplitl [H8]; · iexact H8
    isplitl [HM]; · iexact HM
    iexact H9
  iintro %g9 %hg HC
  unfold compSt
  icases HC with ⟨H5, H6, H7, H8, HM, H9⟩
  iapply (le_wp_ret (Q := Q))
  ispecialize HK $$ %W' %g9 %hg
  iapply HK
  isplitl [HM Hb Hq]
  · unfold free slotAny
    isplitl [HM]; · iexists _; iexact HM
    isplitl [Hb]; · iexact Hb
    iexact Hq
  isplitl [HW]; · iexact HW
  isplitl [H5]; · iexact H5
  isplitl [H6]; · iexact H6
  isplitl [H7]; · iexact H7
  isplitl [H8]; · iexact H8
  iexact H9
end

variable (q : PosShare TreeShare) (T : TBuf (F := F) c) (hT : ∀ j : S32768.Idx, (T j : BitVec 32).toNat < 8192)
variable (b3 b4 : Memref sig .tc .hbm S8192x1024 .f32) (f3 : HBuf (F := F) c b3) (f4 : HBuf (F := F) c b4)

/-- Slot 0 with the copies of expert `e` in flight, if `e` is an expert past the first; else free. -/
def slot0 (e : ℕ) : sProp 𝕄 :=
  if h : 0 < e ∧ e < 16 then flightSt c b3 f3 0 (rows c T hT 0 ⟨e, h.2⟩) else free c b3 f3 0

/-- What the kernel holds at the start of grid point `k`. -/
def between (k : ℕ) : sProp 𝕄 :=
  if k % 2 = 0 then iprop(table c q T ∗ slot0 c T hT b3 f3 (k / 2) ∗ free c b4 f4 1)
  else iprop(table c q T ∗ free c b3 f3 0 ∗ flightSt c b4 f4 1 (rows c T hT 1 ⟨k / 2 % 16, Nat.mod_lt _ (by decide)⟩))

/-- The source array of point `i`'s rows, by row and column. -/
def srcRows (i : grid0.Coords) : Fin 1024 → Fin 1024 → Elt F .f32 :=
  if (i 1).val = 0 then gRows c b3 f3 (rows c T hT 0 (i 0)) else gRows c b4 f4 (rows c T hT 1 (i 0))

variable (arg5 arg6 : Memref sig .tc .vmem S1x1x1024x1408 .bf16) (arg7 : Memref sig .tc .vmem S1x1x1408x1024 .bf16) (arg8 : Memref sig .tc .vmem S1x1x1024x128 .f32)
  (arg9 : Memref sig .tc .vmem S1x1x1024x1024 .bf16)
variable (f5 : Buf (Elt F) (arg5.view.loc (c : Thread nD τ))) (f6 : Buf (Elt F) (arg6.view.loc (c : Thread nD τ))) (f7 : Buf (Elt F) (arg7.view.loc (c : Thread nD τ)))
  (f8 : Buf (Elt F) (arg8.view.loc (c : Thread nD τ)))

/-- The body at a point, from what the kernel holds before it to what it holds after, the point's block written. -/
theorem body_run (hb3 : b3.IsWhole) (hb4 : b4.IsWhole) (i : grid0.Coords) (k : ℕ) (hk : k = 2 * (i 0).val + (i 1).val)
    (W : Waits sig Unit) (f9 : Buf (Elt F) (arg9.view.loc (c : Thread nD τ))) {h2} {h5} {h6} {h7} {h8} {h9} {h10} (Q : PUnit → sProp 𝕄) :
    iprop(between c q T hT b3 b4 f3 f4 k ∗ owes (c : Thread nD τ) 0 W ∗ winSt c arg5 arg6 arg7 arg8 arg9 f5 f6 f7 f8 f9)
      ⊢ iprop((∀ W' g9, ⌜arg9.view.read (Elt F) g9 = ffn (srcRows c T hT b3 b4 f3 f4 i) (arg5.view.read (Elt F) f5) (arg6.view.read (Elt F) f6) (arg7.view.read (Elt F) f7) (arg8.view.read (Elt F) f8)⌝ -∗
          (between c q T hT b3 b4 f3 f4 (k + 1) ∗ owes (c : Thread nD τ) 0 W' ∗ winSt c arg5 arg6 arg7 arg8 arg9 f5 f6 f7 f8 g9) -∗ Q ⟨⟩) -∗
        wp frame (wpE (defs₀ (F := F)) Variants.none (c : Thread nD τ) none) Set.univ
          (cc0_expert_ffn i (Memref.whole main_v5) h2 b3 hb3 b4 hb4 arg5 h5 arg6 h6 arg7 h7 arg8 h8 arg9 h9 (Memref.whole cc0_scratch0) h10 cc0_scratch1) Q) := by
  rw [cc0_expert_ffn_eq_skeleton]
  unfold cc0_expert_ffn_skel
  rw [k0_part9_eq_skeleton]
  unfold k0_part9_skel
  dsimp only
  have hi0 : (i 0).val < 16 := (i 0).isLt
  have hi1 : (i 1).val < 2 := (i 1).isLt
  by_cases hp : (i 1).val = 0
  · have hk2 : k % 2 = 0 := by omega
    have hkd : k / 2 = (i 0).val := by omega
    have e1 : between c q T hT b3 b4 f3 f4 k = iprop(table c q T ∗ slot0 c T hT b3 f3 (i 0).val ∗ free c b4 f4 1) := by
      unfold between; rw [if_pos hk2, hkd]
    have e2 : between c q T hT b3 b4 f3 f4 (k + 1) = iprop(table c q T ∗ free c b3 f3 0 ∗ flightSt c b4 f4 1 (rows c T hT 1 (i 0))) := by
      unfold between
      rw [if_neg (by omega)]
      have : (⟨(k + 1) / 2 % 16, Nat.mod_lt _ (by decide)⟩ : Fin 16) = i 0 := Fin.ext (by show (k + 1) / 2 % 16 = (i 0).val; omega)
      rw [this]
    have e3 : srcRows c T hT b3 b4 f3 f4 i = gRows c b3 f3 (rows c T hT 0 (i 0)) := if_pos hp
    rw [e1, e2, e3]
    have h4 : k0_cond4 i = 1#1 := (cond4_iff i).2 (by omega)
    have h5 : ¬ k0_cond5 i = 1#1 := mt (cond5_iff i).1 (by omega)
    have h6 : k0_cond6 i = 1#1 := (cond6_iff i).2 hp
    have h3 : ¬ k0_cond3 i = 1#1 := mt (cond3_iff i).1 (by omega)
    have h2 : k0_cond2 i = 1#1 := (cond2_iff i).2 hp
    by_cases hz : (i 0).val = 0
    · have h1 : k0_cond1 i = 1#1 := (cond1_iff i).2 ⟨hz, hp⟩
      have es : slot0 c T hT b3 f3 (i 0).val = free c b3 f3 0 := dif_neg (by omega)
      have ei : (0 : Fin 16) = i 0 := Fin.ext hz.symm
      rw [dif_pos h1, dif_pos h2, dif_neg h3, dif_pos h4, dif_neg h5, es]
      simp only [dif_pos h6, bind_assoc, pure_bind]
      iintro ⟨⟨HT, H0, H1⟩, HW, Hw⟩ HK
      iapply (fill c q T b3 f3 0 (rows c T hT 0 0) (loop1 c q T hT b3 hb3 f3 i hz hp Q)) $$ [HT H0]
      · isplitl [HT] <;> iassumption
      iintro ⟨HT, H0⟩
      rw [ei]
      iapply (fill c q T b4 f4 1 (rows c T hT 1 (i 0)) (loop4 c q T hT b4 hb4 f4 i hp (i 0) rfl Q)) $$ [HT H1]
      · isplitl [HT] <;> iassumption
      iintro ⟨HT, H1⟩
      iapply (finish c arg5 arg6 arg7 arg8 arg9 f5 f6 f7 f8 b3 f3 0 (rows c T hT 0 (i 0)) i hp W f9 Q) $$ [H0 HW Hw]
      · isplitl [H0]; · iexact H0
        isplitl [HW] <;> iassumption
      iintro %W' %g9 %hg ⟨H0, HW, Hw⟩
      ispecialize HK $$ %W' %g9 %hg
      iapply HK
      isplitl [HT H0 H1]
      · isplitl [HT]; · iexact HT
        isplitl [H0] <;> iassumption
      isplitl [HW] <;> iassumption
    · have h1 : ¬ k0_cond1 i = 1#1 := mt (cond1_iff i).1 (by omega)
      have es : slot0 c T hT b3 f3 (i 0).val = flightSt c b3 f3 0 (rows c T hT 0 (i 0)) := dif_pos ⟨by omega, hi0⟩
      rw [dif_neg h1, dif_pos h4, dif_neg h5, es]
      simp only [dif_pos h6, bind_assoc, pure_bind]
      iintro ⟨⟨HT, H0, H1⟩, HW, Hw⟩ HK
      iapply (fill c q T b4 f4 1 (rows c T hT 1 (i 0)) (loop4 c q T hT b4 hb4 f4 i hp (i 0) rfl Q)) $$ [HT H1]
      · isplitl [HT] <;> iassumption
      iintro ⟨HT, H1⟩
      iapply (finish c arg5 arg6 arg7 arg8 arg9 f5 f6 f7 f8 b3 f3 0 (rows c T hT 0 (i 0)) i hp W f9 Q) $$ [H0 HW Hw]
      · isplitl [H0]; · iexact H0
        isplitl [HW] <;> iassumption
      iintro %W' %g9 %hg ⟨H0, HW, Hw⟩
      ispecialize HK $$ %W' %g9 %hg
      iapply HK
      isplitl [HT H0 H1]
      · isplitl [HT]; · iexact HT
        isplitl [H0] <;> iassumption
      isplitl [HW] <;> iassumption
  · have hp1 : (i 1).val = 1 := by omega
    have hk2 : ¬ k % 2 = 0 := by omega
    have hkd : (k + 1) / 2 = (i 0).val + 1 := by omega
    have e1 : between c q T hT b3 b4 f3 f4 k = iprop(table c q T ∗ free c b3 f3 0 ∗ flightSt c b4 f4 1 (rows c T hT 1 (i 0))) := by
      unfold between
      rw [if_neg hk2]
      have : (⟨k / 2 % 16, Nat.mod_lt _ (by decide)⟩ : Fin 16) = i 0 := Fin.ext (by show k / 2 % 16 = (i 0).val; omega)
      rw [this]
    have e2 : between c q T hT b3 b4 f3 f4 (k + 1) = iprop(table c q T ∗ slot0 c T hT b3 f3 ((i 0).val + 1) ∗ free c b4 f4 1) := by
      unfold between; rw [if_pos (by omega), hkd]
    have e3 : srcRows c T hT b3 b4 f3 f4 i = gRows c b4 f4 (rows c T hT 1 (i 0)) := if_neg hp
    have h1 : ¬ k0_cond1 i = 1#1 := mt (cond1_iff i).1 (by omega)
    have h6 : ¬ k0_cond6 i = 1#1 := mt (cond6_iff i).1 hp
    have h5 : k0_cond5 i = 1#1 := (cond5_iff i).2 hp1
    rw [e1, e2, e3]
    by_cases hl : (i 0).val = 15
    · have h4 : ¬ k0_cond4 i = 1#1 := mt (cond4_iff i).1 (by omega)
      have es : slot0 c T hT b3 f3 ((i 0).val + 1) = free c b3 f3 0 := dif_neg (by omega)
      rw [dif_neg h1, dif_neg h4, es]
      iintro ⟨⟨HT, H0, H1⟩, HW, Hw⟩ HK
      iapply (finish c arg5 arg6 arg7 arg8 arg9 f5 f6 f7 f8 b4 f4 1 (rows c T hT 1 (i 0)) i hp1 W f9 Q) $$ [H1 HW Hw]
      · isplitl [H1]; · iexact H1
        isplitl [HW] <;> iassumption
      iintro %W' %g9 %hg ⟨H1, HW, Hw⟩
      ispecialize HK $$ %W' %g9 %hg
      iapply HK
      isplitl [HT H0 H1]
      · isplitl [HT]; · iexact HT
        isplitl [H0] <;> iassumption
      isplitl [HW] <;> iassumption
    · have h4 : k0_cond4 i = 1#1 := (cond4_iff i).2 (by omega)
      have es : slot0 c T hT b3 f3 ((i 0).val + 1) = flightSt c b3 f3 0 (rows c T hT 0 ⟨(i 0).val + 1, by omega⟩) := dif_pos ⟨by omega, by omega⟩
      rw [dif_neg h1, dif_pos h4, dif_pos h5, es]
      simp only [dif_neg h6, bind_assoc, pure_bind]
      iintro ⟨⟨HT, H0, H1⟩, HW, Hw⟩ HK
      iapply (fill c q T b3 f3 0 (rows c T hT 0 ⟨(i 0).val + 1, by omega⟩) (loop3 c q T hT b3 hb3 f3 i (by omega) hp1 ⟨(i 0).val + 1, by omega⟩ rfl Q)) $$ [HT H0]
      · isplitl [HT] <;> iassumption
      iintro ⟨HT, H0⟩
      iapply (finish c arg5 arg6 arg7 arg8 arg9 f5 f6 f7 f8 b4 f4 1 (rows c T hT 1 (i 0)) i hp1 W f9 Q) $$ [H1 HW Hw]
      · isplitl [H1]; · iexact H1
        isplitl [HW] <;> iassumption
      iintro %W' %g9 %hg ⟨H1, HW, Hw⟩
      ispecialize HK $$ %W' %g9 %hg
      iapply HK
      isplitl [HT H0 H1]
      · isplitl [HT]; · iexact HT
        isplitl [H0] <;> iassumption
      isplitl [HW] <;> iassumption

end Cert.KernelIdeal.Hand
-- ==== Proof.Run.lean ====
module

public import proofs.«01_k».proof.Proof.Body
public import Idealize.ShloMosaic.Lib.Pipeline.FrameBody

@[expose] public section

/-! The launch: the pipeline over the 32 grid points, from what the host operations before it leave to the result. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.Pipeline (Dat BodyObligation)

variable (m : (ℓ : Loc nD τ sig) → Buf (Elt F) ℓ) (ρ : Dev nD → PrngReg)

/-- What a buffer holds when the kernel is called: the launch contents with the host operations run. -/
def V (c : Dev nD) (b : Ref sig .tc) : Buf (Elt F) ((c.tc : Thread nD τ).loc b) := StableHlo.after hostOps0 (fun b => m (c, b)) b

/-- The row-number table the kernel is called with. -/
def tables : (p : Fin 1) → (pcfgs (F := F) p).Adm := fun _ => ⟨fun k => V m 0 (pre0.ref k), trivial⟩

/-- The pipeline at that table. -/
abbrev cfgT : Pipeline.Cfg sig Λ₀ := cfg0 (tables m 0)

/-- The rows are in range: every row number is below 8192. -/
abbrev InRange : Prop := ∀ (c : Dev nD) (j : S32768.Idx), (V m c main_v5 j : BitVec 32).toNat < 8192

variable (hm : InRange m)

/-- The block of gate weights at point `t`, of up weights, of down weights, of gates. -/
def in0 (c : Dev nD) (t : Fin (cfgT m).N) : Vec F S1x1x1024x1408 .bf16 := (((cfgT m).win 0).blk t).view.read (Elt F) (V m c main_v0)
@[inherit_doc in0]
def in1 (c : Dev nD) (t : Fin (cfgT m).N) : Vec F S1x1x1024x1408 .bf16 := (((cfgT m).win 1).blk t).view.read (Elt F) (V m c main_v1)
@[inherit_doc in0]
def in2 (c : Dev nD) (t : Fin (cfgT m).N) : Vec F S1x1x1408x1024 .bf16 := (((cfgT m).win 2).blk t).view.read (Elt F) (V m c main_v2)
@[inherit_doc in0]
def in3 (c : Dev nD) (t : Fin (cfgT m).N) : Vec F S1x1x1024x128 .f32 := (((cfgT m).win 3).blk t).view.read (Elt F) (V m c main_v4)

/-- The rows the copies bring to point `t`. -/
def rowsAt (c : Dev nD) (t : Fin (cfgT m).N) : Fin 1024 → Fin 1024 → Elt F .f32 :=
  srcRows c (V m c main_v5) (hm c) (Memref.whole main_arg2) (Memref.whole main_arg3) (V m c main_arg2) (V m c main_arg3) (grid0.coords t)

/-- The block point `t` writes. -/
def outAt (c : Dev nD) (t : Fin (cfgT m).N) : Vec F S1x1x1024x1024 .bf16 :=
  ffn (rowsAt m hm c t) (in0 m c t) (in1 m c t) (in2 m c t) (in3 m c t)

/-- What the kernel itself holds at the start of point `k`. -/
def held (c : Dev nD) (k : ℕ) : sProp 𝕄 :=
  iprop(between c (fullShare.right) (V m c main_v5) (hm c) (Memref.whole main_arg2) (Memref.whole main_arg3) (V m c main_arg2) (V m c main_arg3) k
    ∗ (∃ r, prngReg c r))

/-- The proof data of the pipeline. -/
def dats (p : Fin 1) (c : Dev nD) : Dat τ (Elt F) Unit ℕ (Pipeline.UD sig nD τ) ℕ (Pipeline.pin (pcfgs (F := F)) (tables m) p) c where
  A w := V m c (Pipeline.arrRef spec0 w)
  after w t := match w with
    | ⟨0, _⟩ => in0 m c t
    | ⟨1, _⟩ => in1 m c t
    | ⟨2, _⟩ => in2 m c t
    | ⟨3, _⟩ => in3 m c t
    | ⟨4, _⟩ => outAt m hm c t
  Φ t := held m hm c t.val
  q _ := fullShare
  owed _ := 0

theorem after_0 (c : Dev nD) (t : Fin (cfgT m).N) : (dats m hm 0 c).after 0 t = in0 m c t := rfl
theorem after_1 (c : Dev nD) (t : Fin (cfgT m).N) : (dats m hm 0 c).after 1 t = in1 m c t := rfl
theorem after_2 (c : Dev nD) (t : Fin (cfgT m).N) : (dats m hm 0 c).after 2 t = in2 m c t := rfl
theorem after_3 (c : Dev nD) (t : Fin (cfgT m).N) : (dats m hm 0 c).after 3 t = in3 m c t := rfl
theorem after_4 (c : Dev nD) (t : Fin (cfgT m).N) : (dats m hm 0 c).after 4 t = outAt m hm c t := rfl

theorem before_0 (c : Dev nD) (t : Fin (cfgT m).N) (d) : (dats m hm 0 c).before 0 t d = in0 m c t :=
  (dats m hm 0 c).before_in_eq_fetched 0 rfl (fun _ => rfl) (fun _ _ _ => rfl) (fun _ => rfl) t d
theorem before_1 (c : Dev nD) (t : Fin (cfgT m).N) (d) : (dats m hm 0 c).before 1 t d = in1 m c t :=
  (dats m hm 0 c).before_in_eq_fetched 1 rfl (fun _ => rfl) (fun _ _ _ => rfl) (fun _ => rfl) t d
theorem before_2 (c : Dev nD) (t : Fin (cfgT m).N) (d) : (dats m hm 0 c).before 2 t d = in2 m c t :=
  (dats m hm 0 c).before_in_eq_fetched 2 rfl (fun _ => rfl) (fun _ _ _ => rfl) (fun _ => rfl) t d
theorem before_3 (c : Dev nD) (t : Fin (cfgT m).N) (d) : (dats m hm 0 c).before 3 t d = in3 m c t :=
  (dats m hm 0 c).before_in_eq_fetched 3 rfl (fun _ => rfl) (fun _ _ _ => rfl) (fun _ => rfl) t d

/-- The staging buffers current at point `t`. -/
abbrev st0 (t : Fin (cfgT m).N) : Memref sig .tc .vmem S1x1x1024x1408 .bf16 := spec0_0.stage ((cfgT m).slots t 0)
@[inherit_doc st0]
abbrev st1 (t : Fin (cfgT m).N) : Memref sig .tc .vmem S1x1x1024x1408 .bf16 := spec0_1.stage ((cfgT m).slots t 1)
@[inherit_doc st0]
abbrev st2 (t : Fin (cfgT m).N) : Memref sig .tc .vmem S1x1x1408x1024 .bf16 := spec0_2.stage ((cfgT m).slots t 2)
@[inherit_doc st0]
abbrev st3 (t : Fin (cfgT m).N) : Memref sig .tc .vmem S1x1x1024x128 .f32 := spec0_3.stage ((cfgT m).slots t 3)
@[inherit_doc st0]
abbrev st4 (t : Fin (cfgT m).N) : Memref sig .tc .vmem S1x1x1024x1024 .bf16 := spec0_4.stage ((cfgT m).slots t 4)

/-- The body as point `t` calls it. -/
def bodyAt (t : Fin (cfgT m).N) : Prog (TpuEff nD τ sig (Elt F) Λ₀ .tc) PUnit :=
  cc0_expert_ffn (grid0.coords t) (Memref.whole main_v5) (Memref.isWhole_whole _) (Memref.whole main_arg2) (Memref.isWhole_whole _) (Memref.whole main_arg3) (Memref.isWhole_whole _)
    (st0 m t) (hstage0_0 (((cfgT m).slots t 0).cast nbuf0_0)) (st1 m t) (hstage0_1 (((cfgT m).slots t 1).cast nbuf0_1)) (st2 m t) (hstage0_2 (((cfgT m).slots t 2).cast nbuf0_2))
    (st3 m t) (hstage0_3 (((cfgT m).slots t 3).cast nbuf0_3)) (st4 m t) (hstage0_4 (((cfgT m).slots t 4).cast nbuf0_4)) (Memref.whole cc0_scratch0) (Memref.isWhole_whole _) cc0_scratch1

theorem body_row (t : Fin (cfgT m).N) : defs₀ (F := F) .tc (cfgT m).body ((cfgT m).bodyArgs t ((cfgT m).slots t)) = bodyAt m t := by
  unfold defs₀; rw [Defs.onTc_tc]; rfl

/-- A point's number from its coordinates. -/
theorem point_val : ∀ t : Fin grid0.N, t.val = 2 * (grid0.coords t 0).val + (grid0.coords t 1).val := by decide

def bodyPre (c : Dev nD) (t : Fin (cfgT m).N) : sProp 𝕄 :=
  iprop((dats m hm 0 c).Φ t.castSucc ∗ (dats m hm 0 c).owesAt () t.castSucc
    ∗ (∃ d, owns (c : Thread nD τ) (st0 m t) fullShare ((dats m hm 0 c).before 0 t d))
    ∗ (∃ d, owns (c : Thread nD τ) (st1 m t) fullShare ((dats m hm 0 c).before 1 t d))
    ∗ (∃ d, owns (c : Thread nD τ) (st2 m t) fullShare ((dats m hm 0 c).before 2 t d))
    ∗ (∃ d, owns (c : Thread nD τ) (st3 m t) fullShare ((dats m hm 0 c).before 3 t d))
    ∗ (∃ d, owns (c : Thread nD τ) (st4 m t) fullShare ((dats m hm 0 c).before 4 t d)))
def bodyPost (c : Dev nD) (t : Fin (cfgT m).N) : sProp 𝕄 :=
  iprop((dats m hm 0 c).Φ t.succ ∗ (dats m hm 0 c).owesAt () t.succ
    ∗ owns (c : Thread nD τ) (st0 m t) fullShare ((dats m hm 0 c).after 0 t)
    ∗ owns (c : Thread nD τ) (st1 m t) fullShare ((dats m hm 0 c).after 1 t)
    ∗ owns (c : Thread nD τ) (st2 m t) fullShare ((dats m hm 0 c).after 2 t)
    ∗ owns (c : Thread nD τ) (st3 m t) fullShare ((dats m hm 0 c).after 3 t)
    ∗ owns (c : Thread nD τ) (st4 m t) fullShare ((dats m hm 0 c).after 4 t))

theorem held_at (c : Dev nD) (t : Fin (cfgT m).N) : (dats m hm 0 c).Φ t.castSucc = held m hm c t.val := rfl
theorem held_next (c : Dev nD) (t : Fin (cfgT m).N) : (dats m hm 0 c).Φ t.succ = held m hm c (t.val + 1) := rfl

/-- The body at a point takes what the pipeline hands it to what the pipeline wants back. -/
theorem sound_body (c : Dev nD) (t : Fin (cfgT m).N) :
    bodyPre m hm c t ⊢ wp frame (wpE (defs₀ (F := F)) Variants.none c none) Set.univ (bodyAt m t) (fun _ => bodyPost m hm c t) := by
  unfold bodyPre bodyPost bodyAt
  rw [held_at, held_next, after_0, after_1, after_2, after_3, after_4]
  simp only [before_0, before_1, before_2, before_3]
  unfold Dat.owesAt Pipeline.owesWithin
  rw [show (dats m hm 0 c).owed t.castSucc = 0 from rfl, show (dats m hm 0 c).owed t.succ = 0 from rfl]
  unfold outAt rowsAt held owns
  iintro ⟨⟨HB, Hg⟩, ⟨%W, -, HW⟩, ⟨%d0, %f0, %e0, H0⟩, ⟨%d1, %f1, %e1, H1⟩, ⟨%d2, %f2, %e2, H2⟩, ⟨%d3, %f3, %e3, H3⟩, ⟨%d4, %f4, %e4, H4⟩⟩
  rw [← e0, ← e1, ← e2, ← e3]
  iapply (body_run c fullShare.right (V m c main_v5) (hm c) (Memref.whole main_arg2) (Memref.whole main_arg3) (V m c main_arg2) (V m c main_arg3)
    (st0 m t) (st1 m t) (st2 m t) (st3 m t) (st4 m t) f0 f1 f2 f3 (Memref.isWhole_whole _) (Memref.isWhole_whole _) (grid0.coords t) t.val (point_val t) W f4) $$ [HB HW H0 H1 H2 H3 H4]
  · isplitl [HB]; · iexact HB
    isplitl [HW]; · iexact HW
    unfold winSt
    isplitl [H0]; · iexact H0
    isplitl [H1]; · iexact H1
    isplitl [H2]; · iexact H2
    isplitl [H3]; · iexact H3
    iexact H4
  iintro %W' %g9 %hg ⟨HB, HW, Hw⟩
  unfold winSt
  icases Hw with ⟨H0, H1, H2, H3, H4⟩
  isplitl [HB Hg]
  · isplitl [HB] <;> iassumption
  isplitl [HW]
  · iexists W'; isplitr
    · ipureintro; exact fun _ _ => Or.inl trivial
    iexact HW
  isplitl [H0]
  · iexists f0; isplitr; swap; · iexact H0
    ipureintro; rfl
  isplitl [H1]
  · iexists f1; isplitr; swap; · iexact H1
    ipureintro; rfl
  isplitl [H2]
  · iexists f2; isplitr; swap; · iexact H2
    ipureintro; rfl
  isplitl [H3]
  · iexists f3; isplitr; swap; · iexact H3
    ipureintro; rfl
  iexists g9; isplitr; swap; · iexact H4
  ipureintro; exact hg

theorem body_obligation (c : Dev nD) : BodyObligation (dats (F := F) m hm 0 c) (defs₀ (F := F)) Variants.none () Set.univ := fun t => by
  rw [bigSep_W0, bigSep_W0, body_row]
  exact triple_restated (sound_body m hm c t) rfl .rfl fun _ => .rfl

/-! ## Entering and leaving the pipeline -/

/-- The kernel's own two semaphore cells. -/
abbrev osem : Fin 2 → SemLoc sig := fun s => SemLoc.dma (cell s)
theorem ownSemFacts : Pipeline.OwnSemFacts spec0 osem := by decide
/-- The two arrays whose rows the kernel copies itself. -/
abbrev HB : Finset (Ref sig .tc) := {main_arg2, main_arg3}
theorem HB_sub : HB ⊆ Pipeline.restRefsP sig pre0 spec0 := by decide

/-- The row buffer is its two slots. -/
theorem slots_of_whole (c : Dev nD) : (iprop(∃ f : Buf (Elt F) ((c : Thread nD τ).loc cc0_scratch0), ((c : Thread nD τ).loc cc0_scratch0) ↦{fullShare} f) : sProp 𝕄)
    ⊢ iprop(slotAny (F := F) c 0 ∗ slotAny (F := F) c 1) := by
  iintro ⟨%f, H⟩
  have e : (((c : Thread nD τ).loc cc0_scratch0) ↦{fullShare} f : sProp 𝕄)
      ⊢ iprop((M10.view.loc (c : Thread nD τ) ↦[slotSet 0]{fullShare} f) ∗ (M10.view.loc (c : Thread nD τ) ↦[slotSet 1]{fullShare} f)) := by
    refine (Entails.of_eq ?_).trans (pointsTo_union slot_disjoint).1
    rw [slot_union]
  ihave H := e $$ H
  icases H with ⟨H0, H1⟩
  unfold slotAny
  isplitl [H0]; · iexists f; iexact H0
  iexists f; iexact H1

@[inherit_doc slots_of_whole]
theorem whole_of_slots (c : Dev nD) : iprop(slotAny (F := F) c 0 ∗ slotAny (F := F) c 1)
    ⊢ (iprop(∃ f : Buf (Elt F) ((c : Thread nD τ).loc cc0_scratch0), ((c : Thread nD τ).loc cc0_scratch0) ↦{fullShare} f) : sProp 𝕄) := by
  unfold slotAny
  iintro ⟨⟨%f, H0⟩, ⟨%g, H1⟩⟩
  iexists ((slotSet 1).piecewise g f)
  have e : iprop((M10.view.loc (c : Thread nD τ) ↦[slotSet 0]{fullShare} f) ∗ (M10.view.loc (c : Thread nD τ) ↦[slotSet 1]{fullShare} g))
      ⊢ (((c : Thread nD τ).loc cc0_scratch0) ↦{fullShare} ((slotSet 1).piecewise g f) : sProp 𝕄) := by
    refine (pointsTo_join slot_disjoint).trans (Entails.of_eq ?_)
    rw [slot_union]
  iapply e
  isplitl [H0] <;> iassumption

/-- What the launch hands over, part by part. -/
theorem handed_eq (c : Dev nD) : (Pipeline.ΦD osem spec0 HB (V m) c : sProp 𝕄)
    = iprop((∃ f : Buf (Elt F) ((c : Thread nD τ).loc cc0_scratch0), ((c : Thread nD τ).loc cc0_scratch0) ↦{fullShare} f) ∗ (∃ r, prngReg c r)
      ∗ (semVal ((c : Thread nD τ), SemLoc.dma (cell 0)) 0 ∗ semVal ((c : Thread nD τ), SemLoc.dma (cell 1)) 0)
      ∗ (((c : Thread nD τ).loc main_arg2) ↦{fullShare} V m c main_arg2) ∗ (((c : Thread nD τ).loc main_arg3) ↦{fullShare} V m c main_arg3)) := by
  rw [Pipeline.ΦD_eq, scopedRest0_eq, Pipeline.ownSems0_eq_of_list c osem [0, 1] (by decide) (by decide),
    BI.bigSep_eq_bigSepL_of_eq [main_arg2, main_arg3] (by decide) (by decide)]
  rfl

/-- The table, whole at the body's share. -/
theorem handed_table (c : Dev nD) : (Pipeline.ΦT pre0 (tables m 0).1 c : sProp 𝕄) = table c fullShare.right (V m c main_v5) := by
  obtain rfl : c = 0 := Subsingleton.elim (α := Fin 1) _ _
  unfold Pipeline.ΦT Pipeline.prefHeld
  rw [bigSep_univ_eq_bigSepL [(0 : Fin 1)] (by decide) (by decide)]
  rfl

/-- A free slot of each source, from whole arrays. -/
theorem ends_eq (c : Dev nD) (k : ℕ) (hk : k = 0 ∨ k = 32) : held m hm c k
    = iprop((table c fullShare.right (V m c main_v5)
      ∗ (slotAny (F := F) c 0 ∗ (((c : Thread nD τ).loc main_arg2) ↦{fullShare} V m c main_arg2) ∗ semVal ((c : Thread nD τ), SemLoc.dma (cell 0)) 0)
      ∗ (slotAny (F := F) c 1 ∗ (((c : Thread nD τ).loc main_arg3) ↦{fullShare} V m c main_arg3) ∗ semVal ((c : Thread nD τ), SemLoc.dma (cell 1)) 0))
      ∗ (∃ r, prngReg c r)) := by
  unfold held between slot0 free
  rw [if_pos (by omega), dif_neg (by omega), View.set_whole, View.set_whole]

theorem enter (c : Dev nD) : iprop(Pipeline.ΦD osem spec0 HB (V m) c ∗ Pipeline.ΦT pre0 (tables m 0).1 c) ⊢ held m hm c 0 := by
  rw [handed_eq, handed_table, ends_eq m hm c 0 (Or.inl rfl)]
  iintro ⟨⟨Hs, Hg, ⟨Hq0, Hq1⟩, Hb0, Hb1⟩, HT⟩
  ihave Hs := (slots_of_whole c) $$ Hs
  icases Hs with ⟨Hs0, Hs1⟩
  isplitr [Hg]
  · isplitl [HT]; · iexact HT
    isplitl [Hs0 Hb0 Hq0]
    · isplitl [Hs0]; · iexact Hs0
      isplitl [Hb0] <;> iassumption
    isplitl [Hs1]; · iexact Hs1
    isplitl [Hb1] <;> iassumption
  iexact Hg

theorem leave (c : Dev nD) : held m hm c 32 ⊢ Pipeline.ΦD osem spec0 HB (V m) c := by
  rw [handed_eq, ends_eq m hm c 32 (Or.inr rfl)]
  iintro ⟨⟨-, ⟨Hs0, Hb0, Hq0⟩, ⟨Hs1, Hb1, Hq1⟩⟩, Hg⟩
  isplitl [Hs0 Hs1]
  · iapply (whole_of_slots c)
    isplitl [Hs0] <;> iassumption
  isplitl [Hg]; · iexact Hg
  isplitl [Hq0 Hq1]
  · isplitl [Hq0] <;> iassumption
  isplitl [Hb0] <;> iassumption

theorem ops_fresh : (hostOps0 : List (HloOp τ sig (Elt F))).Forall fun op => op.fresh = ∅ := ⟨rfl, rfl, rfl, rfl, rfl, rfl⟩

set_option backward.isDefEq.respectTransparency.types false in
/-- The run: the windows' arrays as the pipeline leaves them, every other buffer as the kernel found it, the counters at zero. -/
theorem run_main : θ_run defs (onTc (τ := τ) (main (F := F))) ⟨m, fun _ => 0, ρ⟩
    (fun r => Pipeline.FramePost (Pipeline.pin (pcfgs (F := F)) (tables m)) (dats m hm) 0 (V m) r ∧ r.2.sem = fun _ => 0) :=
  Pipeline.θ_run_frameP_dma (Q' := _) pcfgs (tables m) (dats m hm) (0 : Fin 1) launch0 osem defs₀ Variants.none ownSemFacts HB HB_sub m ρ main
    (hbody := fun c => (body_obligation m hm c).loose) (hshare := fun c => (dats m hm 0 c).share_full fun _ => rfl)
    (howed := fun _ _ => rfl) (V := V m)
    (hmain := Pipeline.hmainP_prefix pcfgs 0 defs₀ Variants.none m main hostOps0 hostOps0_sub ops_fresh main_chain)
    (hA := fun _ _ => rfl)
    (hpf := fun c k => by obtain rfl : c = 0 := Subsingleton.elim (α := Fin 1) _ _; rfl)
    (hin := enter m hm) (hout := leave m hm)

end Cert.KernelIdeal.Hand
-- ==== Proof.Frame.lean ====
module

public import proofs.«01_k».proof.Proof.Run
public import proofs.«01_k».proof.Proof.Gen.Pre_in_range
public import Idealize.ShloMosaic.Lib.ReduceAll
public import Idealize.ShloMosaic.Lib.WordCmp
public import Idealize.ShloMosaic.Lib.StableHlo.Run

@[expose] public section

/-! The frame: what the buffers hold where the kernel is called, the rows in range, and the arguments unchanged at the end. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.Pipeline (Dat BodyObligation)
variable (m : (ℓ : Loc nD τ sig) → Buf (Elt F) ℓ) (ρ : Dev nD → PrngReg)

theorem V_arg0 (c : Dev nD) : V m c main_arg0 = m (c.tc.loc main_arg0) := by unfold V; after_results <;> rfl
theorem V_arg1 (c : Dev nD) : V m c main_arg1 = m (c.tc.loc main_arg1) := by unfold V; after_results <;> rfl
theorem V_arg2 (c : Dev nD) : V m c main_arg2 = m (c.tc.loc main_arg2) := by unfold V; after_results <;> rfl
theorem V_arg3 (c : Dev nD) : V m c main_arg3 = m (c.tc.loc main_arg3) := by unfold V; after_results <;> rfl
theorem V_arg4 (c : Dev nD) : V m c main_arg4 = m (c.tc.loc main_arg4) := by unfold V; after_results <;> rfl
theorem V_arg5 (c : Dev nD) : V m c main_arg5 = m (c.tc.loc main_arg5) := by unfold V; after_results <;> rfl
theorem V_arg6 (c : Dev nD) : V m c main_arg6 = m (c.tc.loc main_arg6) := by unfold V; after_results <;> rfl
theorem V_v0 (c : Dev nD) : V m c main_v0 = truncf .bf16 (m (c.tc.loc main_arg4)) bitsLt_bf16_f32 := by unfold V; after_results <;> rfl
theorem V_v1 (c : Dev nD) : V m c main_v1 = truncf .bf16 (m (c.tc.loc main_arg5)) bitsLt_bf16_f32 := by unfold V; after_results <;> rfl
theorem V_v2 (c : Dev nD) : V m c main_v2 = truncf .bf16 (m (c.tc.loc main_arg6)) bitsLt_bf16_f32 := by unfold V; after_results <;> rfl
theorem V_v4 (c : Dev nD) : V m c main_v4 = broadcastInDim S2x16x1024x128 ![0, 1, 2, 3] bcast_S2x16x1024x1_S2x16x1024x128_0_1_2_3
    (broadcastInDim S2x16x1024x1 ![0, 1, 2] bcast_S2x16x1024_S2x16x1024x1_0_1_2 (m (c.tc.loc main_arg1))) := by unfold V; after_results <;> rfl
theorem V_v5 (c : Dev nD) : V m c main_v5 = shapeCast S32768 (m (c.tc.loc main_arg0)) shapeCasts_S2x16x1024_S32768 := by
  unfold V; after_results <;> rfl

/-- The row numbers the claim assumes in range, as words below 8192. -/
abbrev RowsOk : Prop := ∀ (c : Dev nD) (i : S2x16x1024.Idx), (m (c.tc.loc main_arg0) i : BitVec 32).toNat < 8192

/-- The claim's precondition is that. -/
theorem rows_ok {x0 : IVec S2x16x1024 32} {x1 x2 x3 x4 x5 x6} (h : Cert.Pre_in_range.fn (F := F) x0 x1 x2 x3 x4 x5 x6 = fun _ => 1#1)
    (i : S2x16x1024.Idx) : (x0 i).toNat < 8192 := by
  have h0 := congrFun h (fun a => a.elim0)
  unfold Cert.Pre_in_range.fn at h0
  dsimp only at h0
  haveI : Subsingleton Cert.Pre_in_range.S_.Idx := ⟨fun a b => funext fun k => k.elim0⟩
  have h1 := Host.reduce_andi_all _ _ _ _ _ h0 i
  have h2 : IntOp.andi (IntOp.cmpi .sge (x0 i) 0#32) (IntOp.cmpi .slt (x0 i) (BitVec.ofNat 32 8192)) = 1#1 := h1
  rw [WordCmp.andi_sge_zero_slt_ofNat (by decide)] at h2
  by_contra hn
  rw [decide_eq_false hn] at h2
  exact absurd h2 (by decide)

/-- In range, the table the kernel is called with is. -/
theorem inRange (h : RowsOk m) : InRange m := fun c j => by
  rw [V_v5]; exact h c _

/-- The arguments end unchanged and every counter at zero. -/
theorem frame (h : RowsOk m) : θ_run defs (onTc (τ := τ) (main (F := F))) ⟨m, fun _ => 0, ρ⟩ (fun r => (∀ c : Dev nD,
      r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)
      ∧ r.2.mem (c.tc.loc main_arg6) = m (c.tc.loc main_arg6)) ∧ r.2.sem = fun _ => 0) :=
  (θ_run defs _ _).mono (fun r (h : _ ∧ _) => ⟨fun c =>
    ⟨((h.1 c).2 main_arg0 (Pipeline.mem_restRefs_of main_arg0 (by decide) (show ∀ w, (spec0 w).arr.view.ref ≠ main_arg0 by decide))).trans (V_arg0 m c),
      ((h.1 c).2 main_arg1 (Pipeline.mem_restRefs_of main_arg1 (by decide) (show ∀ w, (spec0 w).arr.view.ref ≠ main_arg1 by decide))).trans (V_arg1 m c),
      ((h.1 c).2 main_arg2 (Pipeline.mem_restRefs_of main_arg2 (by decide) (show ∀ w, (spec0 w).arr.view.ref ≠ main_arg2 by decide))).trans (V_arg2 m c),
      ((h.1 c).2 main_arg3 (Pipeline.mem_restRefs_of main_arg3 (by decide) (show ∀ w, (spec0 w).arr.view.ref ≠ main_arg3 by decide))).trans (V_arg3 m c),
      ((h.1 c).2 main_arg4 (Pipeline.mem_restRefs_of main_arg4 (by decide) (show ∀ w, (spec0 w).arr.view.ref ≠ main_arg4 by decide))).trans (V_arg4 m c),
      ((h.1 c).2 main_arg5 (Pipeline.mem_restRefs_of main_arg5 (by decide) (show ∀ w, (spec0 w).arr.view.ref ≠ main_arg5 by decide))).trans (V_arg5 m c),
      ((h.1 c).2 main_arg6 (Pipeline.mem_restRefs_of main_arg6 (by decide) (show ∀ w, (spec0 w).arr.view.ref ≠ main_arg6 by decide))).trans (V_arg6 m c)⟩, h.2⟩)
    (run_main m ρ (inRange m h))

end Cert.KernelIdeal.Hand
-- ==== Proof.Same.lean ====
module

public import proofs.«01_k».proof.Defs
public import proofs.«01_k».proof.Proof.Gen.Kernel
public import proofs.«01_k».proof.Proof.Frame

@[expose] public section

/-! The kernel's frame on the machine's floats, from the run of its ideal text: the two texts are one. -/

set_option maxRecDepth 16384

noncomputable section

namespace Cert.Proof

open Idealize.ShloMosaic Idealize.ShloMosaic.TcCoe Idealize.SL.Sem

/-- The frame of the kernel's ideal text read at the machine's floats. -/
def FrameAtBits : Prop :=
  ∀ (m : (ℓ : Loc Cert.KernelIdeal.nD Cert.KernelIdeal.τ Cert.KernelIdeal.sig) → Buf (Elt Bits) ℓ) (g : Dev Cert.KernelIdeal.nD → PrngReg),
    (∀ c : Dev Cert.KernelIdeal.nD, Cert.Pre_in_range.fn (F := Bits) (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4))
      (m (c.tc.loc Cert.KernelIdeal.main_arg5)) (m (c.tc.loc Cert.KernelIdeal.main_arg6)) = fun _ => 1#1) →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem (c.tc.loc Cert.KernelIdeal.main_arg0) = m (c.tc.loc Cert.KernelIdeal.main_arg0) ∧ r.2.mem (c.tc.loc Cert.KernelIdeal.main_arg1) = m (c.tc.loc Cert.KernelIdeal.main_arg1)
      ∧ r.2.mem (c.tc.loc Cert.KernelIdeal.main_arg2) = m (c.tc.loc Cert.KernelIdeal.main_arg2) ∧ r.2.mem (c.tc.loc Cert.KernelIdeal.main_arg3) = m (c.tc.loc Cert.KernelIdeal.main_arg3)
      ∧ r.2.mem (c.tc.loc Cert.KernelIdeal.main_arg4) = m (c.tc.loc Cert.KernelIdeal.main_arg4) ∧ r.2.mem (c.tc.loc Cert.KernelIdeal.main_arg5) = m (c.tc.loc Cert.KernelIdeal.main_arg5)
      ∧ r.2.mem (c.tc.loc Cert.KernelIdeal.main_arg6) = m (c.tc.loc Cert.KernelIdeal.main_arg6)) ∧ r.2.sem = fun _ => 0)

theorem frameAtBits : FrameAtBits := fun m g h =>
  Cert.KernelIdeal.Hand.frame (F := Bits) m g fun c i => Cert.KernelIdeal.Hand.rows_ok (h c) i

theorem frame_same : Cert.quiescent_Kernel = FrameAtBits := by sl_kernel_rfl

/-- The kernel's frame on the machine's floats. -/
theorem frame_kernel : Cert.quiescent_Kernel := frame_same.mpr frameAtBits

end Cert.Proof

end
-- ==== Proof.Spec.lean ====
module

public import Idealize.ShloMosaic.Lib.Pointwise

@[expose] public section

/-! One element of an expert's gated feed-forward over the extended reals: the sum over the hidden width of
SiLU of the gate product times the up product times the down weight, and the token's gate. -/

noncomputable section

namespace Cert.Hand

open Idealize.ShloMosaic

/-- The product of a row with column `f` of a weight matrix. -/
def rowDot (x : Fin 1024 → EReal) (w : Fin 1024 → Fin 1408 → EReal) (f : Fin 1408) : EReal := ∑ k, x k * w k f

/-- The hidden value `f`: `a / (1 + exp (-a))`, as a product with the reciprocal, times the up product. -/
def hid (x : Fin 1024 → EReal) (wg wu : Fin 1024 → Fin 1408 → EReal) (f : Fin 1408) : EReal :=
  (rowDot x wg f * Ideal.div 1 (1 + Ideal.exp (-rowDot x wg f))) * rowDot x wu f

/-- The gated output at column `d`. -/
def gatedCell (x : Fin 1024 → EReal) (wg wu : Fin 1024 → Fin 1408 → EReal) (wd : Fin 1408 → Fin 1024 → EReal) (g : EReal)
    (d : Fin 1024) : EReal :=
  (∑ f, hid x wg wu f * wd f d) * g

end Cert.Hand

end
-- ==== Proof.Cell.lean ====
module

public import proofs.«01_k».proof.Proof.Compute
public import proofs.«01_k».proof.Proof.Spec

@[expose] public section

/-! One element of the gated feed-forward on the ideal numbers, as the kernel's stored block has it. -/

set_option maxRecDepth 16384

noncomputable section

namespace Cert.KernelIdeal.Hand

open Cert.KernelIdeal Cert.KernelIdeal.Gen
open Idealize.ShloMosaic
open Cert.Hand

theorem pay4_apply (x : Vec Ideal S1x64x8x1024 .f32) (wg wu : Vec Ideal S1x1x1024x1408 .bf16) (wd : Vec Ideal S1x1x1408x1024 .bf16)
    (r : Fin 512) (d : Fin 1024) :
    k0_pay4 (F := Ideal) x wg wu wd (ix2 r d)
      = ∑ f, hid (fun k => x (ix4 0 ⟨r.val / 8, by omega⟩ ⟨r.val % 8, by omega⟩ k)) (fun k f => wg (ix4 0 0 k f))
          (fun k f => wu (ix4 0 0 k f)) f * wd (ix4 0 0 f d) := by
  pointwise [k0_pay4, hid, rowDot]
  simp only [sub_eq_add_neg, zero_add]

theorem payCol_apply (j : Fin 8) (y : FVec Ideal S512x1024 .f32) (g : FVec Ideal S512x128 .f32) (r : Fin 512) (l : Fin 128) :
    payCol j y g (ix4 0 0 r l) = y (ix2 r ⟨128 * j.val + l.val, by omega⟩) * g (ix2 r l) := by
  pointwise [payCol]

theorem pay5_apply (g : Vec Ideal S1x1x512x128 .f32) (r : Fin 512) (l : Fin 128) :
    k0_pay5 g (ix2 r l) = g (ix4 0 0 r l) := by
  pointwise [k0_pay5]

theorem gTrip_apply (G : Vec Ideal S1x1x1024x128 .f32) (t : Fin 2) (r : Fin 512) (l : Fin 128) :
    gTrip G t (ix4 0 0 r l) = G (ix4 0 0 ⟨512 * t.val + r.val, by omega⟩ l) := by
  unfold gTrip
  congr 1
  funext a
  match a with
  | ⟨0, _⟩ => exact Fin.ext (by rw [emb_unit_val]; rfl)
  | ⟨1, _⟩ => exact Fin.ext (by rw [emb_unit_val]; rfl)
  | ⟨2, _⟩ => exact Fin.ext (by rw [emb_unit_val]; rfl)
  | ⟨3, _⟩ => exact Fin.ext (by rw [emb_unit_val]; show 0 + l.val = l.val; omega)

/-- The block at row `n` and column `d`. -/
theorem ffn_apply (X : Fin 1024 → Fin 1024 → EReal) (wg wu : Vec Ideal S1x1x1024x1408 .bf16) (wd : Vec Ideal S1x1x1408x1024 .bf16)
    (G : Vec Ideal S1x1x1024x128 .f32) (n d : Fin 1024) :
    ffn (F := Ideal) X wg wu wd G (ix4 0 0 n d)
      = gatedCell (X n) (fun k f => wg (ix4 0 0 k f)) (fun k f => wu (ix4 0 0 k f)) (fun f d => wd (ix4 0 0 f d))
          (G (ix4 0 0 n ⟨d.val % 128, by omega⟩)) d := by
  have hy : inCol (ix4 0 0 n d) = ix4 0 0 ⟨n.val % 512, by omega⟩ ⟨d.val % 128, by omega⟩ := by
    funext a
    match a with
    | ⟨0, _⟩ => rfl
    | ⟨1, _⟩ => rfl
    | ⟨2, _⟩ => rfl
    | ⟨3, _⟩ => rfl
  have hn : (⟨512 * (tripOf (ix4 0 0 n d)).val + n.val % 512, by
      have : (tripOf (ix4 0 0 n d)).val < 2 := (tripOf (ix4 0 0 n d)).isLt; omega⟩ : Fin 1024) = n :=
    Fin.ext (by show 512 * (n.val / 512) + n.val % 512 = n.val; omega)
  have hd : (⟨128 * (colOf (ix4 0 0 n d)).val + d.val % 128, by
      have : (colOf (ix4 0 0 n d)).val < 8 := (colOf (ix4 0 0 n d)).isLt; omega⟩ : Fin 1024) = d :=
    Fin.ext (by show 128 * (d.val / 128) + d.val % 128 = d.val; omega)
  have hx : (fun k => xTrip (F := Ideal) X (tripOf (ix4 0 0 n d)) (ix4 0 ⟨n.val % 512 / 8, by omega⟩ ⟨n.val % 512 % 8, by omega⟩ k)) = X n := by
    funext k
    show X ⟨512 * (n.val / 512) + 8 * (n.val % 512 / 8) + n.val % 512 % 8, _⟩ k = X n k
    congr 1
    exact Fin.ext (by show 512 * (n.val / 512) + 8 * (n.val % 512 / 8) + n.val % 512 % 8 = n.val; omega)
  unfold ffn
  rw [hy, payCol_apply, pay5_apply, gTrip_apply, pay4_apply, hn, hd]
  unfold gatedCell
  rw [← hx]

end Cert.KernelIdeal.Hand

end
-- ==== Proof.RefCell.lean ====
module

public import proofs.«01_k».proof.Proof.Gen.ReferenceIdeal.Run
public import proofs.«01_k».proof.Proof.Spec
public import Idealize.ShloMosaic.Lib.WordCmp
public import Idealize.ShloMosaic.Lib.Tactic.WordOmega

@[expose] public section

/-! One element of the reference's result on the ideal numbers. -/

set_option maxRecDepth 16384

noncomputable section

namespace Cert.ReferenceIdeal.Hand

open Cert.ReferenceIdeal Cert.ReferenceIdeal.Gen
open Idealize.ShloMosaic Idealize.ShloMosaic.TcCoe Idealize.SL.Sem
open Cert.Hand

/-- The gathered rows: the array at its index, read signed and clamped. -/
theorem gather_rows {w : ℕ} (h : FVec Ideal S8192x1024 .f32) (ix : IVec S16x1024x1 w) (e : Fin 16) (n k : Fin 1024) :
    Host.gather gather_S8192x1024_S16x1024x1_S16x1024x1024_2_0_n_n_0_2_11024 h ix (ix3 e n k)
      = h (ix2 ⟨min (ix (ix3 e n 0)).toInt.toNat 8191, by omega⟩ k) := by
  unfold Host.gather
  congr 1
  funext a
  refine Fin.ext ?_
  have h01 : a = 0 ∨ a = 1 := by
    match a with
    | ⟨0, _⟩ => exact Or.inl rfl
    | ⟨1, _⟩ => exact Or.inr rfl
  generalize hd : gather_S8192x1024_S16x1024x1_S16x1024x1024_2_0_n_n_0_2_11024 = d
  show d.start (ix3 e n k) ix a + d.batchCoord (ix3 e n k) a + d.offCoord (ix3 e n k) a = _
  subst hd
  rcases h01 with rfl | rfl
  · rw [GatherDims.batchCoord_eq_zero _ _ _ (fun h => by exact absurd h List.not_mem_nil),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x1024_S16x1024x1_S16x1024x1024_2_0_n_n_0_2_11024.startIndexMap from List.mem_singleton.mpr rfl)]
    have hsi : gather_S8192x1024_S16x1024x1_S16x1024x1024_2_0_n_n_0_2_11024.siIdx (ix3 e n k)
        ⟨List.idxOf (0 : Fin 2) gather_S8192x1024_S16x1024x1_S16x1024x1024_2_0_n_n_0_2_11024.startIndexMap,
          List.idxOf_lt_length_iff.2 (List.mem_singleton.mpr rfl)⟩ = ix3 e n 0 := by
      funext b; refine Fin.ext ?_
      match b with
      | ⟨0, _⟩ => rfl
      | ⟨1, _⟩ => rfl
      | ⟨2, _⟩ => rfl
    rw [hsi]
    rfl
  · rw [GatherDims.batchCoord_eq_zero _ _ _ (fun h => by exact absurd h List.not_mem_nil)]
    unfold GatherDims.start
    rw [dif_neg (show ¬ (1 : Fin 2) ∈ gather_S8192x1024_S16x1024x1_S16x1024x1024_2_0_n_n_0_2_11024.startIndexMap by
      show ¬ (1 : Fin 2) ∈ [(0 : Fin 2)]; decide)]
    unfold GatherDims.offCoord
    rw [dif_pos (show (1 : Fin 2) ∈ gather_S8192x1024_S16x1024x1_S16x1024x1024_2_0_n_n_0_2_11024.sKept by
      rw [GatherDims.mem_sKept]; exact ⟨by show ¬ (1 : Fin 2) ∈ [(0 : Fin 2)]; decide, List.not_mem_nil⟩)]
    simp only [Nat.zero_add]
    rfl

/-- An expert set's output, from its gathered rows. -/
def experts (xe : FVec Ideal S16x1024x1024 .f32) (wg wu : FVec Ideal S16x1024x1408 .f32) (wd : FVec Ideal S16x1408x1024 .f32)
    (g : FVec Ideal S16x1024 .f32) : FVec Ideal S16x1024x1024 .f32 :=
  mulf (Host.dotGeneral dot_S16x1024x1408_S16x1408x1024_S16x1024x1024_2_1_1_2_0_0 none
      (mulf (mulf (Host.dotGeneral dot_S16x1024x1024_S16x1024x1408_S16x1024x1408_2_1_1_2_0_0 none xe wg)
        (Host.divf (broadcastInDim S16x1024x1408 ![] bcast_S_S16x1024x1408 (constant S_ .f32 0x3F800000#32))
          (addf (broadcastInDim S16x1024x1408 ![] bcast_S_S16x1024x1408 (constant S_ .f32 0x3F800000#32))
            (Host.exp (Host.negf (Host.dotGeneral dot_S16x1024x1024_S16x1024x1408_S16x1024x1408_2_1_1_2_0_0 none xe wg))))))
        (Host.dotGeneral dot_S16x1024x1024_S16x1024x1408_S16x1024x1408_2_1_1_2_0_0 none xe wu)) wd)
    (broadcastInDim S16x1024x1024 ![0, 1, 2] bcast_S16x1024x1_S16x1024x1024_0_1_2 (broadcastInDim S16x1024x1 ![0, 1] bcast_S16x1024_S16x1024x1_0_1 g))

theorem experts_apply (xe : FVec Ideal S16x1024x1024 .f32) (wg wu : FVec Ideal S16x1024x1408 .f32) (wd : FVec Ideal S16x1408x1024 .f32)
    (g : FVec Ideal S16x1024 .f32) (e : Fin 16) (n d : Fin 1024) :
    experts xe wg wu wd g (ix3 e n d)
      = gatedCell (fun k => xe (ix3 e n k)) (fun k f => wg (ix3 e k f)) (fun k f => wu (ix3 e k f)) (fun f d => wd (ix3 e f d)) (g (ix2 e n)) d := by
  pointwise [experts, gatedCell, hid, rowDot]

/-- The index words with jax's wrap of negative ones, as start indices. -/
def wrapped (ix : IVec S16x1024 32) : IVec S16x1024x1 32 :=
  broadcastInDim S16x1024x1 ![0, 1] bcast_S16x1024_S16x1024x1_0_1
    (select (cmpi .slt ix (broadcastInDim S16x1024 ![] bcast_S_S16x1024 (constantI S_ 32 0#32)))
      (addi ix (broadcastInDim S16x1024 ![] bcast_S_S16x1024 (constantI S_ 32 8192#32))) ix)

theorem wrapped_apply (ix : IVec S16x1024 32) (e : Fin 16) (n : Fin 1024) (h : (ix (ix2 e n)).toNat < 8192) :
    min (wrapped ix (ix3 e n 0)).toInt.toNat 8191 = (ix (ix2 e n)).toNat := by
  pointwise [wrapped]
  have hlt : (ix (ix2 e n)).toInt = ((ix (ix2 e n)).toNat : ℤ) := by
    rw [BitVec.toInt_eq_toNat_cond, if_pos (by omega)]
  rw [WordCmp.cmpi_slt_zero, decide_eq_false (by omega)]
  show min (ix (ix2 e n)).toInt.toNat 8191 = _
  rw [hlt]
  omega

variable (x0 : IVec S2x16x1024 32) (x1 : FVec Ideal S2x16x1024 .f32) (x2 x3 : FVec Ideal S8192x1024 .f32)
  (x4 x5 : FVec Ideal S4x16x1024x1408 .f32) (x6 : FVec Ideal S4x16x1408x1024 .f32)

/-- The result, from the arguments. -/
def result : FVec Ideal S2x16x1024x1024 .bf16 :=
  truncf .bf16 (concatenate S2x16x1024x1024 0
    [⟨S1x16x1024x1024, broadcastInDim S1x16x1024x1024 ![1, 2, 3] bcast_S16x1024x1024_S1x16x1024x1024_1_2_3
      (experts (Host.gather gather_S8192x1024_S16x1024x1_S16x1024x1024_2_0_n_n_0_2_11024 x2
          (wrapped (shapeCast _ (extractStridedSlice S1x16x1024 ![0, 0, 0] x0 slices_S2x16x1024_S1x16x1024_0_0_0) shapeCasts_S1x16x1024_S16x1024)))
        (shapeCast _ (extractStridedSlice S1x16x1024x1408 ![0, 0, 0, 0] x4 slices_S4x16x1024x1408_S1x16x1024x1408_0_0_0_0) shapeCasts_S1x16x1024x1408_S16x1024x1408)
        (shapeCast _ (extractStridedSlice S1x16x1024x1408 ![0, 0, 0, 0] x5 slices_S4x16x1024x1408_S1x16x1024x1408_0_0_0_0) shapeCasts_S1x16x1024x1408_S16x1024x1408)
        (shapeCast _ (extractStridedSlice S1x16x1408x1024 ![0, 0, 0, 0] x6 slices_S4x16x1408x1024_S1x16x1408x1024_0_0_0_0) shapeCasts_S1x16x1408x1024_S16x1408x1024)
        (shapeCast _ (extractStridedSlice S1x16x1024 ![0, 0, 0] x1 slices_S2x16x1024_S1x16x1024_0_0_0) shapeCasts_S1x16x1024_S16x1024))⟩,
     ⟨S1x16x1024x1024, broadcastInDim S1x16x1024x1024 ![1, 2, 3] bcast_S16x1024x1024_S1x16x1024x1024_1_2_3
      (experts (Host.gather gather_S8192x1024_S16x1024x1_S16x1024x1024_2_0_n_n_0_2_11024 x3
          (wrapped (shapeCast _ (extractStridedSlice S1x16x1024 ![1, 0, 0] x0 slices_S2x16x1024_S1x16x1024_1_0_0) shapeCasts_S1x16x1024_S16x1024)))
        (shapeCast _ (extractStridedSlice S1x16x1024x1408 ![0, 0, 0, 0] x4 slices_S4x16x1024x1408_S1x16x1024x1408_0_0_0_0) shapeCasts_S1x16x1024x1408_S16x1024x1408)
        (shapeCast _ (extractStridedSlice S1x16x1024x1408 ![0, 0, 0, 0] x5 slices_S4x16x1024x1408_S1x16x1024x1408_0_0_0_0) shapeCasts_S1x16x1024x1408_S16x1024x1408)
        (shapeCast _ (extractStridedSlice S1x16x1408x1024 ![0, 0, 0, 0] x6 slices_S4x16x1408x1024_S1x16x1408x1024_0_0_0_0) shapeCasts_S1x16x1408x1024_S16x1408x1024)
        (shapeCast _ (extractStridedSlice S1x16x1024 ![1, 0, 0] x1 slices_S2x16x1024_S1x16x1024_1_0_0) shapeCasts_S1x16x1024_S16x1024))⟩]
    concatenates_S1x16x1024x1024_S1x16x1024x1024_S2x16x1024x1024_d0) bitsLt_bf16_f32

/-- The chosen row of set `s`, expert `e`, place `n`. -/
def chosen (hx : ∀ i, (x0 i).toNat < 8192) (s : Fin 2) (e : Fin 16) (n k : Fin 1024) : EReal :=
  (if s.val = 0 then x2 else x3) (ix2 ⟨(x0 (ix3 s e n)).toNat, hx _⟩ k)

theorem result_apply (hx : ∀ i, (x0 i).toNat < 8192) (s : Fin 2) (e : Fin 16) (n d : Fin 1024) :
    result x0 x1 x2 x3 x4 x5 x6 (ix4 s e n d)
      = gatedCell (chosen x0 x2 x3 hx s e n) (fun k f => x4 (ix4 0 e k f)) (fun k f => x5 (ix4 0 e k f)) (fun f d => x6 (ix4 0 e f d))
          (x1 (ix3 s e n)) d := by
  have hs : s = 0 ∨ s = 1 := by
    match s with
    | 0 => exact Or.inl rfl
    | 1 => exact Or.inr rfl
  rcases hs with rfl | rfl
  · pointwise [result, dif_pos]
    rw [experts_apply]
    have hw : (shapeCast S16x1024 (extractStridedSlice S1x16x1024 ![0, 0, 0] x0 slices_S2x16x1024_S1x16x1024_0_0_0)
        shapeCasts_S1x16x1024_S16x1024) (ix2 e n) = x0 (ix3 0 e n) := by pointwise
    congr 1
    · funext k
      rw [gather_rows]
      unfold chosen
      rw [if_pos (by decide)]
      congr 1
      have := wrapped_apply (shapeCast S16x1024 (extractStridedSlice S1x16x1024 ![0, 0, 0] x0 slices_S2x16x1024_S1x16x1024_0_0_0)
        shapeCasts_S1x16x1024_S16x1024) e n (by rw [hw]; exact hx _)
      rw [hw] at this
      exact congrArg (fun a => ix2 a k) (Fin.ext this)
    · funext k f; pointwise
    · funext k f; pointwise
    · funext f d; pointwise
    · pointwise
  · pointwise [result, dif_pos]
    rw [experts_apply]
    have hw : (shapeCast S16x1024 (extractStridedSlice S1x16x1024 ![1, 0, 0] x0 slices_S2x16x1024_S1x16x1024_1_0_0)
        shapeCasts_S1x16x1024_S16x1024) (ix2 e n) = x0 (ix3 1 e n) := by pointwise
    congr 1
    · funext k
      rw [gather_rows]
      unfold chosen
      rw [if_neg (by decide)]
      congr 1
      have := wrapped_apply (shapeCast S16x1024 (extractStridedSlice S1x16x1024 ![1, 0, 0] x0 slices_S2x16x1024_S1x16x1024_1_0_0)
        shapeCasts_S1x16x1024_S16x1024) e n (by rw [hw]; exact hx _)
      rw [hw] at this
      exact congrArg (fun a => ix2 a k) (Fin.ext this)
    · funext k f; pointwise
    · funext k f; pointwise
    · funext f d; pointwise
    · pointwise

theorem res_eq (m : (ℓ : Loc nD τ sig) → Buf (Elt Ideal) ℓ) (c : Dev nD) :
    Value.res_main_v47 (F := Ideal) m c = result (m (c.tc.loc main_arg0)) (m (c.tc.loc main_arg1)) (m (c.tc.loc main_arg2)) (m (c.tc.loc main_arg3))
      (m (c.tc.loc main_arg4)) (m (c.tc.loc main_arg5)) (m (c.tc.loc main_arg6)) := by
  unfold Value.res_main_v47
  rfl

end Cert.ReferenceIdeal.Hand

end
-- ==== Proof.Value.lean ====
module

public import proofs.«01_k».proof.Proof.Frame
public import proofs.«01_k».proof.Proof.Cell
public import proofs.«01_k».proof.Proof.RefCell
public import Idealize.ShloMosaic.Lib.Pipeline.ValueKit.Geometry
public import Idealize.ShloMosaic.Lib.Pointwise

@[expose] public section

/-! The kernel's result on the ideal numbers is the reference's. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Window)

variable (m : (ℓ : Loc nD τ sig) → Buf (Elt Ideal) ℓ)

/-! ## Where each point's blocks lie -/

theorem map2_at : ∀ t : Fin grid0.N, cc0_transform_2 (grid0.coords t) = ![0, (grid0.coords t 0).val, 0, 0] := by decide +kernel
theorem map3_at : ∀ t : Fin grid0.N, cc0_transform_3 (grid0.coords t) = ![0, (grid0.coords t 0).val, 0, 0] := by decide +kernel
theorem map4_at : ∀ t : Fin grid0.N, cc0_transform_4 (grid0.coords t) = ![0, (grid0.coords t 0).val, 0, 0] := by decide +kernel
theorem map5_at : ∀ t : Fin grid0.N, cc0_transform_5 (grid0.coords t) = ![(grid0.coords t 1).val, (grid0.coords t 0).val, 0, 0] := by decide +kernel
theorem map6_at : ∀ t : Fin grid0.N, cc0_transform_6 (grid0.coords t) = ![(grid0.coords t 1).val, (grid0.coords t 0).val, 0, 0] := by decide +kernel

/-- The expert and the set of a point. -/
abbrev expertOf (t : Fin grid0.N) : Fin 16 := grid0.coords t 0
@[inherit_doc expertOf]
abbrev setOf (t : Fin grid0.N) : Fin 2 := grid0.coords t 1

theorem emb_0 (t : Fin (cfgT m).N) (k : Fin 1024) (f : Fin 1408) :
    (((cfgT m).win 0).blk t).view.emb (ix4 0 0 k f) = (ix4 0 (expertOf t) k f : S4x16x1024x1408.Idx) := by
  have h : ((cfgT m).win 0).index t = ![0, (grid0.coords t 0).val, 0, 0] := map2_at t
  blk_ext [h] <;> rfl

theorem emb_1 (t : Fin (cfgT m).N) (k : Fin 1024) (f : Fin 1408) :
    (((cfgT m).win 1).blk t).view.emb (ix4 0 0 k f) = (ix4 0 (expertOf t) k f : S4x16x1024x1408.Idx) := by
  have h : ((cfgT m).win 1).index t = ![0, (grid0.coords t 0).val, 0, 0] := map3_at t
  blk_ext [h] <;> rfl

theorem emb_2 (t : Fin (cfgT m).N) (f : Fin 1408) (d : Fin 1024) :
    (((cfgT m).win 2).blk t).view.emb (ix4 0 0 f d) = (ix4 0 (expertOf t) f d : S4x16x1408x1024.Idx) := by
  have h : ((cfgT m).win 2).index t = ![0, (grid0.coords t 0).val, 0, 0] := map4_at t
  blk_ext [h] <;> rfl

theorem emb_3 (t : Fin (cfgT m).N) (n : Fin 1024) (l : Fin 128) :
    (((cfgT m).win 3).blk t).view.emb (ix4 0 0 n l) = (ix4 (setOf t) (expertOf t) n l : S2x16x1024x128.Idx) := by
  have h : ((cfgT m).win 3).index t = ![(grid0.coords t 1).val, (grid0.coords t 0).val, 0, 0] := map5_at t
  blk_ext [h] <;> rfl

theorem emb_4 (t : Fin (cfgT m).N) (n d : Fin 1024) :
    (((cfgT m).win 4).blk t).view.emb (ix4 0 0 n d) = (ix4 (setOf t) (expertOf t) n d : S2x16x1024x1024.Idx) := by
  have h : ((cfgT m).win 4).index t = ![(grid0.coords t 1).val, (grid0.coords t 0).val, 0, 0] := map6_at t
  blk_ext [h] <;> rfl

/-! ## The blocks read, as the arguments -/

theorem in0_apply (c : Dev nD) (t : Fin (cfgT m).N) (k : Fin 1024) (f : Fin 1408) :
    in0 m c t (ix4 0 0 k f) = m (c.tc.loc main_arg4) (ix4 0 (expertOf t) k f) := by
  unfold in0
  rw [V_v0]
  show (m (c.tc.loc main_arg4)) ((((cfgT m).win 0).blk t).view.emb (ix4 0 0 k f)) = _
  rw [emb_0]

theorem in1_apply (c : Dev nD) (t : Fin (cfgT m).N) (k : Fin 1024) (f : Fin 1408) :
    in1 m c t (ix4 0 0 k f) = m (c.tc.loc main_arg5) (ix4 0 (expertOf t) k f) := by
  unfold in1
  rw [V_v1]
  show (m (c.tc.loc main_arg5)) ((((cfgT m).win 1).blk t).view.emb (ix4 0 0 k f)) = _
  rw [emb_1]

theorem in2_apply (c : Dev nD) (t : Fin (cfgT m).N) (f : Fin 1408) (d : Fin 1024) :
    in2 m c t (ix4 0 0 f d) = m (c.tc.loc main_arg6) (ix4 0 (expertOf t) f d) := by
  unfold in2
  rw [V_v2]
  show (m (c.tc.loc main_arg6)) ((((cfgT m).win 2).blk t).view.emb (ix4 0 0 f d)) = _
  rw [emb_2]

/-- The gates on 128 lanes: each lane the gate. -/
theorem lanes_apply (g : FVec Ideal S2x16x1024 .f32) (s : Fin 2) (e : Fin 16) (n : Fin 1024) (l : Fin 128) :
    broadcastInDim S2x16x1024x128 ![0, 1, 2, 3] bcast_S2x16x1024x1_S2x16x1024x128_0_1_2_3
      (broadcastInDim S2x16x1024x1 ![0, 1, 2] bcast_S2x16x1024_S2x16x1024x1_0_1_2 g) (ix4 s e n l) = g (ix3 s e n) := by
  pointwise

theorem in3_apply (c : Dev nD) (t : Fin (cfgT m).N) (n : Fin 1024) (l : Fin 128) :
    in3 m c t (ix4 0 0 n l) = m (c.tc.loc main_arg1) (ix3 (setOf t) (expertOf t) n) := by
  unfold in3
  rw [V_v4, ← lanes_apply (m (c.tc.loc main_arg1)) (setOf t) (expertOf t) n l, ← emb_3 m t n l]
  rfl

/-- The flattened table at entry `16384 s + 1024 e + n`. -/
theorem flat_apply (T : IVec S2x16x1024 32) (s : Fin 2) (e : Fin 16) (n : Fin 1024) :
    shapeCast S32768 T shapeCasts_S2x16x1024_S32768 (ix1 ⟨16384 * s.val + 1024 * e.val + n.val, by omega⟩) = T (ix3 s e n) := by
  pointwise

theorem tix_eq (j : Fin 32768) : tix j = ix1 j := by
  funext a
  match a with
  | ⟨0, _⟩ => rfl

theorem hix_eq (r : Fin 8192) (k : Fin 1024) : hix r k = ix2 r k := by
  funext a
  match a with
  | ⟨0, _⟩ => rfl
  | ⟨1, _⟩ => rfl

variable (ho : RowsOk m)

theorem rowsAt_apply (c : Dev nD) (t : Fin (cfgT m).N) (n k : Fin 1024) :
    rowsAt m (inRange m ho) c t n k
      = Cert.ReferenceIdeal.Hand.chosen (m (c.tc.loc main_arg0)) (m (c.tc.loc main_arg2)) (m (c.tc.loc main_arg3)) (ho c) (setOf t) (expertOf t) n k := by
  have key : ∀ s, rows c (V m c main_v5) (inRange m ho c) s (expertOf t) n = ⟨(m (c.tc.loc main_arg0) (ix3 s (expertOf t) n) : BitVec 32).toNat, ho c _⟩ := fun s => by
    refine Fin.ext ?_
    show (V m c main_v5 (tix _) : BitVec 32).toNat = (m (c.tc.loc main_arg0) (ix3 s (expertOf t) n) : BitVec 32).toNat
    rw [V_v5, tix_eq, flat_apply]
  unfold rowsAt srcRows Cert.ReferenceIdeal.Hand.chosen
  by_cases h : (grid0.coords t 1).val = 0
  · rw [if_pos h, if_pos h]
    have hs : setOf t = 0 := Fin.ext h
    unfold gRows
    rw [V_arg2, hs, ← key 0, ← hix_eq]
    rfl
  · rw [if_neg h, if_neg h]
    have hs : setOf t = 1 := Fin.ext (by have := (grid0.coords t 1).isLt; show (grid0.coords t 1).val = 1; have h2 : (grid0.coords t 1).val < 2 := this; omega)
    unfold gRows
    rw [V_arg3, hs, ← key 1, ← hix_eq]
    rfl

/-! ## The array -/

/-- The reference's result of the kernel's arguments. -/
abbrev goal (c : Dev nD) : FVec Ideal S2x16x1024x1024 .bf16 :=
  Cert.ReferenceIdeal.Hand.result (m (c.tc.loc main_arg0)) (m (c.tc.loc main_arg1)) (m (c.tc.loc main_arg2)) (m (c.tc.loc main_arg3))
    (m (c.tc.loc main_arg4)) (m (c.tc.loc main_arg5)) (m (c.tc.loc main_arg6))

theorem outAt_apply (c : Dev nD) (t : Fin (cfgT m).N) (n d : Fin 1024) :
    outAt m (inRange m ho) c t (ix4 0 0 n d) = goal m c (ix4 (setOf t) (expertOf t) n d) := by
  refine Eq.trans ?_ (Cert.ReferenceIdeal.Hand.result_apply _ _ _ _ _ _ _ (ho c) (setOf t) (expertOf t) n d).symm
  unfold outAt
  rw [ffn_apply]
  rw [in3_apply]
  simp only [in0_apply, in1_apply, in2_apply]
  congr 1
  funext k
  exact rowsAt_apply m ho c t n k

theorem flush_4 (t : Fin (cfgT m).N) : ((cfgT m).win 4).flush t = true := by
  rw [Window.flush_eq_flushOf]
  revert t
  show ∀ t : Fin grid0.N, Window.flushOf grid0 true cc0_transform_6 t = true
  decide +kernel

theorem point_of : ∀ (e : Fin 16) (s : Fin 2), ∃ t : Fin grid0.N, expertOf t = e ∧ setOf t = s := by decide +kernel

theorem block_index (y : S1x1x1024x1024.Idx) : ∃ n d : Fin 1024, y = ix4 0 0 n d := ⟨y 2, y 3, by
  funext a
  match a with
  | ⟨0, _⟩ => exact Fin.ext (by have : (y 0).val < 1 := (y 0).isLt; show (y 0).val = 0; omega)
  | ⟨1, _⟩ => exact Fin.ext (by have : (y 1).val < 1 := (y 1).isLt; show (y 1).val = 0; omega)
  | ⟨2, _⟩ => rfl
  | ⟨3, _⟩ => rfl⟩

theorem whole_index (i : S2x16x1024x1024.Idx) : ∃ (s : Fin 2) (e : Fin 16) (n d : Fin 1024), i = ix4 s e n d :=
  ⟨i 0, i 1, i 2, i 3, eq_ix4 i⟩

theorem arr_eq (c : Dev nD) : (dats m (inRange m ho) 0 c).arrAt 4 (cfgT m).N = goal m c := by
  refine (dats m (inRange m ho) 0 c).arrAt_eq_of_cover 4 (goal m c) (fun t _ => ?_) fun i => ?_
  · funext y
    obtain ⟨n, d, rfl⟩ := block_index y
    refine Eq.trans (b := goal m c ((((cfgT m).win 4).blk t).view.emb (ix4 0 0 n d))) ?_ rfl
    rw [emb_4, ← outAt_apply m ho]
    rfl
  · obtain ⟨s, e, n, d, rfl⟩ : ∃ (s : Fin 2) (e : Fin 16) (n d : Fin 1024), i = ix4 s e n d := whole_index i
    obtain ⟨t, he, hs⟩ := point_of e s
    refine ⟨t, flush_4 m t, ?_⟩
    have := (((cfgT m).win 4).blk t).view.emb_mem_set (ix4 0 0 n d)
    rw [emb_4, he, hs] at this
    exact this

include ho in
/-- The kernel's run: the result array is the reference's, the arguments end unchanged. -/
theorem run_values (ρ : Dev nD → PrngReg) : θ_run defs (onTc (τ := τ) (main (F := Ideal))) ⟨m, fun _ => 0, ρ⟩ (fun r => ∀ c : Dev nD,
      r.2.mem (c.tc.loc main_v6) = goal m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)) :=
  (θ_run defs _ _).mono (fun r (h : _ ∧ _) c =>
    ⟨((h.1 c).1 4).trans (arr_eq m ho c),
      ((h.1 c).2 main_arg0 (Pipeline.mem_restRefs_of main_arg0 (by decide) (show ∀ w, (spec0 w).arr.view.ref ≠ main_arg0 by decide))).trans (V_arg0 m c),
      ((h.1 c).2 main_arg1 (Pipeline.mem_restRefs_of main_arg1 (by decide) (show ∀ w, (spec0 w).arr.view.ref ≠ main_arg1 by decide))).trans (V_arg1 m c),
      ((h.1 c).2 main_arg2 (Pipeline.mem_restRefs_of main_arg2 (by decide) (show ∀ w, (spec0 w).arr.view.ref ≠ main_arg2 by decide))).trans (V_arg2 m c),
      ((h.1 c).2 main_arg3 (Pipeline.mem_restRefs_of main_arg3 (by decide) (show ∀ w, (spec0 w).arr.view.ref ≠ main_arg3 by decide))).trans (V_arg3 m c),
      ((h.1 c).2 main_arg4 (Pipeline.mem_restRefs_of main_arg4 (by decide) (show ∀ w, (spec0 w).arr.view.ref ≠ main_arg4 by decide))).trans (V_arg4 m c),
      ((h.1 c).2 main_arg5 (Pipeline.mem_restRefs_of main_arg5 (by decide) (show ∀ w, (spec0 w).arr.view.ref ≠ main_arg5 by decide))).trans (V_arg5 m c),
      ((h.1 c).2 main_arg6 (Pipeline.mem_restRefs_of main_arg6 (by decide) (show ∀ w, (spec0 w).arr.view.ref ≠ main_arg6 by decide))).trans (V_arg6 m c)⟩)
    (run_main m ρ (inRange m ho))

end Cert.KernelIdeal.Hand

end
-- ==== Proof.QkvSpec.lean ====
module

public import Idealize.ShloMosaic.Lib.Pointwise

@[expose] public section

/-! The projection to queries, keys and values, for one token: its modulated norm, and the norm's product with a
column of the weights. -/

noncomputable section

namespace Cert.Hand

open Idealize.ShloMosaic

/-- A token's row, divided by its root mean square (over 1024, with 1e-6 added), times the gain `g` and one plus the
modulation's scale `sc`, plus its shift `sh`. -/
def modNorm (x g sh sc : Fin 1024 → EReal) (k : Fin 1024) : EReal :=
  x k * Ideal.rsqrt (Ideal.div (∑ j, x j * x j) (Ideal.ofBits FTy.f32 1149239296#32) + Ideal.ofBits FTy.f32 897988541#32)
    * g k * (1 + sc k) + sh k

/-- The token's modulated norm times one column of the weights. -/
def project (x g sh sc w : Fin 1024 → EReal) : EReal := ∑ j, modNorm x g sh sc j * w j

/-- The one constant by which the kernel multiplies its queries is the product of the reference's two: `1/8`, which is
a power of two, and the rounded `log2 e`. -/
theorem query_scale : Ideal.ofBits FTy.f32 1043900987#32 = Ideal.ofBits FTy.f32 1040187392#32 * Ideal.ofBits FTy.f32 1069066811#32 := by
  simp [Ideal.ofBits, Ideal.ieee, -EReal.coe_mul]
  rw [← EReal.coe_mul]
  norm_num

/-- The batch entry of token `n` of the flattened prompt. -/
abbrev tokB (n : Fin 8192) : Fin 32 := ⟨n.val / 256, by omega⟩
/-- Its place within that entry. -/
abbrev tokR (n : Fin 8192) : Fin 256 := ⟨n.val % 256, by omega⟩

end Cert.Hand

end
-- ==== Proof.QkvCell.lean ====
module

public import proofs.«01_k».proof.Proof.QkvSpec
public import proofs.«01_k».proof.Proof.Gen.Kernel2Ideal.Value
public import Idealize.ShloMosaic.Lib.Pipeline.ValueKit.Geometry
public import Idealize.ShloMosaic.Lib.Pipeline.ValueKit.Acc
public import Idealize.ShloMosaic.Lib.Pointwise

@[expose] public section

/-! What the kernel's body stores at a point, at an index of a block, on the ideal numbers. -/

set_option maxRecDepth 16384

noncomputable section

namespace Cert.Kernel2Ideal.Hand

open Cert.Kernel2Ideal Cert.Kernel2Ideal.Gen Cert.Hand
open Idealize.ShloMosaic Idealize.ShloMosaic.TcCoe Idealize.ShloMosaic.Tactic
open Idealize.SL Idealize.SL.Sem

theorem norm_pay (x : Vec Ideal S512x1024 .f32) (g : Vec Ideal S1x1024 .f32) (sh sc : Vec Ideal S1x1x1024 .f32) (r : Fin 512) (k : Fin 1024) :
    k0_pay3 x g sh sc (ix2 r k)
      = modNorm (fun k => x (ix2 r k)) (fun k => g (ix2 0 k)) (fun k => sh (ix3 0 0 k)) (fun k => sc (ix3 0 0 k)) k := by
  pointwise [k0_pay3, modNorm]

theorem query_pay (x : Vec Ideal S512x1024 .f32) (g : Vec Ideal S1x1024 .f32) (sh sc : Vec Ideal S1x1x1024 .f32) (w : Vec Ideal S1024x1024 .bf16)
    (r : Fin 512) (k : Fin 1024) :
    k0_pay4 x g sh sc w (ix2 r k)
      = (∑ j : Fin 1024, k0_pay3 x g sh sc (ix2 r j) * w (ix2 j k)) * Ideal.ofBits FTy.f32 1043900987#32 := by
  pointwise [k0_pay4]

theorem key_pay (h : FVec Ideal S512x1024 .bf16) (w : Vec Ideal S1024x1024 .bf16) (r : Fin 512) (k : Fin 1024) :
    k0_pay1 h (k0_pay5 w) (ix2 r k) = ∑ j : Fin 1024, h (ix2 r j) * w (ix2 j k) := by
  pointwise [k0_pay1, k0_pay5]

theorem value_pay (h : FVec Ideal S512x1024 .bf16) (w : Vec Ideal S1024x1024 .bf16) (r : Fin 512) (k : Fin 1024) :
    k0_pay2 h w (ix2 r k) = ∑ j : Fin 1024, h (ix2 r j) * w (ix2 j k) := by
  pointwise [k0_pay2]

variable (x : Vec Ideal S512x1024 .f32) (g : Vec Ideal S1x1024 .f32) (sh sc : Vec Ideal S1x1x1024 .f32) (w : Vec Ideal S1024x3072 .bf16)

/-- A token of the block times column `c` of the weights. -/
abbrev blockCell (r : Fin 512) (c : Fin 3072) : EReal :=
  project (fun k => x (ix2 r k)) (fun k => g (ix2 0 k)) (fun k => sh (ix3 0 0 k)) (fun k => sc (ix3 0 0 k)) (fun j => w (ix2 j c))

/-- The load of the weights' first 1024 columns, at an index. -/
theorem cols0_apply (j k : Fin 1024) : View.ld w r0_3 (ix2 j k) = w (ix2 j ⟨k.val, by omega⟩) := by
  refine congrArg w (funext fun a => ?_)
  match a with
  | ⟨0, _⟩ => exact Fin.ext (by show 0 + 1 * j.val = j.val; omega)
  | ⟨1, _⟩ => exact Fin.ext (by show 0 + 1 * k.val = k.val; omega)

/-- The load of the second 1024 columns. -/
theorem cols1_apply (j k : Fin 1024) : View.ld w r0_4 (ix2 j k) = w (ix2 j ⟨1024 + k.val, by omega⟩) := by
  refine congrArg w (funext fun a => ?_)
  match a with
  | ⟨0, _⟩ => exact Fin.ext (by show 0 + 1 * j.val = j.val; omega)
  | ⟨1, _⟩ => exact Fin.ext (by show 1024 + 1 * k.val = 1024 + k.val; omega)

/-- The load of the last 1024 columns. -/
theorem cols2_apply (j k : Fin 1024) : View.ld w r0_5 (ix2 j k) = w (ix2 j ⟨2048 + k.val, by omega⟩) := by
  refine congrArg w (funext fun a => ?_)
  match a with
  | ⟨0, _⟩ => exact Fin.ext (by show 0 + 1 * j.val = j.val; omega)
  | ⟨1, _⟩ => exact Fin.ext (by show 2048 + 1 * k.val = 2048 + k.val; omega)

theorem out5_apply (r : Fin 512) (k : Fin 1024) :
    out0_5 x g sh sc w (ix2 r k) = blockCell x g sh sc w r ⟨k.val, by omega⟩ * Ideal.ofBits FTy.f32 1043900987#32 := by
  frame_out
  rw [query_pay]
  simp only [norm_pay]
  exact congrArg (· * _) (Finset.sum_congr rfl fun j _ => congrArg (_ * ·) (cols0_apply w j k))

theorem out6_apply (r : Fin 512) (k : Fin 1024) :
    out0_6 x g sh sc w (ix2 r k) = blockCell x g sh sc w r ⟨1024 + k.val, by omega⟩ := by
  frame_out
  unfold k0_pay6
  frame_out
  rw [key_pay]
  simp only [norm_pay]
  exact Finset.sum_congr rfl fun j _ => congrArg (_ * ·) (cols1_apply w j k)

theorem out7_apply (r : Fin 512) (k : Fin 1024) :
    out0_7 x g sh sc w (ix2 r k) = blockCell x g sh sc w r ⟨2048 + k.val, by omega⟩ := by
  frame_out
  unfold k0_pay6
  frame_out
  rw [value_pay]
  simp only [norm_pay]
  exact Finset.sum_congr rfl fun j _ => congrArg (_ * ·) (cols2_apply w j k)

end Cert.Kernel2Ideal.Hand

end
-- ==== Proof.QkvRef.lean ====
module

public import proofs.«01_k».proof.Proof.QkvSpec
public import proofs.«01_k».proof.Proof.Gen.Reference2Ideal.Run
public import Idealize.ShloMosaic.Lib.Pointwise

@[expose] public section

/-! The reference's queries, keys and values at an index, on the ideal numbers. -/

set_option maxRecDepth 16384

noncomputable section

namespace Cert.Reference2Ideal.Hand

open Cert.Reference2Ideal Cert.Reference2Ideal.Gen Cert.Hand
open Idealize.ShloMosaic Idealize.ShloMosaic.TcCoe Idealize.ShloMosaic.Tactic
open Idealize.SL Idealize.SL.Sem

variable (x : FVec Ideal S32x256x1024 .f32) (g sh sc : FVec Ideal S1024 .f32) (w : FVec Ideal S1024x3072 .f32)

/-- The modulated norm of the whole prompt. -/
def normed : FVec Ideal S32x256x1024 .f32 :=
  addf (mulf (mulf (mulf x (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf x x) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 g))) (broadcastInDim S32x256x1024 ![0, 1, 2] bcast_S1x1x1024_S32x256x1024_0_1_2 (broadcastInDim S1x1x1024 ![2] bcast_S1024_S1x1x1024_2 (addf (broadcastInDim S1024 ![] bcast_S_S1024 (constant S_ .f32 0x3F800000#32)) sc)))) (broadcastInDim S32x256x1024 ![0, 1, 2] bcast_S1x1x1024_S32x256x1024_0_1_2 (broadcastInDim S1x1x1024 ![2] bcast_S1024_S1x1x1024_2 sh))

/-- The norm times all of the weights' columns. -/
def projected (h : FVec Ideal S32x256x1024 .f32) : FVec Ideal S32x256x3072 .f32 :=
  Host.dotGeneral dot_S32x256x1024_S1024x3072_S32x256x3072_2_0_01_1_n_n none h w

/-- The queries: the first 1024 columns, scaled. -/
def queriesOf (p : FVec Ideal S32x256x3072 .f32) : FVec Ideal S8192x1024 .bf16 :=
  truncf .bf16 (shapeCast _ (mulf (mulf (extractStridedSlice S32x256x1024 ![0, 0, 0] p slices_S32x256x3072_S32x256x1024_0_0_0) (broadcastInDim S32x256x1024 ![] bcast_S_S32x256x1024 (constant S_ .f32 0x3E000000#32))) (broadcastInDim S32x256x1024 ![] bcast_S_S32x256x1024 (constant S_ .f32 0x3FB8AA3B#32))) shapeCasts_S32x256x1024_S8192x1024) bitsLt_bf16_f32

/-- The keys: the second 1024 columns. -/
def keysOf (p : FVec Ideal S32x256x3072 .f32) : FVec Ideal S8192x1024 .f32 :=
  shapeCast _ (extractStridedSlice S32x256x1024 ![0, 0, 1024] p slices_S32x256x3072_S32x256x1024_0_0_1024) shapeCasts_S32x256x1024_S8192x1024

/-- The values: the last 1024 columns. -/
def valuesOf (p : FVec Ideal S32x256x3072 .f32) : FVec Ideal S8192x1024 .f32 :=
  shapeCast _ (extractStridedSlice S32x256x1024 ![0, 0, 2048] p slices_S32x256x3072_S32x256x1024_0_0_2048) shapeCasts_S32x256x1024_S8192x1024

/-- Token `n`'s row of the prompt. -/
abbrev tokenRow (n : Fin 8192) : Fin 1024 → EReal := fun k => x (ix3 (tokB n) (tokR n) k)

theorem normed_apply (n : Fin 8192) (k : Fin 1024) :
    normed x g sh sc (ix3 (tokB n) (tokR n) k)
      = modNorm (tokenRow x n) (fun k => g (ix1 k)) (fun k => sh (ix1 k)) (fun k => sc (ix1 k)) k := by
  unfold tokenRow
  generalize tokB n = b
  generalize tokR n = r
  pointwise [normed, modNorm]

theorem queriesOf_apply (h : FVec Ideal S32x256x1024 .f32) (n : Fin 8192) (k : Fin 1024) :
    queriesOf (projected w h) (ix2 n k)
      = (∑ j : Fin 1024, h (ix3 (tokB n) (tokR n) j) * w (ix2 j ⟨k.val, by omega⟩)) * Ideal.ofBits FTy.f32 1043900987#32 := by
  rw [query_scale, ← mul_assoc]
  pointwise [queriesOf, projected]

theorem keysOf_apply (h : FVec Ideal S32x256x1024 .f32) (n : Fin 8192) (k : Fin 1024) :
    keysOf (projected w h) (ix2 n k)
      = ∑ j : Fin 1024, h (ix3 (tokB n) (tokR n) j) * w (ix2 j ⟨1024 + k.val, by omega⟩) := by
  pointwise [keysOf, projected]

theorem valuesOf_apply (h : FVec Ideal S32x256x1024 .f32) (n : Fin 8192) (k : Fin 1024) :
    valuesOf (projected w h) (ix2 n k)
      = ∑ j : Fin 1024, h (ix3 (tokB n) (tokR n) j) * w (ix2 j ⟨2048 + k.val, by omega⟩) := by
  pointwise [valuesOf, projected]

/-- The reference's first result. -/
def queries : FVec Ideal S8192x1024 .bf16 := queriesOf (projected w (normed x g sh sc))
/-- Its second. -/
def keys : FVec Ideal S8192x1024 .f32 := keysOf (projected w (normed x g sh sc))
/-- Its third. -/
def values : FVec Ideal S8192x1024 .f32 := valuesOf (projected w (normed x g sh sc))

/-- Token `n`'s product with column `c` of the weights. -/
abbrev cell (n : Fin 8192) (c : Fin 3072) : EReal :=
  project (tokenRow x n) (fun k => g (ix1 k)) (fun k => sh (ix1 k)) (fun k => sc (ix1 k)) (fun j => w (ix2 j c))

theorem queries_apply (n : Fin 8192) (k : Fin 1024) :
    queries x g sh sc w (ix2 n k) = cell x g sh sc w n ⟨k.val, by omega⟩ * Ideal.ofBits FTy.f32 1043900987#32 := by
  unfold queries cell project
  rw [queriesOf_apply]
  simp only [normed_apply]

theorem keys_apply (n : Fin 8192) (k : Fin 1024) :
    keys x g sh sc w (ix2 n k) = cell x g sh sc w n ⟨1024 + k.val, by omega⟩ := by
  unfold keys cell project
  rw [keysOf_apply]
  simp only [normed_apply]

theorem values_apply (n : Fin 8192) (k : Fin 1024) :
    values x g sh sc w (ix2 n k) = cell x g sh sc w n ⟨2048 + k.val, by omega⟩ := by
  unfold values cell project
  rw [valuesOf_apply]
  simp only [normed_apply]

end Cert.Reference2Ideal.Hand

end
-- ==== Proof.QkvValue.lean ====
module

public import proofs.«01_k».proof.Proof.QkvCell
public import proofs.«01_k».proof.Proof.QkvRef

@[expose] public section

/-! The kernel's queries, keys and values on the ideal numbers are the reference's. -/

set_option maxRecDepth 16384

noncomputable section

namespace Cert.Kernel2Ideal.Hand

open Cert.Kernel2Ideal Cert.Kernel2Ideal.Gen Cert.Hand
open Idealize.ShloMosaic Idealize.ShloMosaic.TcCoe Idealize.ShloMosaic.Tactic
open Idealize.SL Idealize.SL.Sem
open Idealize.ShloMosaic.Pipeline (Dat Window)

variable (m : (ℓ : Loc nD τ sig) → Buf (Elt Ideal) ℓ)

/-! ## The arrays the windows read, from the arguments -/

theorem V2_v0 (c : Dev nD) : V m c main_v0 = shapeCast S8192x1024 (m (c.tc.loc main_arg0)) shapeCasts_S32x256x1024_S8192x1024 := by
  unfold V; after_results <;> rfl
theorem V2_v1 (c : Dev nD) : V m c main_v1 = shapeCast S1x1x1024 (m (c.tc.loc main_arg2)) shapeCasts_S1024_S1x1x1024 := by
  unfold V; after_results <;> rfl
theorem V2_v2 (c : Dev nD) : V m c main_v2 = shapeCast S1x1x1024 (m (c.tc.loc main_arg3)) shapeCasts_S1024_S1x1x1024 := by
  unfold V; after_results <;> rfl
theorem V2_v3 (c : Dev nD) : V m c main_v3 = m (c.tc.loc main_arg4) := by
  unfold V; after_results <;> rfl
theorem V2_v4 (c : Dev nD) : V m c main_v4 = shapeCast S1x1024 (m (c.tc.loc main_arg1)) shapeCasts_S1024_S1x1024 := by
  unfold V; after_results <;> rfl

theorem rows_apply (x : FVec Ideal S32x256x1024 .f32) (n : Fin 8192) (k : Fin 1024) :
    shapeCast S8192x1024 x shapeCasts_S32x256x1024_S8192x1024 (ix2 n k) = x (ix3 (tokB n) (tokR n) k) := by
  pointwise
theorem gain_apply (g : FVec Ideal S1024 .f32) (k : Fin 1024) : shapeCast S1x1024 g shapeCasts_S1024_S1x1024 (ix2 0 k) = g (ix1 k) := by
  pointwise
theorem mod_apply (g : FVec Ideal S1024 .f32) (k : Fin 1024) : shapeCast S1x1x1024 g shapeCasts_S1024_S1x1x1024 (ix3 0 0 k) = g (ix1 k) := by
  pointwise

/-! ## Where each point's blocks lie -/

theorem at0 : ∀ t : Fin grid0.N, cc0_transform_0 (grid0.coords t) = ![t.val, 0] := by decide +kernel
theorem at1 : ∀ t : Fin grid0.N, cc0_transform_1 (grid0.coords t) = ![0, 0] := by decide +kernel
theorem at2 : ∀ t : Fin grid0.N, cc0_transform_2 (grid0.coords t) = ![0, 0, 0] := by decide +kernel
theorem at3 : ∀ t : Fin grid0.N, cc0_transform_3 (grid0.coords t) = ![0, 0, 0] := by decide +kernel
theorem at4 : ∀ t : Fin grid0.N, cc0_transform_4 (grid0.coords t) = ![0, 0] := by decide +kernel
theorem at5 : ∀ t : Fin grid0.N, cc0_transform_5 (grid0.coords t) = ![t.val, 0] := by decide +kernel
theorem at6 : ∀ t : Fin grid0.N, cc0_transform_6 (grid0.coords t) = ![t.val, 0] := by decide +kernel
theorem at7 : ∀ t : Fin grid0.N, cc0_transform_7 (grid0.coords t) = ![t.val, 0] := by decide +kernel

/-- The token of row `r` of point `t`'s block. -/
abbrev tokenOf (t : Fin grid0.N) (r : Fin 512) : Fin 8192 := ⟨t.val * 512 + r.val, by have h : t.val < 16 := t.isLt; omega⟩

theorem place0 (t : Fin cfg0.N) (r : Fin 512) (k : Fin 1024) :
    ((cfg0.win 0).blk t).view.emb (ix2 r k) = (ix2 (tokenOf t r) k : S8192x1024.Idx) := by
  have h : (cfg0.win 0).index t = ![t.val, 0] := at0 t
  blk_ext [h] <;> rfl
theorem place1 (t : Fin cfg0.N) (k : Fin 1024) :
    ((cfg0.win 1).blk t).view.emb (ix2 0 k) = (ix2 0 k : S1x1024.Idx) := by
  have h : (cfg0.win 1).index t = ![0, 0] := at1 t
  blk_ext [h] <;> rfl
theorem place2 (t : Fin cfg0.N) (k : Fin 1024) :
    ((cfg0.win 2).blk t).view.emb (ix3 0 0 k) = (ix3 0 0 k : S1x1x1024.Idx) := by
  have h : (cfg0.win 2).index t = ![0, 0, 0] := at2 t
  blk_ext [h] <;> rfl
theorem place3 (t : Fin cfg0.N) (k : Fin 1024) :
    ((cfg0.win 3).blk t).view.emb (ix3 0 0 k) = (ix3 0 0 k : S1x1x1024.Idx) := by
  have h : (cfg0.win 3).index t = ![0, 0, 0] := at3 t
  blk_ext [h] <;> rfl
theorem place4 (t : Fin cfg0.N) (j : Fin 1024) (k : Fin 3072) :
    ((cfg0.win 4).blk t).view.emb (ix2 j k) = (ix2 j k : S1024x3072.Idx) := by
  have h : (cfg0.win 4).index t = ![0, 0] := at4 t
  blk_ext [h] <;> rfl
theorem place5 (t : Fin cfg0.N) (r : Fin 512) (k : Fin 1024) :
    ((cfg0.win 5).blk t).view.emb (ix2 r k) = (ix2 (tokenOf t r) k : S8192x1024.Idx) := by
  have h : (cfg0.win 5).index t = ![t.val, 0] := at5 t
  blk_ext [h] <;> rfl
theorem place6 (t : Fin cfg0.N) (r : Fin 512) (k : Fin 1024) :
    ((cfg0.win 6).blk t).view.emb (ix2 r k) = (ix2 (tokenOf t r) k : S8192x1024.Idx) := by
  have h : (cfg0.win 6).index t = ![t.val, 0] := at6 t
  blk_ext [h] <;> rfl
theorem place7 (t : Fin cfg0.N) (r : Fin 512) (k : Fin 1024) :
    ((cfg0.win 7).blk t).view.emb (ix2 r k) = (ix2 (tokenOf t r) k : S8192x1024.Idx) := by
  have h : (cfg0.win 7).index t = ![t.val, 0] := at7 t
  blk_ext [h] <;> rfl

/-! ## The blocks read, as the arguments -/

/-- The blocks of a point, at their own shapes. -/
abbrev bx (c : Dev nD) (t : Fin cfg0.N) : Vec Ideal S512x1024 .f32 := iblk m c 0 t
@[inherit_doc bx] abbrev bg (c : Dev nD) (t : Fin cfg0.N) : Vec Ideal S1x1024 .f32 := iblk m c 1 t
@[inherit_doc bx] abbrev bsh (c : Dev nD) (t : Fin cfg0.N) : Vec Ideal S1x1x1024 .f32 := iblk m c 2 t
@[inherit_doc bx] abbrev bsc (c : Dev nD) (t : Fin cfg0.N) : Vec Ideal S1x1x1024 .f32 := iblk m c 3 t
@[inherit_doc bx] abbrev bw (c : Dev nD) (t : Fin cfg0.N) : Vec Ideal S1024x3072 .bf16 := iblk m c 4 t

theorem bx_apply (c : Dev nD) (t : Fin cfg0.N) (r : Fin 512) (k : Fin 1024) :
    bx m c t (ix2 r k) = m (c.tc.loc main_arg0) (ix3 (tokB (tokenOf t r)) (tokR (tokenOf t r)) k) := by
  show V m c main_v0 (((cfg0.win 0).blk t).view.emb (ix2 r k)) = _
  rw [place0, V2_v0, rows_apply]
theorem bg_apply (c : Dev nD) (t : Fin cfg0.N) (k : Fin 1024) : bg m c t (ix2 0 k) = m (c.tc.loc main_arg1) (ix1 k) := by
  show V m c main_v4 (((cfg0.win 1).blk t).view.emb (ix2 0 k)) = _
  rw [place1, V2_v4, gain_apply]
theorem bsh_apply (c : Dev nD) (t : Fin cfg0.N) (k : Fin 1024) : bsh m c t (ix3 0 0 k) = m (c.tc.loc main_arg2) (ix1 k) := by
  show V m c main_v1 (((cfg0.win 2).blk t).view.emb (ix3 0 0 k)) = _
  rw [place2, V2_v1, mod_apply]
theorem bsc_apply (c : Dev nD) (t : Fin cfg0.N) (k : Fin 1024) : bsc m c t (ix3 0 0 k) = m (c.tc.loc main_arg3) (ix1 k) := by
  show V m c main_v2 (((cfg0.win 3).blk t).view.emb (ix3 0 0 k)) = _
  rw [place3, V2_v2, mod_apply]
theorem bw_apply (c : Dev nD) (t : Fin cfg0.N) (j : Fin 1024) (k : Fin 3072) : bw m c t (ix2 j k) = m (c.tc.loc main_arg4) (ix2 j k) := by
  show V m c main_v3 (((cfg0.win 4).blk t).view.emb (ix2 j k)) = _
  rw [place4, V2_v3]

/-- The products of a block's token are those of the reference's token. -/
theorem blockCell_eq (c : Dev nD) (t : Fin cfg0.N) (r : Fin 512) (k : Fin 3072) :
    blockCell (bx m c t) (bg m c t) (bsh m c t) (bsc m c t) (bw m c t) r k
      = Cert.Reference2Ideal.Hand.cell (m (c.tc.loc main_arg0)) (m (c.tc.loc main_arg1)) (m (c.tc.loc main_arg2)) (m (c.tc.loc main_arg3)) (m (c.tc.loc main_arg4)) (tokenOf t r) k := by
  unfold blockCell Cert.Reference2Ideal.Hand.cell
  simp only [bx_apply, bg_apply, bsh_apply, bsc_apply, bw_apply]

/-! ## The result arrays -/

/-- The reference's results of the kernel's arguments. -/
abbrev goalQ (c : Dev nD) : FVec Ideal S8192x1024 .bf16 :=
  Cert.Reference2Ideal.Hand.queries (m (c.tc.loc main_arg0)) (m (c.tc.loc main_arg1)) (m (c.tc.loc main_arg2)) (m (c.tc.loc main_arg3)) (m (c.tc.loc main_arg4))
@[inherit_doc goalQ] abbrev goalK (c : Dev nD) : FVec Ideal S8192x1024 .f32 :=
  Cert.Reference2Ideal.Hand.keys (m (c.tc.loc main_arg0)) (m (c.tc.loc main_arg1)) (m (c.tc.loc main_arg2)) (m (c.tc.loc main_arg3)) (m (c.tc.loc main_arg4))
@[inherit_doc goalQ] abbrev goalV (c : Dev nD) : FVec Ideal S8192x1024 .f32 :=
  Cert.Reference2Ideal.Hand.values (m (c.tc.loc main_arg0)) (m (c.tc.loc main_arg1)) (m (c.tc.loc main_arg2)) (m (c.tc.loc main_arg3)) (m (c.tc.loc main_arg4))

theorem q_at (c : Dev nD) (t : Fin cfg0.N) (r : Fin 512) (k : Fin 1024) :
    out0_5 (bx m c t) (bg m c t) (bsh m c t) (bsc m c t) (bw m c t) (ix2 r k) = goalQ m c (ix2 (tokenOf t r) k) := by
  refine Eq.trans ?_ (Cert.Reference2Ideal.Hand.queries_apply _ _ _ _ _ _ _).symm
  rw [out5_apply, blockCell_eq]
theorem k_at (c : Dev nD) (t : Fin cfg0.N) (r : Fin 512) (k : Fin 1024) :
    out0_6 (bx m c t) (bg m c t) (bsh m c t) (bsc m c t) (bw m c t) (ix2 r k) = goalK m c (ix2 (tokenOf t r) k) := by
  refine Eq.trans ?_ (Cert.Reference2Ideal.Hand.keys_apply _ _ _ _ _ _ _).symm
  rw [out6_apply, blockCell_eq]
theorem v_at (c : Dev nD) (t : Fin cfg0.N) (r : Fin 512) (k : Fin 1024) :
    out0_7 (bx m c t) (bg m c t) (bsh m c t) (bsc m c t) (bw m c t) (ix2 r k) = goalV m c (ix2 (tokenOf t r) k) := by
  refine Eq.trans ?_ (Cert.Reference2Ideal.Hand.values_apply _ _ _ _ _ _ _).symm
  rw [out7_apply, blockCell_eq]

theorem flush_5 (t : Fin cfg0.N) : (cfg0.win 5).flush t = true := by
  rw [Window.flush_eq_flushOf]
  revert t
  show ∀ t : Fin grid0.N, Window.flushOf grid0 true cc0_transform_5 t = true
  decide +kernel
theorem flush_6 (t : Fin cfg0.N) : (cfg0.win 6).flush t = true := by
  rw [Window.flush_eq_flushOf]
  revert t
  show ∀ t : Fin grid0.N, Window.flushOf grid0 true cc0_transform_6 t = true
  decide +kernel
theorem flush_7 (t : Fin cfg0.N) : (cfg0.win 7).flush t = true := by
  rw [Window.flush_eq_flushOf]
  revert t
  show ∀ t : Fin grid0.N, Window.flushOf grid0 true cc0_transform_7 t = true
  decide +kernel

theorem tile_index (y : S512x1024.Idx) : ∃ (r : Fin 512) (k : Fin 1024), y = ix2 r k := ⟨y 0, y 1, eq_ix2 y⟩

theorem row_index (i : S8192x1024.Idx) : ∃ (t : Fin grid0.N) (r : Fin 512) (k : Fin 1024), i = ix2 (tokenOf t r) k := by
  have h : (i 0).val < 8192 := (i 0).isLt
  refine ⟨⟨(i 0).val / 512, by show (i 0).val / 512 < 16; omega⟩, ⟨(i 0).val % 512, by omega⟩, i 1, ?_⟩
  funext a
  match a with
  | ⟨0, _⟩ => exact Fin.ext (by show (i 0).val = (i 0).val / 512 * 512 + (i 0).val % 512; omega)
  | ⟨1, _⟩ => rfl

theorem arr5_eq (c : Dev nD) : (dats m 0 c).arrAt 5 cfg0.N = goalQ m c := by
  refine (dats m 0 c).arrAt_eq_of_cover 5 (goalQ m c) (fun t _ => ?_) fun i => ?_
  · rw [Value.flushed5]
    funext y
    obtain ⟨r, k, rfl⟩ := tile_index y
    refine Eq.trans (b := goalQ m c (((cfg0.win 5).blk t).view.emb (ix2 r k))) ?_ rfl
    rw [place5, ← q_at]
    rfl
  · obtain ⟨t, r, k, rfl⟩ := row_index i
    refine ⟨t, flush_5 t, ?_⟩
    have := ((cfg0.win 5).blk t).view.emb_mem_set (ix2 r k)
    rw [place5] at this
    exact this
theorem arr6_eq (c : Dev nD) : (dats m 0 c).arrAt 6 cfg0.N = goalK m c := by
  refine (dats m 0 c).arrAt_eq_of_cover 6 (goalK m c) (fun t _ => ?_) fun i => ?_
  · rw [Value.flushed6]
    funext y
    obtain ⟨r, k, rfl⟩ := tile_index y
    refine Eq.trans (b := goalK m c (((cfg0.win 6).blk t).view.emb (ix2 r k))) ?_ rfl
    rw [place6, ← k_at]
    rfl
  · obtain ⟨t, r, k, rfl⟩ := row_index i
    refine ⟨t, flush_6 t, ?_⟩
    have := ((cfg0.win 6).blk t).view.emb_mem_set (ix2 r k)
    rw [place6] at this
    exact this
theorem arr7_eq (c : Dev nD) : (dats m 0 c).arrAt 7 cfg0.N = goalV m c := by
  refine (dats m 0 c).arrAt_eq_of_cover 7 (goalV m c) (fun t _ => ?_) fun i => ?_
  · rw [Value.flushed7]
    funext y
    obtain ⟨r, k, rfl⟩ := tile_index y
    refine Eq.trans (b := goalV m c (((cfg0.win 7).blk t).view.emb (ix2 r k))) ?_ rfl
    rw [place7, ← v_at]
    rfl
  · obtain ⟨t, r, k, rfl⟩ := row_index i
    refine ⟨t, flush_7 t, ?_⟩
    have := ((cfg0.win 7).blk t).view.emb_mem_set (ix2 r k)
    rw [place7] at this
    exact this

/-- The kernel's run: the three result arrays are the reference's, the arguments end unchanged. -/
theorem run_values (ρ : Dev nD → PrngReg) : θ_run defs (onTc (τ := τ) (main (F := Ideal))) ⟨m, fun _ => 0, ρ⟩ (fun r => ∀ c : Dev nD,
      r.2.mem (c.tc.loc main_v5_0) = goalQ m c
      ∧ r.2.mem (c.tc.loc main_v5_1) = goalK m c
      ∧ r.2.mem (c.tc.loc main_v5_2) = goalV m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) :=
  (θ_run defs _ _).mono (fun r h c =>
    ⟨(h c).1.trans (arr5_eq m c), (h c).2.1.trans (arr6_eq m c), (h c).2.2.1.trans (arr7_eq m c), (h c).2.2.2⟩)
    (Value.run_blocks m ρ)

end Cert.Kernel2Ideal.Hand

end
-- ==== Proof.MixSpec.lean ====
module

public import proofs.«01_k».proof.Proof.QkvSpec

@[expose] public section

/-! The output projection and the routing, for one token: its row with the attention's result added, and the softmax
of its products with the experts' columns. -/

noncomputable section

namespace Cert.Hand

open Idealize.ShloMosaic

/-- A token's row `x`, plus the gate `g` times the attention's row `o` projected by `w`. -/
def mixed (o : Fin 1024 → EReal) (w : Fin 1024 → Fin 1024 → EReal) (x g : Fin 1024 → EReal) (k : Fin 1024) : EReal :=
  x k + g k * ∑ j, o j * w j k

/-- The largest of sixteen numbers, taken from the bits of minus infinity on. -/
def top16 (l : Fin 16 → EReal) : EReal := Finset.fold max (Ideal.ofBits FTy.f32 4286578688#32) l Finset.univ

/-- The softmax of sixteen numbers. -/
def softmax16 (l : Fin 16 → EReal) (e : Fin 16) : EReal :=
  Ideal.div (Ideal.exp (l e - top16 l)) (∑ x, Ideal.exp (l x - top16 l))

/-- The largest number is at least what its search starts from. -/
theorem max_top16 (l : Fin 16 → EReal) : max (Ideal.ofBits FTy.f32 4286578688#32) (top16 l) = top16 l :=
  max_eq_right ((Finset.le_fold_max _).2 (Or.inl le_rfl))

/-- A token's affinity to expert `e`: the softmax of its row's products with the experts' columns `r`. -/
def affinity (h : Fin 1024 → EReal) (r : Fin 1024 → Fin 16 → EReal) (e : Fin 16) : EReal :=
  softmax16 (fun e => ∑ j, h j * r j e) e

end Cert.Hand

end
-- ==== Proof.MixCell.lean ====
module

public import proofs.«01_k».proof.Proof.MixSpec
public import proofs.«01_k».proof.Proof.Gen.Kernel3Ideal.Value
public import Idealize.ShloMosaic.Lib.Pipeline.ValueKit.Geometry
public import Idealize.ShloMosaic.Lib.Pipeline.ValueKit.Acc
public import Idealize.ShloMosaic.Lib.Pipeline.ValueKit.Tiles
public import Idealize.ShloMosaic.Lib.Pointwise

@[expose] public section

/-! What the kernel's body stores at a point, at an index of a block, on the ideal numbers. -/

set_option maxRecDepth 16384

noncomputable section

namespace Cert.Kernel3Ideal.Hand

open Cert.Kernel3Ideal Cert.Kernel3Ideal.Gen Cert.Hand
open Idealize.ShloMosaic Idealize.ShloMosaic.TcCoe Idealize.ShloMosaic.Tactic
open Idealize.SL Idealize.SL.Sem

theorem sum_pay (o : Vec Ideal S512x1024 .bf16) (w : Vec Ideal S1024x1024 .bf16) (x : Vec Ideal S512x1024 .f32) (gate : Vec Ideal S1x1x1024 .f32)
    (r : Fin 512) (k : Fin 1024) :
    k0_pay7 o w x gate (ix2 r k)
      = mixed (fun k => o (ix2 r k)) (fun j k => w (ix2 j k)) (fun k => x (ix2 r k)) (fun k => gate (ix3 0 0 k)) k := by
  pointwise [k0_pay7, mixed]

theorem norm_pay (o : Vec Ideal S512x1024 .bf16) (w : Vec Ideal S1024x1024 .bf16) (x : Vec Ideal S512x1024 .f32) (gate : Vec Ideal S1x1x1024 .f32)
    (g : Vec Ideal S1x1024 .f32) (sh sc : Vec Ideal S1x1x1024 .f32) (r : Fin 512) (k : Fin 1024) :
    k0_pay1 (k0_pay8 sh) (k0_pay9 sc) (k0_pay11 o w x gate g) (ix2 r k)
      = modNorm (fun k => k0_pay7 o w x gate (ix2 r k)) (fun k => g (ix2 0 k)) (fun k => sh (ix3 0 0 k)) (fun k => sc (ix3 0 0 k)) k := by
  pointwise [k0_pay1, k0_pay8, k0_pay9, k0_pay11, modNorm]

/-- The weights are the first factor in the kernel's products, the token's row the second. -/
theorem soft_pay (sh sc : FVec Ideal S1x1024 .f32) (wr : FVec Ideal S16x1024 .bf16) (y : FVec Ideal S512x1024 .f32) (e : Fin 16) (r : Fin 512) :
    k0_pay2 sh sc wr y (ix2 e r) = affinity (fun k => k0_pay1 sh sc y (ix2 r k)) (fun j e => wr (ix2 e j)) e := by
  unfold affinity
  simp only [mul_comm (k0_pay1 sh sc y _)]
  pointwise [k0_pay2, softmax16, top16]

theorem lanes0 (sh sc : FVec Ideal S1x1024 .f32) (wr : FVec Ideal S16x1024 .bf16) (y : FVec Ideal S512x1024 .f32) (e : Fin 16) (l : Fin 128) :
    k0_pay3 sh sc wr y (ix3 0 e l) = k0_pay2 sh sc wr y (ix2 e ⟨l.val, by omega⟩) := by
  pointwise [k0_pay3]
theorem lanes1 (sh sc : FVec Ideal S1x1024 .f32) (wr : FVec Ideal S16x1024 .bf16) (y : FVec Ideal S512x1024 .f32) (e : Fin 16) (l : Fin 128) :
    k0_pay4 sh sc wr y (ix3 0 e l) = k0_pay2 sh sc wr y (ix2 e ⟨128 + l.val, by omega⟩) := by
  pointwise [k0_pay4]
theorem lanes2 (sh sc : FVec Ideal S1x1024 .f32) (wr : FVec Ideal S16x1024 .bf16) (y : FVec Ideal S512x1024 .f32) (e : Fin 16) (l : Fin 128) :
    k0_pay5 sh sc wr y (ix3 0 e l) = k0_pay2 sh sc wr y (ix2 e ⟨256 + l.val, by omega⟩) := by
  pointwise [k0_pay5]
theorem lanes3 (sh sc : FVec Ideal S1x1024 .f32) (wr : FVec Ideal S16x1024 .bf16) (y : FVec Ideal S512x1024 .f32) (e : Fin 16) (l : Fin 128) :
    k0_pay6 sh sc wr y (ix3 0 e l) = k0_pay2 sh sc wr y (ix2 e ⟨384 + l.val, by omega⟩) := by
  pointwise [k0_pay6]

variable (o : Vec Ideal S512x1024 .bf16) (w : Vec Ideal S1024x1024 .bf16) (x : Vec Ideal S512x1024 .f32) (gate : Vec Ideal S1x1x1024 .f32)
  (g : Vec Ideal S1x1024 .f32) (sh sc : Vec Ideal S1x1x1024 .f32) (wr : Vec Ideal S16x1024 .bf16)

/-- The new row of a token of the block. -/
abbrev blockSum (r : Fin 512) : Fin 1024 → EReal :=
  mixed (fun k => o (ix2 r k)) (fun j k => w (ix2 j k)) (fun k => x (ix2 r k)) (fun k => gate (ix3 0 0 k))
/-- Its modulated norm. -/
abbrev blockNorm (r : Fin 512) : Fin 1024 → EReal :=
  modNorm (blockSum o w x gate r) (fun k => g (ix2 0 k)) (fun k => sh (ix3 0 0 k)) (fun k => sc (ix3 0 0 k))

theorem out8_apply (r : Fin 512) (k : Fin 1024) :
    out0_8 o w x gate g sh sc wr (ix2 r k) = blockSum o w x gate r k := by
  frame_out
  rw [sum_pay]

/-- The body's shift, of its window's block. -/
theorem shift_eq : k0_pay12 o w x gate g sh sc wr = k0_pay8 sh := by
  funext i
  unfold k0_pay12
  frame_out
/-- Its scale. -/
theorem scale_eq : k0_pay13 o w x gate g sh sc wr = k0_pay9 sc := by
  funext i
  unfold k0_pay13
  frame_out
/-- The routing's weights. -/
theorem route_eq : k0_pay14 o w x gate g sh sc wr = k0_pay10 wr := by
  funext i
  unfold k0_pay14
  frame_out
/-- The rows, divided by their root mean squares and times the gain. -/
theorem gained_eq : k0_pay15 o w x gate g sh sc wr = k0_pay11 o w x gate g := by
  funext i
  unfold k0_pay15
  frame_out

theorem route_apply (e : Fin 16) (j : Fin 1024) : k0_pay10 wr (ix2 e j) = wr (ix2 e j) := by
  pointwise [k0_pay10]

theorem normed_pay (r : Fin 512) (k : Fin 1024) :
    k0_pay1 (k0_pay8 sh) (k0_pay9 sc) (k0_pay11 o w x gate g) (ix2 r k) = blockNorm o w x gate g sh sc r k := by
  rw [norm_pay]
  simp only [sum_pay]

theorem out9_apply (r : Fin 512) (k : Fin 1024) :
    out0_9 o w x gate g sh sc wr (ix2 r k) = blockNorm o w x gate g sh sc r k := by
  frame_out
  rw [shift_eq, scale_eq, gained_eq, normed_pay]

theorem routed_pay (e : Fin 16) (r : Fin 512) :
    k0_pay2 (k0_pay8 sh) (k0_pay9 sc) (k0_pay10 wr) (k0_pay11 o w x gate g) (ix2 e r)
      = affinity (blockNorm o w x gate g sh sc r) (fun j e => wr (ix2 e j)) e := by
  rw [soft_pay]
  simp only [normed_pay, route_apply]

/-- The affinities of the block's tokens, 128 tokens after 128. -/
def blockAff : Vec Ideal S4x16x128 .f32 := fun i =>
  affinity (blockNorm o w x gate g sh sc ⟨(i 0).val * 128 + (i 2).val, by
    have h0 : (i 0).val < 4 := (i 0).isLt
    have h2 : (i 2).val < 128 := (i 2).isLt
    omega⟩) (fun j e => wr (ix2 e j)) (i 1)

theorem chunk_index (y : S1x16x128.Idx) : ∃ (e : Fin 16) (l : Fin 128), y = ix3 0 e l := by
  refine ⟨y 1, y 2, ?_⟩
  funext a
  match a with
  | ⟨0, _⟩ => exact Subsingleton.elim (α := Fin 1) _ _
  | ⟨1, _⟩ => rfl
  | ⟨2, _⟩ => rfl

/-- Where each store lies in the block. -/
theorem emb5 (e : Fin 16) (l : Fin 128) : r0_5.emb (ix3 0 e l) = (ix3 0 e l : S4x16x128.Idx) := by
  funext a
  match a with
  | ⟨0, _⟩ => rfl
  | ⟨1, _⟩ => exact Fin.ext (by show 0 + 1 * e.val = e.val; omega)
  | ⟨2, _⟩ => exact Fin.ext (by show 0 + 1 * l.val = l.val; omega)
theorem emb6 (e : Fin 16) (l : Fin 128) : r0_6.emb (ix3 0 e l) = (ix3 1 e l : S4x16x128.Idx) := by
  funext a
  match a with
  | ⟨0, _⟩ => rfl
  | ⟨1, _⟩ => exact Fin.ext (by show 0 + 1 * e.val = e.val; omega)
  | ⟨2, _⟩ => exact Fin.ext (by show 0 + 1 * l.val = l.val; omega)
theorem emb7 (e : Fin 16) (l : Fin 128) : r0_7.emb (ix3 0 e l) = (ix3 2 e l : S4x16x128.Idx) := by
  funext a
  match a with
  | ⟨0, _⟩ => rfl
  | ⟨1, _⟩ => exact Fin.ext (by show 0 + 1 * e.val = e.val; omega)
  | ⟨2, _⟩ => exact Fin.ext (by show 0 + 1 * l.val = l.val; omega)
theorem emb8 (e : Fin 16) (l : Fin 128) : r0_8.emb (ix3 0 e l) = (ix3 3 e l : S4x16x128.Idx) := by
  funext a
  match a with
  | ⟨0, _⟩ => rfl
  | ⟨1, _⟩ => exact Fin.ext (by show 0 + 1 * e.val = e.val; omega)
  | ⟨2, _⟩ => exact Fin.ext (by show 0 + 1 * l.val = l.val; omega)

theorem aff5 (y : S1x16x128.Idx) :
    k0_pay3 (k0_pay8 sh) (k0_pay9 sc) (k0_pay10 wr) (k0_pay11 o w x gate g) y = blockAff o w x gate g sh sc wr (r0_5.emb y) := by
  obtain ⟨e, l, rfl⟩ := chunk_index y
  rw [emb5, lanes0, routed_pay]
  exact congrArg (fun r => affinity (blockNorm o w x gate g sh sc r) _ e) (Fin.ext (by show l.val = 0 * 128 + l.val; omega))
theorem aff6 (y : S1x16x128.Idx) :
    k0_pay4 (k0_pay8 sh) (k0_pay9 sc) (k0_pay10 wr) (k0_pay11 o w x gate g) y = blockAff o w x gate g sh sc wr (r0_6.emb y) := by
  obtain ⟨e, l, rfl⟩ := chunk_index y
  rw [emb6, lanes1, routed_pay]
  exact congrArg (fun r => affinity (blockNorm o w x gate g sh sc r) _ e) (Fin.ext (by show 128 + l.val = 1 * 128 + l.val; omega))
theorem aff7 (y : S1x16x128.Idx) :
    k0_pay5 (k0_pay8 sh) (k0_pay9 sc) (k0_pay10 wr) (k0_pay11 o w x gate g) y = blockAff o w x gate g sh sc wr (r0_7.emb y) := by
  obtain ⟨e, l, rfl⟩ := chunk_index y
  rw [emb7, lanes2, routed_pay]
  exact congrArg (fun r => affinity (blockNorm o w x gate g sh sc r) _ e) (Fin.ext (by show 256 + l.val = 2 * 128 + l.val; omega))
theorem aff8 (y : S1x16x128.Idx) :
    k0_pay6 (k0_pay8 sh) (k0_pay9 sc) (k0_pay10 wr) (k0_pay11 o w x gate g) y = blockAff o w x gate g sh sc wr (r0_8.emb y) := by
  obtain ⟨e, l, rfl⟩ := chunk_index y
  rw [emb8, lanes3, routed_pay]
  exact congrArg (fun r => affinity (blockNorm o w x gate g sh sc r) _ e) (Fin.ext (by show 384 + l.val = 3 * 128 + l.val; omega))

theorem out10_eq : out0_10 o w x gate g sh sc wr = blockAff o w x gate g sh sc wr := by
  funext y
  unfold out0_10
  rw [shift_eq, scale_eq, route_eq, gained_eq]
  refine View.canon_apply_of_pieces (blockAff o w x gate g sh sc wr) _ ?_ y (cover0_10 _ _ _ _ y)
  intro p hp
  simp only [List.mem_cons, List.not_mem_nil, or_false] at hp
  rcases hp with rfl | rfl | rfl | rfl
  · exact aff8 o w x gate g sh sc wr
  · exact aff7 o w x gate g sh sc wr
  · exact aff6 o w x gate g sh sc wr
  · exact aff5 o w x gate g sh sc wr

end Cert.Kernel3Ideal.Hand

end
-- ==== Proof.MixRef.lean ====
module

public import proofs.«01_k».proof.Proof.MixSpec
public import proofs.«01_k».proof.Proof.Gen.Reference3Ideal.Run
public import Idealize.ShloMosaic.Lib.Pointwise

@[expose] public section

/-! The reference's output projection and routing at an index, on the ideal numbers. -/

set_option maxRecDepth 16384

noncomputable section

namespace Cert.Reference3Ideal.Hand

open Cert.Reference3Ideal Cert.Reference3Ideal.Gen Cert.Hand
open Idealize.ShloMosaic Idealize.ShloMosaic.TcCoe Idealize.ShloMosaic.Tactic
open Idealize.SL Idealize.SL.Sem

variable (o : FVec Ideal S32x256x1024 .f32) (w : FVec Ideal S1024x1024 .f32) (x : FVec Ideal S32x256x1024 .f32) (gate g sh sc : FVec Ideal S1024 .f32)
  (wr : FVec Ideal S1024x16 .f32)

/-- The prompt with the attention's projected result added. -/
def stream : FVec Ideal S32x256x1024 .f32 :=
  addf x (mulf (broadcastInDim S32x256x1024 ![0, 1, 2] bcast_S1x1x1024_S32x256x1024_0_1_2 (broadcastInDim S1x1x1024 ![2] bcast_S1024_S1x1x1024_2 gate)) (Host.dotGeneral dot_S32x256x1024_S1024x1024_S32x256x1024_2_0_01_1_n_n none o w))

/-- The modulated norm of the whole prompt. -/
def normed : FVec Ideal S32x256x1024 .f32 :=
  addf (mulf (mulf (mulf x (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf x x) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 g))) (broadcastInDim S32x256x1024 ![0, 1, 2] bcast_S1x1x1024_S32x256x1024_0_1_2 (broadcastInDim S1x1x1024 ![2] bcast_S1024_S1x1x1024_2 (addf (broadcastInDim S1024 ![] bcast_S_S1024 (constant S_ .f32 0x3F800000#32)) sc)))) (broadcastInDim S32x256x1024 ![0, 1, 2] bcast_S1x1x1024_S32x256x1024_0_1_2 (broadcastInDim S1x1x1024 ![2] bcast_S1024_S1x1x1024_2 sh))

/-- The tokens of the whole prompt, one after the other. -/
def flat : FVec Ideal S8192x1024 .f32 := shapeCast _ x shapeCasts_S32x256x1024_S8192x1024

/-- Each token's products with the experts' columns. -/
def logits (h : FVec Ideal S8192x1024 .f32) : FVec Ideal S8192x16 .f32 :=
  Host.dotGeneral dot_S8192x1024_S1024x16_S8192x16_1_0_0_1_n_n none h wr

/-- Each token's largest product, under every expert. -/
def tops (l : FVec Ideal S8192x16 .f32) : FVec Ideal S8192x16 .f32 :=
  broadcastInDim S8192x16 ![0, 1] bcast_S8192x1_S8192x16_0_1 (broadcastInDim S8192x1 ![0] bcast_S8192_S8192x1_0
    (maximumf (broadcastInDim S8192 ![] bcast_S_S8192 (constant S_ .f32 0xFF800000#32)) (Host.reduce FloatOps.maximumf l (constant S_ .f32 0xFF800000#32) reducesTo_S8192x16_S8192_d1 h_S_)))

/-- The softmax of each token's products. -/
def soft (l : FVec Ideal S8192x16 .f32) : FVec Ideal S8192x16 .f32 :=
  Host.divf (Host.exp (subf l (tops l))) (broadcastInDim S8192x16 ![0, 1] bcast_S8192x1_S8192x16_0_1 (broadcastInDim S8192x1 ![0] bcast_S8192_S8192x1_0
    (Host.reduceAdd (Host.exp (subf l (tops l))) (constant S_ .f32 0x00000000#32) reducesTo_S8192x16_S8192_d1 h_S_)))

/-- The experts' rows of each 128 tokens. -/
def chunks (a : FVec Ideal S8192x16 .f32) : FVec Ideal S64x16x128 .f32 :=
  transpose S64x16x128 [0, 2, 1] (shapeCast _ a shapeCasts_S8192x16_S64x128x16) transposes_S64x128x16_S64x16x128_0_2_1

/-- Token `n`'s row. -/
abbrev tokenRow (n : Fin 8192) : Fin 1024 → EReal := fun k => x (ix3 (tokB n) (tokR n) k)

theorem stream_apply (n : Fin 8192) (k : Fin 1024) :
    stream o w x gate (ix3 (tokB n) (tokR n) k) = mixed (tokenRow o n) (fun j k => w (ix2 j k)) (tokenRow x n) (fun k => gate (ix1 k)) k := by
  unfold tokenRow
  generalize tokB n = b
  generalize tokR n = r
  pointwise [stream, mixed]

theorem normed_apply (n : Fin 8192) (k : Fin 1024) :
    normed x g sh sc (ix3 (tokB n) (tokR n) k)
      = modNorm (tokenRow x n) (fun k => g (ix1 k)) (fun k => sh (ix1 k)) (fun k => sc (ix1 k)) k := by
  unfold tokenRow
  generalize tokB n = b
  generalize tokR n = r
  pointwise [normed, modNorm]

theorem flat_apply (n : Fin 8192) (k : Fin 1024) : flat x (ix2 n k) = x (ix3 (tokB n) (tokR n) k) := by
  pointwise [flat]

theorem logits_apply (h : FVec Ideal S8192x1024 .f32) (n : Fin 8192) (e : Fin 16) :
    logits wr h (ix2 n e) = ∑ j : Fin 1024, h (ix2 n j) * wr (ix2 j e) := by
  pointwise [logits]

theorem tops_apply (l : FVec Ideal S8192x16 .f32) (n : Fin 8192) (e : Fin 16) :
    tops l (ix2 n e) = top16 fun e => l (ix2 n e) := by
  rw [← max_top16]
  pointwise [tops, top16]

theorem soft_apply (l : FVec Ideal S8192x16 .f32) (n : Fin 8192) (e : Fin 16) :
    soft l (ix2 n e) = softmax16 (fun e => l (ix2 n e)) e := by
  unfold softmax16
  rw [← max_top16]
  pointwise [soft, tops, top16]

theorem chunks_apply (a : FVec Ideal S8192x16 .f32) (n : Fin 64) (e : Fin 16) (l : Fin 128) :
    chunks a (ix3 n e l) = a (ix2 ⟨n.val * 128 + l.val, by omega⟩ e) := by
  pointwise [chunks]

/-- The reference's first result. -/
def sums : FVec Ideal S8192x1024 .f32 := flat (stream o w x gate)
/-- Its second. -/
def norms : FVec Ideal S8192x1024 .f32 := flat (normed (stream o w x gate) g sh sc)
/-- Its third. -/
def affinities : FVec Ideal S64x16x128 .f32 := chunks (soft (logits wr (norms o w x gate g sh sc)))

/-- Token `n`'s new row. -/
abbrev sumRow (n : Fin 8192) : Fin 1024 → EReal :=
  mixed (tokenRow o n) (fun j k => w (ix2 j k)) (tokenRow x n) (fun k => gate (ix1 k))
/-- Its modulated norm. -/
abbrev normRow (n : Fin 8192) : Fin 1024 → EReal :=
  modNorm (sumRow o w x gate n) (fun k => g (ix1 k)) (fun k => sh (ix1 k)) (fun k => sc (ix1 k))

theorem sums_apply (n : Fin 8192) (k : Fin 1024) : sums o w x gate (ix2 n k) = sumRow o w x gate n k := by
  unfold sums
  rw [flat_apply, stream_apply]

theorem norms_apply (n : Fin 8192) (k : Fin 1024) : norms o w x gate g sh sc (ix2 n k) = normRow o w x gate g sh sc n k := by
  unfold norms
  rw [flat_apply, normed_apply]
  exact congrArg (fun f => modNorm f _ _ _ k) (funext fun j => stream_apply o w x gate n j)

theorem affinities_apply (n : Fin 64) (e : Fin 16) (l : Fin 128) :
    affinities o w x gate g sh sc wr (ix3 n e l)
      = affinity (normRow o w x gate g sh sc ⟨n.val * 128 + l.val, by omega⟩) (fun j e => wr (ix2 j e)) e := by
  unfold affinities affinity
  rw [chunks_apply, soft_apply]
  simp only [logits_apply, norms_apply]

end Cert.Reference3Ideal.Hand

end
-- ==== Proof.MixValue.lean ====
module

public import proofs.«01_k».proof.Proof.MixCell
public import proofs.«01_k».proof.Proof.MixRef

@[expose] public section

/-! The kernel's new rows, their norms and their affinities on the ideal numbers are the reference's. -/

set_option maxRecDepth 16384

noncomputable section

namespace Cert.Kernel3Ideal.Hand

open Cert.Kernel3Ideal Cert.Kernel3Ideal.Gen Cert.Hand
open Idealize.ShloMosaic Idealize.ShloMosaic.TcCoe Idealize.ShloMosaic.Tactic
open Idealize.SL Idealize.SL.Sem
open Idealize.ShloMosaic.Pipeline (Dat Window)

variable (m : (ℓ : Loc nD τ sig) → Buf (Elt Ideal) ℓ)

/-! ## The arrays the windows read, from the arguments -/

theorem V3_v1 (c : Dev nD) : V m c main_v1 = shapeCast S8192x1024 (m (c.tc.loc main_arg0)) shapeCasts_S32x256x1024_S8192x1024 := by
  unfold V; after_results <;> rfl
theorem V3_v2 (c : Dev nD) : V m c main_v2 = m (c.tc.loc main_arg1) := by
  unfold V; after_results <;> rfl
theorem V3_v3 (c : Dev nD) : V m c main_v3 = shapeCast S8192x1024 (m (c.tc.loc main_arg2)) shapeCasts_S32x256x1024_S8192x1024 := by
  unfold V; after_results <;> rfl
theorem V3_v4 (c : Dev nD) : V m c main_v4 = shapeCast S1x1x1024 (m (c.tc.loc main_arg3)) shapeCasts_S1024_S1x1x1024 := by
  unfold V; after_results <;> rfl
theorem V3_v9 (c : Dev nD) : V m c main_v9 = shapeCast S1x1024 (m (c.tc.loc main_arg4)) shapeCasts_S1024_S1x1024 := by
  unfold V; after_results <;> rfl
theorem V3_v5 (c : Dev nD) : V m c main_v5 = shapeCast S1x1x1024 (m (c.tc.loc main_arg5)) shapeCasts_S1024_S1x1x1024 := by
  unfold V; after_results <;> rfl
theorem V3_v6 (c : Dev nD) : V m c main_v6 = shapeCast S1x1x1024 (m (c.tc.loc main_arg6)) shapeCasts_S1024_S1x1x1024 := by
  unfold V; after_results <;> rfl
theorem V3_v8 (c : Dev nD) : V m c main_v8 = transpose S16x1024 [1, 0] (m (c.tc.loc main_arg7)) transposes_S1024x16_S16x1024_1_0 := by
  unfold V; after_results <;> rfl

theorem rows_apply (x : FVec Ideal S32x256x1024 .f32) (n : Fin 8192) (k : Fin 1024) :
    shapeCast S8192x1024 x shapeCasts_S32x256x1024_S8192x1024 (ix2 n k) = x (ix3 (tokB n) (tokR n) k) := by
  pointwise
theorem gain_apply (g : FVec Ideal S1024 .f32) (k : Fin 1024) : shapeCast S1x1024 g shapeCasts_S1024_S1x1024 (ix2 0 k) = g (ix1 k) := by
  pointwise
theorem mod_apply (g : FVec Ideal S1024 .f32) (k : Fin 1024) : shapeCast S1x1x1024 g shapeCasts_S1024_S1x1x1024 (ix3 0 0 k) = g (ix1 k) := by
  pointwise
theorem turned_apply (w : FVec Ideal S1024x16 .f32) (e : Fin 16) (j : Fin 1024) :
    transpose S16x1024 [1, 0] w transposes_S1024x16_S16x1024_1_0 (ix2 e j) = w (ix2 j e) := by
  pointwise

/-! ## Where each point's blocks lie -/

theorem at0 : ∀ t : Fin grid0.N, cc0_transform_0 (grid0.coords t) = ![t.val, 0] := by decide +kernel
theorem at1 : ∀ t : Fin grid0.N, cc0_transform_1 (grid0.coords t) = ![0, 0] := by decide +kernel
theorem at2 : ∀ t : Fin grid0.N, cc0_transform_2 (grid0.coords t) = ![t.val, 0] := by decide +kernel
theorem at3 : ∀ t : Fin grid0.N, cc0_transform_3 (grid0.coords t) = ![0, 0, 0] := by decide +kernel
theorem at4 : ∀ t : Fin grid0.N, cc0_transform_4 (grid0.coords t) = ![0, 0] := by decide +kernel
theorem at5 : ∀ t : Fin grid0.N, cc0_transform_5 (grid0.coords t) = ![0, 0, 0] := by decide +kernel
theorem at6 : ∀ t : Fin grid0.N, cc0_transform_6 (grid0.coords t) = ![0, 0, 0] := by decide +kernel
theorem at7 : ∀ t : Fin grid0.N, cc0_transform_7 (grid0.coords t) = ![0, 0] := by decide +kernel
theorem at8 : ∀ t : Fin grid0.N, cc0_transform_8 (grid0.coords t) = ![t.val, 0] := by decide +kernel
theorem at9 : ∀ t : Fin grid0.N, cc0_transform_9 (grid0.coords t) = ![t.val, 0] := by decide +kernel
theorem at10 : ∀ t : Fin grid0.N, cc0_transform_10 (grid0.coords t) = ![t.val, 0, 0] := by decide +kernel

/-- The token of row `r` of point `t`'s block. -/
abbrev tokenOf (t : Fin grid0.N) (r : Fin 512) : Fin 8192 := ⟨t.val * 512 + r.val, by have h : t.val < 16 := t.isLt; omega⟩
/-- The place of row `p` of point `t`'s block among the 64 groups of 128 tokens. -/
abbrev groupOf (t : Fin grid0.N) (p : Fin 4) : Fin 64 := ⟨t.val * 4 + p.val, by have h : t.val < 16 := t.isLt; omega⟩

theorem place0 (t : Fin cfg0.N) (r : Fin 512) (k : Fin 1024) :
    ((cfg0.win 0).blk t).view.emb (ix2 r k) = (ix2 (tokenOf t r) k : S8192x1024.Idx) := by
  have h : (cfg0.win 0).index t = ![t.val, 0] := at0 t
  blk_ext [h] <;> rfl
theorem place1 (t : Fin cfg0.N) (j k : Fin 1024) :
    ((cfg0.win 1).blk t).view.emb (ix2 j k) = (ix2 j k : S1024x1024.Idx) := by
  have h : (cfg0.win 1).index t = ![0, 0] := at1 t
  blk_ext [h] <;> rfl
theorem place2 (t : Fin cfg0.N) (r : Fin 512) (k : Fin 1024) :
    ((cfg0.win 2).blk t).view.emb (ix2 r k) = (ix2 (tokenOf t r) k : S8192x1024.Idx) := by
  have h : (cfg0.win 2).index t = ![t.val, 0] := at2 t
  blk_ext [h] <;> rfl
theorem place3 (t : Fin cfg0.N) (k : Fin 1024) :
    ((cfg0.win 3).blk t).view.emb (ix3 0 0 k) = (ix3 0 0 k : S1x1x1024.Idx) := by
  have h : (cfg0.win 3).index t = ![0, 0, 0] := at3 t
  blk_ext [h] <;> rfl
theorem place4 (t : Fin cfg0.N) (k : Fin 1024) :
    ((cfg0.win 4).blk t).view.emb (ix2 0 k) = (ix2 0 k : S1x1024.Idx) := by
  have h : (cfg0.win 4).index t = ![0, 0] := at4 t
  blk_ext [h] <;> rfl
theorem place5 (t : Fin cfg0.N) (k : Fin 1024) :
    ((cfg0.win 5).blk t).view.emb (ix3 0 0 k) = (ix3 0 0 k : S1x1x1024.Idx) := by
  have h : (cfg0.win 5).index t = ![0, 0, 0] := at5 t
  blk_ext [h] <;> rfl
theorem place6 (t : Fin cfg0.N) (k : Fin 1024) :
    ((cfg0.win 6).blk t).view.emb (ix3 0 0 k) = (ix3 0 0 k : S1x1x1024.Idx) := by
  have h : (cfg0.win 6).index t = ![0, 0, 0] := at6 t
  blk_ext [h] <;> rfl
theorem place7 (t : Fin cfg0.N) (e : Fin 16) (j : Fin 1024) :
    ((cfg0.win 7).blk t).view.emb (ix2 e j) = (ix2 e j : S16x1024.Idx) := by
  have h : (cfg0.win 7).index t = ![0, 0] := at7 t
  blk_ext [h] <;> rfl
theorem place8 (t : Fin cfg0.N) (r : Fin 512) (k : Fin 1024) :
    ((cfg0.win 8).blk t).view.emb (ix2 r k) = (ix2 (tokenOf t r) k : S8192x1024.Idx) := by
  have h : (cfg0.win 8).index t = ![t.val, 0] := at8 t
  blk_ext [h] <;> rfl
theorem place9 (t : Fin cfg0.N) (r : Fin 512) (k : Fin 1024) :
    ((cfg0.win 9).blk t).view.emb (ix2 r k) = (ix2 (tokenOf t r) k : S8192x1024.Idx) := by
  have h : (cfg0.win 9).index t = ![t.val, 0] := at9 t
  blk_ext [h] <;> rfl
theorem place10 (t : Fin cfg0.N) (p : Fin 4) (e : Fin 16) (l : Fin 128) :
    ((cfg0.win 10).blk t).view.emb (ix3 p e l) = (ix3 (groupOf t p) e l : S64x16x128.Idx) := by
  have h : (cfg0.win 10).index t = ![t.val, 0, 0] := at10 t
  blk_ext [h] <;> rfl

/-! ## The blocks read, as the arguments -/

/-- The blocks of a point, at their own shapes. -/
abbrev bo (c : Dev nD) (t : Fin cfg0.N) : Vec Ideal S512x1024 .bf16 := iblk m c 0 t
@[inherit_doc bo] abbrev bw (c : Dev nD) (t : Fin cfg0.N) : Vec Ideal S1024x1024 .bf16 := iblk m c 1 t
@[inherit_doc bo] abbrev bx (c : Dev nD) (t : Fin cfg0.N) : Vec Ideal S512x1024 .f32 := iblk m c 2 t
@[inherit_doc bo] abbrev bgate (c : Dev nD) (t : Fin cfg0.N) : Vec Ideal S1x1x1024 .f32 := iblk m c 3 t
@[inherit_doc bo] abbrev bg (c : Dev nD) (t : Fin cfg0.N) : Vec Ideal S1x1024 .f32 := iblk m c 4 t
@[inherit_doc bo] abbrev bsh (c : Dev nD) (t : Fin cfg0.N) : Vec Ideal S1x1x1024 .f32 := iblk m c 5 t
@[inherit_doc bo] abbrev bsc (c : Dev nD) (t : Fin cfg0.N) : Vec Ideal S1x1x1024 .f32 := iblk m c 6 t
@[inherit_doc bo] abbrev bwr (c : Dev nD) (t : Fin cfg0.N) : Vec Ideal S16x1024 .bf16 := iblk m c 7 t

theorem bo_apply (c : Dev nD) (t : Fin cfg0.N) (r : Fin 512) (k : Fin 1024) :
    bo m c t (ix2 r k) = m (c.tc.loc main_arg0) (ix3 (tokB (tokenOf t r)) (tokR (tokenOf t r)) k) := by
  show V m c main_v1 (((cfg0.win 0).blk t).view.emb (ix2 r k)) = _
  rw [place0, V3_v1, rows_apply]
theorem bw_apply (c : Dev nD) (t : Fin cfg0.N) (j k : Fin 1024) :
    bw m c t (ix2 j k) = m (c.tc.loc main_arg1) (ix2 j k) := by
  show V m c main_v2 (((cfg0.win 1).blk t).view.emb (ix2 j k)) = _
  rw [place1, V3_v2]
theorem bx_apply (c : Dev nD) (t : Fin cfg0.N) (r : Fin 512) (k : Fin 1024) :
    bx m c t (ix2 r k) = m (c.tc.loc main_arg2) (ix3 (tokB (tokenOf t r)) (tokR (tokenOf t r)) k) := by
  show V m c main_v3 (((cfg0.win 2).blk t).view.emb (ix2 r k)) = _
  rw [place2, V3_v3, rows_apply]
theorem bgate_apply (c : Dev nD) (t : Fin cfg0.N) (k : Fin 1024) :
    bgate m c t (ix3 0 0 k) = m (c.tc.loc main_arg3) (ix1 k) := by
  show V m c main_v4 (((cfg0.win 3).blk t).view.emb (ix3 0 0 k)) = _
  rw [place3, V3_v4, mod_apply]
theorem bg_apply (c : Dev nD) (t : Fin cfg0.N) (k : Fin 1024) :
    bg m c t (ix2 0 k) = m (c.tc.loc main_arg4) (ix1 k) := by
  show V m c main_v9 (((cfg0.win 4).blk t).view.emb (ix2 0 k)) = _
  rw [place4, V3_v9, gain_apply]
theorem bsh_apply (c : Dev nD) (t : Fin cfg0.N) (k : Fin 1024) :
    bsh m c t (ix3 0 0 k) = m (c.tc.loc main_arg5) (ix1 k) := by
  show V m c main_v5 (((cfg0.win 5).blk t).view.emb (ix3 0 0 k)) = _
  rw [place5, V3_v5, mod_apply]
theorem bsc_apply (c : Dev nD) (t : Fin cfg0.N) (k : Fin 1024) :
    bsc m c t (ix3 0 0 k) = m (c.tc.loc main_arg6) (ix1 k) := by
  show V m c main_v6 (((cfg0.win 6).blk t).view.emb (ix3 0 0 k)) = _
  rw [place6, V3_v6, mod_apply]
theorem bwr_apply (c : Dev nD) (t : Fin cfg0.N) (e : Fin 16) (j : Fin 1024) :
    bwr m c t (ix2 e j) = m (c.tc.loc main_arg7) (ix2 j e) := by
  show V m c main_v8 (((cfg0.win 7).blk t).view.emb (ix2 e j)) = _
  rw [place7, V3_v8, turned_apply]

/-- The new row of a block's token is that of the reference's token. -/
theorem blockSum_eq (c : Dev nD) (t : Fin cfg0.N) (r : Fin 512) :
    blockSum (bo m c t) (bw m c t) (bx m c t) (bgate m c t) r
      = Cert.Reference3Ideal.Hand.sumRow (m (c.tc.loc main_arg0)) (m (c.tc.loc main_arg1)) (m (c.tc.loc main_arg2)) (m (c.tc.loc main_arg3)) (tokenOf t r) := by
  unfold blockSum Cert.Reference3Ideal.Hand.sumRow Cert.Reference3Ideal.Hand.tokenRow
  simp only [bo_apply, bw_apply, bx_apply, bgate_apply]

/-- So is its norm. -/
theorem blockNorm_eq (c : Dev nD) (t : Fin cfg0.N) (r : Fin 512) :
    blockNorm (bo m c t) (bw m c t) (bx m c t) (bgate m c t) (bg m c t) (bsh m c t) (bsc m c t) r
      = Cert.Reference3Ideal.Hand.normRow (m (c.tc.loc main_arg0)) (m (c.tc.loc main_arg1)) (m (c.tc.loc main_arg2)) (m (c.tc.loc main_arg3)) (m (c.tc.loc main_arg4)) (m (c.tc.loc main_arg5)) (m (c.tc.loc main_arg6)) (tokenOf t r) := by
  unfold blockNorm Cert.Reference3Ideal.Hand.normRow
  rw [blockSum_eq]
  simp only [bg_apply, bsh_apply, bsc_apply]

/-! ## The result arrays -/

/-- The reference's results of the kernel's arguments. -/
abbrev goalX (c : Dev nD) : FVec Ideal S8192x1024 .f32 :=
  Cert.Reference3Ideal.Hand.sums (m (c.tc.loc main_arg0)) (m (c.tc.loc main_arg1)) (m (c.tc.loc main_arg2)) (m (c.tc.loc main_arg3))
@[inherit_doc goalX] abbrev goalH (c : Dev nD) : FVec Ideal S8192x1024 .f32 :=
  Cert.Reference3Ideal.Hand.norms (m (c.tc.loc main_arg0)) (m (c.tc.loc main_arg1)) (m (c.tc.loc main_arg2)) (m (c.tc.loc main_arg3)) (m (c.tc.loc main_arg4)) (m (c.tc.loc main_arg5)) (m (c.tc.loc main_arg6))
@[inherit_doc goalX] abbrev goalA (c : Dev nD) : FVec Ideal S64x16x128 .f32 :=
  Cert.Reference3Ideal.Hand.affinities (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7))

theorem x_at (c : Dev nD) (t : Fin cfg0.N) (r : Fin 512) (k : Fin 1024) :
    out0_8 (bo m c t) (bw m c t) (bx m c t) (bgate m c t) (bg m c t) (bsh m c t) (bsc m c t) (bwr m c t) (ix2 r k) = goalX m c (ix2 (tokenOf t r) k) := by
  refine Eq.trans ?_ (Cert.Reference3Ideal.Hand.sums_apply _ _ _ _ _ _).symm
  rw [out8_apply, blockSum_eq]
theorem h_at (c : Dev nD) (t : Fin cfg0.N) (r : Fin 512) (k : Fin 1024) :
    out0_9 (bo m c t) (bw m c t) (bx m c t) (bgate m c t) (bg m c t) (bsh m c t) (bsc m c t) (bwr m c t) (ix2 r k) = goalH m c (ix2 (tokenOf t r) k) := by
  refine Eq.trans ?_ (Cert.Reference3Ideal.Hand.norms_apply _ _ _ _ _ _ _ _ _).symm
  rw [out9_apply, blockNorm_eq]
theorem a_at (c : Dev nD) (t : Fin cfg0.N) (p : Fin 4) (e : Fin 16) (l : Fin 128) :
    out0_10 (bo m c t) (bw m c t) (bx m c t) (bgate m c t) (bg m c t) (bsh m c t) (bsc m c t) (bwr m c t) (ix3 p e l) = goalA m c (ix3 (groupOf t p) e l) := by
  refine Eq.trans ?_ (Cert.Reference3Ideal.Hand.affinities_apply _ _ _ _ _ _ _ _ _ _ _).symm
  rw [out10_eq]
  show affinity (blockNorm (bo m c t) (bw m c t) (bx m c t) (bgate m c t) (bg m c t) (bsh m c t) (bsc m c t) ⟨p.val * 128 + l.val, by omega⟩) _ e = _
  rw [blockNorm_eq]
  simp only [bwr_apply]
  refine congrArg (fun n => affinity (Cert.Reference3Ideal.Hand.normRow (m (c.tc.loc main_arg0)) (m (c.tc.loc main_arg1)) (m (c.tc.loc main_arg2)) (m (c.tc.loc main_arg3)) (m (c.tc.loc main_arg4)) (m (c.tc.loc main_arg5)) (m (c.tc.loc main_arg6)) n) _ e) (Fin.ext ?_)
  show t.val * 512 + (p.val * 128 + l.val) = (t.val * 4 + p.val) * 128 + l.val
  omega

theorem flush_8 (t : Fin cfg0.N) : (cfg0.win 8).flush t = true := by
  rw [Window.flush_eq_flushOf]
  revert t
  show ∀ t : Fin grid0.N, Window.flushOf grid0 true cc0_transform_8 t = true
  decide +kernel
theorem flush_9 (t : Fin cfg0.N) : (cfg0.win 9).flush t = true := by
  rw [Window.flush_eq_flushOf]
  revert t
  show ∀ t : Fin grid0.N, Window.flushOf grid0 true cc0_transform_9 t = true
  decide +kernel
theorem flush_10 (t : Fin cfg0.N) : (cfg0.win 10).flush t = true := by
  rw [Window.flush_eq_flushOf]
  revert t
  show ∀ t : Fin grid0.N, Window.flushOf grid0 true cc0_transform_10 t = true
  decide +kernel

theorem tile_index (y : S512x1024.Idx) : ∃ (r : Fin 512) (k : Fin 1024), y = ix2 r k := ⟨y 0, y 1, eq_ix2 y⟩

theorem group_index (y : S4x16x128.Idx) : ∃ (p : Fin 4) (e : Fin 16) (l : Fin 128), y = ix3 p e l := ⟨y 0, y 1, y 2, eq_ix3 y⟩

theorem row_index (i : S8192x1024.Idx) : ∃ (t : Fin grid0.N) (r : Fin 512) (k : Fin 1024), i = ix2 (tokenOf t r) k := by
  have h : (i 0).val < 8192 := (i 0).isLt
  refine ⟨⟨(i 0).val / 512, by show (i 0).val / 512 < 16; omega⟩, ⟨(i 0).val % 512, by omega⟩, i 1, ?_⟩
  funext a
  match a with
  | ⟨0, _⟩ => exact Fin.ext (by show (i 0).val = (i 0).val / 512 * 512 + (i 0).val % 512; omega)
  | ⟨1, _⟩ => rfl

theorem lane_index (i : S64x16x128.Idx) : ∃ (t : Fin grid0.N) (p : Fin 4) (e : Fin 16) (l : Fin 128), i = ix3 (groupOf t p) e l := by
  have h : (i 0).val < 64 := (i 0).isLt
  refine ⟨⟨(i 0).val / 4, by show (i 0).val / 4 < 16; omega⟩, ⟨(i 0).val % 4, by omega⟩, i 1, i 2, ?_⟩
  funext a
  match a with
  | ⟨0, _⟩ => exact Fin.ext (by show (i 0).val = (i 0).val / 4 * 4 + (i 0).val % 4; omega)
  | ⟨1, _⟩ => rfl
  | ⟨2, _⟩ => rfl

theorem arr8_eq (c : Dev nD) : (dats m 0 c).arrAt 8 cfg0.N = goalX m c := by
  refine (dats m 0 c).arrAt_eq_of_cover 8 (goalX m c) (fun t _ => ?_) fun i => ?_
  · rw [Value.flushed8]
    funext y
    obtain ⟨r, k, rfl⟩ := tile_index y
    refine Eq.trans (b := goalX m c (((cfg0.win 8).blk t).view.emb (ix2 r k))) ?_ rfl
    rw [place8, ← x_at]
    rfl
  · obtain ⟨t, r, k, rfl⟩ := row_index i
    refine ⟨t, flush_8 t, ?_⟩
    have := ((cfg0.win 8).blk t).view.emb_mem_set (ix2 r k)
    rw [place8] at this
    exact this
theorem arr9_eq (c : Dev nD) : (dats m 0 c).arrAt 9 cfg0.N = goalH m c := by
  refine (dats m 0 c).arrAt_eq_of_cover 9 (goalH m c) (fun t _ => ?_) fun i => ?_
  · rw [Value.flushed9]
    funext y
    obtain ⟨r, k, rfl⟩ := tile_index y
    refine Eq.trans (b := goalH m c (((cfg0.win 9).blk t).view.emb (ix2 r k))) ?_ rfl
    rw [place9, ← h_at]
    rfl
  · obtain ⟨t, r, k, rfl⟩ := row_index i
    refine ⟨t, flush_9 t, ?_⟩
    have := ((cfg0.win 9).blk t).view.emb_mem_set (ix2 r k)
    rw [place9] at this
    exact this
theorem arr10_eq (c : Dev nD) : (dats m 0 c).arrAt 10 cfg0.N = goalA m c := by
  refine (dats m 0 c).arrAt_eq_of_cover 10 (goalA m c) (fun t _ => ?_) fun i => ?_
  · rw [Value.flushed10]
    funext y
    obtain ⟨p, e, l, rfl⟩ := group_index y
    refine Eq.trans (b := goalA m c (((cfg0.win 10).blk t).view.emb (ix3 p e l))) ?_ rfl
    rw [place10, ← a_at]
    rfl
  · obtain ⟨t, p, e, l, rfl⟩ := lane_index i
    refine ⟨t, flush_10 t, ?_⟩
    have := ((cfg0.win 10).blk t).view.emb_mem_set (ix3 p e l)
    rw [place10] at this
    exact this

/-- The kernel's run: the three result arrays are the reference's, the arguments end unchanged. -/
theorem run_values (ρ : Dev nD → PrngReg) : θ_run defs (onTc (τ := τ) (main (F := Ideal))) ⟨m, fun _ => 0, ρ⟩ (fun r => ∀ c : Dev nD,
      r.2.mem (c.tc.loc main_v10_0) = goalX m c
      ∧ r.2.mem (c.tc.loc main_v10_1) = goalH m c
      ∧ r.2.mem (c.tc.loc main_v10_2) = goalA m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)) :=
  (θ_run defs _ _).mono (fun r h c =>
    ⟨(h c).1.trans (arr8_eq m c), (h c).2.1.trans (arr9_eq m c), (h c).2.2.1.trans (arr10_eq m c), (h c).2.2.2⟩)
    (Value.run_blocks m ρ)

end Cert.Kernel3Ideal.Hand

end
-- ==== Proof.lean ====
/- The proof of the certificate's claims: the kernel's and the reference's frames, and their values equal at the ideal numbers. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Frame
public import proofs.«01_k».proof.Proof.Same
public import proofs.«01_k».proof.Proof.Value
public import proofs.«01_k».proof.Proof.QkvValue
public import proofs.«01_k».proof.Proof.MixValue
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel's frame on the ideal numbers. -/
theorem frame_ideal : Cert.quiescent_KernelIdeal := fun m ρ h =>
  Cert.KernelIdeal.Hand.frame (F := Ideal) m ρ fun c i => Cert.KernelIdeal.Hand.rows_ok (h c) i

/-- The reference's frame: host operations alone, no counter in the machine. -/
theorem frame_reference : Cert.quiescent_ReferenceIdeal := fun m ρ _ =>
  (θ_run Cert.ReferenceIdeal.defs _ _).mono (fun r h => ⟨fun c => (h c).2, sem_eq_zero_of_no_sems (by decide) _⟩)
    (Cert.ReferenceIdeal.Value.run (F := Ideal) m ρ)

/-- On the ideal numbers the kernel's result is the reference's. -/
theorem values : Cert.algebraic_KernelIdeal_ReferenceIdeal := fun m g m' g' hp hm =>
  ⟨fun c => Cert.KernelIdeal.Hand.goal m c,
    Cert.KernelIdeal.Hand.run_values m (fun c i => Cert.KernelIdeal.Hand.rows_ok (hp c) i) g,
    (θ_run Cert.ReferenceIdeal.defs _ _).mono (fun r h c => ⟨(h c).1.trans (by
        obtain ⟨h0, h1, h2, h3, h4, h5, h6⟩ := hm c
        rw [Cert.ReferenceIdeal.Hand.res_eq, h0, h1, h2, h3, h4, h5, h6]), (h c).2⟩)
      (Cert.ReferenceIdeal.Value.run (F := Ideal) m' g')⟩

/-! The projection to queries, keys and values. -/

/-- Its frame on the machine's floats. -/
theorem frame_kernel2 : Cert.quiescent_Kernel2 := fun m ρ _ => Cert.Kernel2.Gen.frame m ρ

/-- Its frame on the ideal numbers. -/
theorem frame_ideal2 : Cert.quiescent_Kernel2Ideal := fun m ρ _ => Cert.Kernel2Ideal.Gen.frame m ρ

/-- Its reference's frame. -/
theorem frame_reference2 : Cert.quiescent_Reference2Ideal := fun m ρ _ =>
  (θ_run Cert.Reference2Ideal.defs _ _).mono (fun r h => ⟨fun c => (h c).2.2.2, sem_eq_zero_of_no_sems (by decide) _⟩)
    (Cert.Reference2Ideal.Value.run (F := Ideal) m ρ)

/-- On the ideal numbers its three results are the reference's. -/
theorem values2 : Cert.algebraic_Kernel2Ideal_Reference2Ideal := fun m g m' g' _ hm =>
  ⟨fun c => Cert.Kernel2Ideal.Hand.goalQ m c, fun c => Cert.Kernel2Ideal.Hand.goalK m c, fun c => Cert.Kernel2Ideal.Hand.goalV m c,
    Cert.Kernel2Ideal.Hand.run_values m g,
    (θ_run Cert.Reference2Ideal.defs _ _).mono (fun r h c => by
        obtain ⟨h0, h1, h2, h3, h4⟩ := hm c
        refine ⟨(h c).1.trans ?_, (h c).2.1.trans ?_, (h c).2.2.1.trans ?_, (h c).2.2.2⟩
        · rw [h0, h1, h2, h3, h4]; rfl
        · rw [h0, h1, h2, h3, h4]; rfl
        · rw [h0, h1, h2, h3, h4]; rfl)
      (Cert.Reference2Ideal.Value.run (F := Ideal) m' g')⟩

/-! The output projection, the second norm and the routing's affinities. -/

/-- Its frame on the machine's floats. -/
theorem frame_kernel3 : Cert.quiescent_Kernel3 := fun m ρ _ => Cert.Kernel3.Gen.frame m ρ

/-- Its frame on the ideal numbers. -/
theorem frame_ideal3 : Cert.quiescent_Kernel3Ideal := fun m ρ _ => Cert.Kernel3Ideal.Gen.frame m ρ

/-- Its reference's frame. -/
theorem frame_reference3 : Cert.quiescent_Reference3Ideal := fun m ρ _ =>
  (θ_run Cert.Reference3Ideal.defs _ _).mono (fun r h => ⟨fun c => (h c).2.2.2, sem_eq_zero_of_no_sems (by decide) _⟩)
    (Cert.Reference3Ideal.Value.run (F := Ideal) m ρ)

/-- On the ideal numbers its three results are the reference's. -/
theorem values3 : Cert.algebraic_Kernel3Ideal_Reference3Ideal := fun m g m' g' _ hm =>
  ⟨fun c => Cert.Kernel3Ideal.Hand.goalX m c, fun c => Cert.Kernel3Ideal.Hand.goalH m c, fun c => Cert.Kernel3Ideal.Hand.goalA m c,
    Cert.Kernel3Ideal.Hand.run_values m g,
    (θ_run Cert.Reference3Ideal.defs _ _).mono (fun r h c => by
        obtain ⟨h0, h1, h2, h3, h4, h5, h6, h7⟩ := hm c
        refine ⟨(h c).1.trans ?_, (h c).2.1.trans ?_, (h c).2.2.1.trans ?_, (h c).2.2.2⟩
        · rw [h0, h1, h2, h3]; rfl
        · rw [h0, h1, h2, h3, h4, h5, h6]; rfl
        · unfold Cert.Reference3Ideal.Value.res_main_v41
          rw [h0, h1, h2, h3, h4, h5, h6, h7]; rfl)
      (Cert.Reference3Ideal.Value.run (F := Ideal) m' g')⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_in_range.Gen.facts,
    frame_kernel, frame_ideal, frame_reference, fun m ρ _ => frame_reference m ρ trivial, frame_kernel2, frame_ideal2, frame_reference2,
    frame_kernel3, frame_ideal3, frame_reference3, trivial, values, trivial, values2, trivial, values3⟩

end Cert.Proof

end
